-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_near_even_grids [hPre_finite_near_even_grids : Cert.Pre_finite_near_even_grids.Facts] (m : (ℓ : Loc Cert.KernelIdeal.nD Cert.KernelIdeal.τ Cert.KernelIdeal.sig) → Buf (Elt Ideal) ℓ) : Prop :=
  ∀ c : Dev Cert.KernelIdeal.nD,
    (Cert.Pre_finite_near_even_grids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_near_even_grids [hPre_finite_near_even_grids : Cert.Pre_finite_near_even_grids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_near_even_grids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_near_even_grids [hKernelIdeal : Cert.KernelIdeal.Facts] [hPre_finite_near_even_grids : Cert.Pre_finite_near_even_grids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_near_even_grids m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_near_even_grids [hReferenceIdeal : Cert.ReferenceIdeal.Facts] [hPre_finite_near_even_grids : Cert.Pre_finite_near_even_grids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_near_even_grids m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_near_even_grids [hKernelIdeal : Cert.KernelIdeal.Facts] [hReferenceIdeal : Cert.ReferenceIdeal.Facts] [hPre_finite_near_even_grids : Cert.Pre_finite_near_even_grids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_near_even_grids m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_near_even_grids : Cert.Pre_finite_near_even_grids.Facts),
    quiescent_Kernel (hKernel := hKernel)
    ∧ quiescent_KernelIdeal (hKernelIdeal := hKernelIdeal)
    ∧ quiescent_KernelIdeal_pre_finite_near_even_grids (hKernelIdeal := hKernelIdeal) (hPre_finite_near_even_grids := hPre_finite_near_even_grids)
    ∧ quiescent_ReferenceIdeal (hReferenceIdeal := hReferenceIdeal)
    ∧ quiescent_ReferenceIdeal_pre_finite_near_even_grids (hReferenceIdeal := hReferenceIdeal) (hPre_finite_near_even_grids := hPre_finite_near_even_grids)
    ∧ preserves_Kernel_KernelIdeal
    ∧ algebraic_KernelIdeal_ReferenceIdeal_pre_finite_near_even_grids (hKernelIdeal := hKernelIdeal) (hReferenceIdeal := hReferenceIdeal) (hPre_finite_near_even_grids := hPre_finite_near_even_grids)
-- ==== Pre_finite_near_even_grids.lean ====
abbrev S16384 : Shape := ⟨1, ![16384]⟩
abbrev S256 : Shape := ⟨1, ![256]⟩
abbrev S128 : Shape := ⟨1, ![128]⟩
abbrev S256x128x128 : Shape := ⟨3, ![256, 128, 128]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S256 : S_.BroadcastsInDim S256 (![] : Fin 0 → Fin S256.rank)
  reducesTo_S256_S_d0 : S256.ReducesTo [0] S_
  bcast_S_S128 : S_.BroadcastsInDim S128 (![] : Fin 0 → Fin S128.rank)
  reducesTo_S128_S_d0 : S128.ReducesTo [0] S_

variable [Facts]

def fn_part2 {F : FTy → Type} [FloatOps F] (main_arg5 : FVec F S128 .f32) (main_v13 : IVec S_ 1) (main_v24 : IVec S_ 1) (main_v34 : IVec S128 1) : IVec S_ 1 :=
  let main_c_11 : IVec S_ 1 := constantI S_ 1 1#1
  let main_v35 : IVec S_ 1 := (fun x v => Host.reduce IntOp.andi x v reducesTo_S128_S_d0 h_S_) main_v34 main_c_11
  let main_v36 : IVec S_ 1 := andi main_v24 main_v35
  let main_v37 : IVec S128 32 := iotaInDim S128 32 0
  let main_v38 : FVec F S128 .f32 := sitofp .f32 main_v37
  let main_cst_12 : FVec F S_ .f32 := constant S_ .f32 0x47C35000#32
  let main_v39 : FVec F S128 .f32 := broadcastInDim S128 ![] bcast_S_S128 main_cst_12
  let main_v40 : FVec F S128 .f32 := subf main_arg5 main_v39
  let main_cst_13 : FVec F S_ .f32 := constant S_ .f32 0x36CBE536#32
  let main_v41 : FVec F S128 .f32 := broadcastInDim S128 ![] bcast_S_S128 main_cst_13
  let main_v42 : FVec F S128 .f32 := mulf main_v40 main_v41
  let main_v43 : FVec F S128 .f32 := subf main_v42 main_v38
  let main_v44 : FVec F S128 .f32 := Host.absf main_v43
  let main_cst_14 : FVec F S_ .f32 := constant S_ .f32 0x3F000000#32
  let main_v45 : FVec F S128 .f32 := broadcastInDim S128 ![] bcast_S_S128 main_cst_14
  let main_v46 : IVec S128 1 := cmpf .olt main_v44 main_v45
  let main_c_15 : IVec S_ 1 := constantI S_ 1 1#1
  let main_v47 : IVec S_ 1 := (fun x v => Host.reduce IntOp.andi x v reducesTo_S128_S_d0 h_S_) main_v46 main_c_15
  let main_v48 : IVec S_ 1 := andi main_v36 main_v47
  let main_v49 : IVec S_ 1 := andi main_v13 main_v48
  main_v49

def fn_part1 {F : FTy → Type} [FloatOps F] (main_arg3 : FVec F S256 .f32) (main_arg4 : FVec F S128 .f32) (main_arg5 : FVec F S128 .f32) (main_v13 : IVec S_ 1) (main_v15 : FVec F S256 .f32) (main_v16 : FVec F S256 .f32) : IVec S_ 1 :=
  let main_v17 : FVec F S256 .f32 := subf main_arg3 main_v16
  let main_cst_5 : FVec F S_ .f32 := constant S_ .f32 0x3D028F5C#32
  let main_v18 : FVec F S256 .f32 := broadcastInDim S256 ![] bcast_S_S256 main_cst_5
  let main_v19 : FVec F S256 .f32 := mulf main_v17 main_v18
  let main_v20 : FVec F S256 .f32 := subf main_v19 main_v15
  let main_v21 : FVec F S256 .f32 := Host.absf main_v20
  let main_cst_6 : FVec F S_ .f32 := constant S_ .f32 0x3F000000#32
  let main_v22 : FVec F S256 .f32 := broadcastInDim S256 ![] bcast_S_S256 main_cst_6
  let main_v23 : IVec S256 1 := cmpf .olt main_v21 main_v22
  let main_c_7 : IVec S_ 1 := constantI S_ 1 1#1
  let main_v24 : IVec S_ 1 := (fun x v => Host.reduce IntOp.andi x v reducesTo_S256_S_d0 h_S_) main_v23 main_c_7
  let main_v25 : IVec S128 32 := iotaInDim S128 32 0
  let main_v26 : FVec F S128 .f32 := sitofp .f32 main_v25
  let main_cst_8 : FVec F S_ .f32 := constant S_ .f32 0xBF000000#32
  let main_v27 : FVec F S128 .f32 := broadcastInDim S128 ![] bcast_S_S128 main_cst_8
  let main_v28 : FVec F S128 .f32 := subf main_arg4 main_v27
  let main_cst_9 : FVec F S_ .f32 := constant S_ .f32 0x42A95555#32
  let main_v29 : FVec F S128 .f32 := broadcastInDim S128 ![] bcast_S_S128 main_cst_9
  let main_v30 : FVec F S128 .f32 := mulf main_v28 main_v29
  let main_v31 : FVec F S128 .f32 := subf main_v30 main_v26
  let main_v32 : FVec F S128 .f32 := Host.absf main_v31
  let main_cst_10 : FVec F S_ .f32 := constant S_ .f32 0x3F000000#32
  let main_v33 : FVec F S128 .f32 := broadcastInDim S128 ![] bcast_S_S128 main_cst_10
  let main_v34 : IVec S128 1 := cmpf .olt main_v32 main_v33
  fn_part2 (F := F) main_arg5 main_v13 main_v24 main_v34

def fn {F : FTy → Type} [FloatOps F] (main_arg0 : FVec F S16384 .f32) (main_arg1 : FVec F S16384 .f32) (main_arg2 : FVec F S16384 .f32) (main_arg3 : FVec F S256 .f32) (main_arg4 : FVec F S128 .f32) (main_arg5 : FVec F S128 .f32) (main_arg6 : FVec F S256x128x128 .f32) : IVec S_ 1 :=
  let main_v0 : FVec F S16384 .f32 := Host.absf main_arg0
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S16384 .f32 := Host.absf main_arg1
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : IVec S256 32 := iotaInDim S256 32 0
  let main_v15 : FVec F S256 .f32 := sitofp .f32 main_v14
  let main_cst_4 : FVec F S_ .f32 := constant S_ .f32 0x00000000#32
  let main_v16 : FVec F S256 .f32 := broadcastInDim S256 ![] bcast_S_S256 main_cst_4
  fn_part1 (F := F) main_arg3 main_arg4 main_arg5 main_v13 main_v15 main_v16
-- ==== Kernel.lean ====
abbrev S16384 : Shape := ⟨1, ![16384]⟩
abbrev S256 : Shape := ⟨1, ![256]⟩
abbrev S128 : Shape := ⟨1, ![128]⟩
abbrev S256x128x128 : Shape := ⟨3, ![256, 128, 128]⟩
abbrev S4194304 : Shape := ⟨1, ![4194304]⟩
abbrev S512 : Shape := ⟨1, ![512]⟩
abbrev S4x128 : Shape := ⟨2, ![4, 128]⟩
abbrev S4 : Shape := ⟨1, ![4]⟩
abbrev S_ : Shape := ⟨0, ![]⟩
abbrev S16 : Shape := ⟨1, ![16]⟩
abbrev S1x16 : Shape := ⟨2, ![1, 16]⟩
abbrev S1x128 : Shape := ⟨2, ![1, 128]⟩
abbrev S1 : Shape := ⟨1, ![1]⟩

abbrev nBuf : Table → Nat
  | .hbm => 9
  | .local .scVector .vmem => 8
  | _ => 0

abbrev bufTy : (tb : Table) → Fin (nBuf tb) → BufTy
  | .hbm, ⟨0, _⟩ => ⟨S16384, .f32⟩
  | .hbm, ⟨1, _⟩ => ⟨S16384, .f32⟩
  | .hbm, ⟨2, _⟩ => ⟨S16384, .f32⟩
  | .hbm, ⟨3, _⟩ => ⟨S256, .f32⟩
  | .hbm, ⟨4, _⟩ => ⟨S128, .f32⟩
  | .hbm, ⟨5, _⟩ => ⟨S128, .f32⟩
  | .hbm, ⟨6, _⟩ => ⟨S256x128x128, .f32⟩
  | .hbm, ⟨7, _⟩ => ⟨S4194304, .f32⟩
  | .hbm, ⟨8, _⟩ => ⟨S16384, .f32⟩
  | .local .scVector .vmem, ⟨0, _⟩ => ⟨S512, .f32⟩
  | .local .scVector .vmem, ⟨1, _⟩ => ⟨S512, .f32⟩
  | .local .scVector .vmem, ⟨2, _⟩ => ⟨S512, .f32⟩
  | .local .scVector .vmem, ⟨3, _⟩ => ⟨S256, .f32⟩
  | .local .scVector .vmem, ⟨4, _⟩ => ⟨S128, .f32⟩
  | .local .scVector .vmem, ⟨5, _⟩ => ⟨S128, .f32⟩
  | .local .scVector .vmem, ⟨6, _⟩ => ⟨S4x128, .i32⟩
  | .local .scVector .vmem, ⟨7, _⟩ => ⟨S512, .f32⟩
  | _, _ => ⟨S16384, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_arg5_scv : Ref sig .scVector := ⟨.hbm, 5, rfl⟩
abbrev main_v0_scv : Ref sig .scVector := ⟨.hbm, 7, rfl⟩
abbrev main_v1_scv : Ref sig .scVector := ⟨.hbm, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]

def k0_chk1 (v18 : IVec S16 32) : Prop :=
  (∀ a x, ((![v18] : Fin 1 → IVec S16 32) a x).toNat < S256.size a)
theorem k0_idx1_inb : ∀ (v18 : IVec S16 32) (k0_hw1 : k0_chk1 v18), ∀ a x, ((![v18] : Fin 1 → IVec S16 32) a x).toNat < S256.size a := fun v18 k0_hw1 => k0_hw1

def k0_chk2 (v14 : IVec S16 32) : Prop :=
  (∀ a x, ((![v14] : Fin 1 → IVec S16 32) a x).toNat < S256.size a)
theorem k0_idx2_inb : ∀ (v14 : IVec S16 32) (k0_hw2 : k0_chk2 v14), ∀ a x, ((![v14] : Fin 1 → IVec S16 32) a x).toNat < S256.size a := fun v14 k0_hw2 => k0_hw2

def k0_chk3 (v22 : IVec S16 32) : Prop :=
  (∀ a x, ((![v22] : Fin 1 → IVec S16 32) a x).toNat < S256.size a)
theorem k0_idx3_inb : ∀ (v22 : IVec S16 32) (k0_hw3 : k0_chk3 v22), ∀ a x, ((![v22] : Fin 1 → IVec S16 32) a x).toNat < S256.size a := fun v22 k0_hw3 => k0_hw3

def k0_chk4 (v52 : IVec S16 32) : Prop :=
  (∀ a x, ((![v52] : Fin 1 → IVec S16 32) a x).toNat < S128.size a)
theorem k0_idx4_inb : ∀ (v52 : IVec S16 32) (k0_hw4 : k0_chk4 v52), ∀ a x, ((![v52] : Fin 1 → IVec S16 32) a x).toNat < S128.size a := fun v52 k0_hw4 => k0_hw4

def k0_chk5 (v48 : IVec S16 32) : Prop :=
  (∀ a x, ((![v48] : Fin 1 → IVec S16 32) a x).toNat < S128.size a)
theorem k0_idx5_inb : ∀ (v48 : IVec S16 32) (k0_hw5 : k0_chk5 v48), ∀ a x, ((![v48] : Fin 1 → IVec S16 32) a x).toNat < S128.size a := fun v48 k0_hw5 => k0_hw5

def k0_chk6 (v56 : IVec S16 32) : Prop :=
  (∀ a x, ((![v56] : Fin 1 → IVec S16 32) a x).toNat < S128.size a)
theorem k0_idx6_inb : ∀ (v56 : IVec S16 32) (k0_hw6 : k0_chk6 v56), ∀ a x, ((![v56] : Fin 1 → IVec S16 32) a x).toNat < S128.size a := fun v56 k0_hw6 => k0_hw6

def k0_chk7 (v88 : IVec S16 32) : Prop :=
  (∀ a x, ((![v88] : Fin 1 → IVec S16 32) a x).toNat < S128.size a)
theorem k0_idx7_inb : ∀ (v88 : IVec S16 32) (k0_hw7 : k0_chk7 v88), ∀ a x, ((![v88] : Fin 1 → IVec S16 32) a x).toNat < S128.size a := fun v88 k0_hw7 => k0_hw7

def k0_chk8 (v84 : IVec S16 32) : Prop :=
  (∀ a x, ((![v84] : Fin 1 → IVec S16 32) a x).toNat < S128.size a)
theorem k0_idx8_inb : ∀ (v84 : IVec S16 32) (k0_hw8 : k0_chk8 v84), ∀ a x, ((![v84] : Fin 1 → IVec S16 32) a x).toNat < S128.size a := fun v84 k0_hw8 => k0_hw8

def k0_chk9 (v92 : IVec S16 32) : Prop :=
  (∀ a x, ((![v92] : Fin 1 → IVec S16 32) a x).toNat < S128.size a)
theorem k0_idx9_inb : ∀ (v92 : IVec S16 32) (k0_hw9 : k0_chk9 v92), ∀ a x, ((![v92] : Fin 1 → IVec S16 32) a x).toNat < S128.size a := fun v92 k0_hw9 => k0_hw9

def k0_chk10 (v130 : IVec S16 32) : Prop :=
  (∀ a x, ((![v130] : Fin 1 → IVec S16 32) a x).toNat < S256.size a)
theorem k0_idx10_inb : ∀ (v130 : IVec S16 32) (k0_hw10 : k0_chk10 v130), ∀ a x, ((![v130] : Fin 1 → IVec S16 32) a x).toNat < S256.size a := fun v130 k0_hw10 => k0_hw10

def k0_chk11 (v126 : IVec S16 32) : Prop :=
  (∀ a x, ((![v126] : Fin 1 → IVec S16 32) a x).toNat < S256.size a)
theorem k0_idx11_inb : ∀ (v126 : IVec S16 32) (k0_hw11 : k0_chk11 v126), ∀ a x, ((![v126] : Fin 1 → IVec S16 32) a x).toNat < S256.size a := fun v126 k0_hw11 => k0_hw11

def k0_chk12 (v134 : IVec S16 32) : Prop :=
  (∀ a x, ((![v134] : Fin 1 → IVec S16 32) a x).toNat < S256.size a)
theorem k0_idx12_inb : ∀ (v134 : IVec S16 32) (k0_hw12 : k0_chk12 v134), ∀ a x, ((![v134] : Fin 1 → IVec S16 32) a x).toNat < S256.size a := fun v134 k0_hw12 => k0_hw12

def k0_chk13 (v164 : IVec S16 32) : Prop :=
  (∀ a x, ((![v164] : Fin 1 → IVec S16 32) a x).toNat < S128.size a)
theorem k0_idx13_inb : ∀ (v164 : IVec S16 32) (k0_hw13 : k0_chk13 v164), ∀ a x, ((![v164] : Fin 1 → IVec S16 32) a x).toNat < S128.size a := fun v164 k0_hw13 => k0_hw13

def k0_chk14 (v160 : IVec S16 32) : Prop :=
  (∀ a x, ((![v160] : Fin 1 → IVec S16 32) a x).toNat < S128.size a)
theorem k0_idx14_inb : ∀ (v160 : IVec S16 32) (k0_hw14 : k0_chk14 v160), ∀ a x, ((![v160] : Fin 1 → IVec S16 32) a x).toNat < S128.size a := fun v160 k0_hw14 => k0_hw14

def k0_chk15 (v168 : IVec S16 32) : Prop :=
  (∀ a x, ((![v168] : Fin 1 → IVec S16 32) a x).toNat < S128.size a)
theorem k0_idx15_inb : ∀ (v168 : IVec S16 32) (k0_hw15 : k0_chk15 v168), ∀ a x, ((![v168] : Fin 1 → IVec S16 32) a x).toNat < S128.size a := fun v168 k0_hw15 => k0_hw15

def k0_chk16 (v200 : IVec S16 32) : Prop :=
  (∀ a x, ((![v200] : Fin 1 → IVec S16 32) a x).toNat < S128.size a)
theorem k0_idx16_inb : ∀ (v200 : IVec S16 32) (k0_hw16 : k0_chk16 v200), ∀ a x, ((![v200] : Fin 1 → IVec S16 32) a x).toNat < S128.size a := fun v200 k0_hw16 => k0_hw16

def k0_chk17 (v196 : IVec S16 32) : Prop :=
  (∀ a x, ((![v196] : Fin 1 → IVec S16 32) a x).toNat < S128.size a)
theorem k0_idx17_inb : ∀ (v196 : IVec S16 32) (k0_hw17 : k0_chk17 v196), ∀ a x, ((![v196] : Fin 1 → IVec S16 32) a x).toNat < S128.size a := fun v196 k0_hw17 => k0_hw17

def k0_chk18 (v204 : IVec S16 32) : Prop :=
  (∀ a x, ((![v204] : Fin 1 → IVec S16 32) a x).toNat < S128.size a)
theorem k0_idx18_inb : ∀ (v204 : IVec S16 32) (k0_hw18 : k0_chk18 v204), ∀ a x, ((![v204] : Fin 1 → IVec S16 32) a x).toNat < S128.size a := fun v204 k0_hw18 => k0_hw18

def k0_chk19 (v242 : IVec S16 32) : Prop :=
  (∀ a x, ((![v242] : Fin 1 → IVec S16 32) a x).toNat < S256.size a)
theorem k0_idx19_inb : ∀ (v242 : IVec S16 32) (k0_hw19 : k0_chk19 v242), ∀ a x, ((![v242] : Fin 1 → IVec S16 32) a x).toNat < S256.size a := fun v242 k0_hw19 => k0_hw19

def k0_chk20 (v238 : IVec S16 32) : Prop :=
  (∀ a x, ((![v238] : Fin 1 → IVec S16 32) a x).toNat < S256.size a)
theorem k0_idx20_inb : ∀ (v238 : IVec S16 32) (k0_hw20 : k0_chk20 v238), ∀ a x, ((![v238] : Fin 1 → IVec S16 32) a x).toNat < S256.size a := fun v238 k0_hw20 => k0_hw20

def k0_chk21 (v246 : IVec S16 32) : Prop :=
  (∀ a x, ((![v246] : Fin 1 → IVec S16 32) a x).toNat < S256.size a)
theorem k0_idx21_inb : ∀ (v246 : IVec S16 32) (k0_hw21 : k0_chk21 v246), ∀ a x, ((![v246] : Fin 1 → IVec S16 32) a x).toNat < S256.size a := fun v246 k0_hw21 => k0_hw21

def k0_chk22 (v276 : IVec S16 32) : Prop :=
  (∀ a x, ((![v276] : Fin 1 → IVec S16 32) a x).toNat < S128.size a)
theorem k0_idx22_inb : ∀ (v276 : IVec S16 32) (k0_hw22 : k0_chk22 v276), ∀ a x, ((![v276] : Fin 1 → IVec S16 32) a x).toNat < S128.size a := fun v276 k0_hw22 => k0_hw22

def k0_chk23 (v272 : IVec S16 32) : Prop :=
  (∀ a x, ((![v272] : Fin 1 → IVec S16 32) a x).toNat < S128.size a)
theorem k0_idx23_inb : ∀ (v272 : IVec S16 32) (k0_hw23 : k0_chk23 v272), ∀ a x, ((![v272] : Fin 1 → IVec S16 32) a x).toNat < S128.size a := fun v272 k0_hw23 => k0_hw23

def k0_chk24 (v280 : IVec S16 32) : Prop :=
  (∀ a x, ((![v280] : Fin 1 → IVec S16 32) a x).toNat < S128.size a)
theorem k0_idx24_inb : ∀ (v280 : IVec S16 32) (k0_hw24 : k0_chk24 v280), ∀ a x, ((![v280] : Fin 1 → IVec S16 32) a x).toNat < S128.size a := fun v280 k0_hw24 => k0_hw24

def k0_chk25 (v312 : IVec S16 32) : Prop :=
  (∀ a x, ((![v312] : Fin 1 → IVec S16 32) a x).toNat < S128.size a)
theorem k0_idx25_inb : ∀ (v312 : IVec S16 32) (k0_hw25 : k0_chk25 v312), ∀ a x, ((![v312] : Fin 1 → IVec S16 32) a x).toNat < S128.size a := fun v312 k0_hw25 => k0_hw25

def k0_chk26 (v308 : IVec S16 32) : Prop :=
  (∀ a x, ((![v308] : Fin 1 → IVec S16 32) a x).toNat < S128.size a)
theorem k0_idx26_inb : ∀ (v308 : IVec S16 32) (k0_hw26 : k0_chk26 v308), ∀ a x, ((![v308] : Fin 1 → IVec S16 32) a x).toNat < S128.size a := fun v308 k0_hw26 => k0_hw26

def k0_chk27 (v316 : IVec S16 32) : Prop :=
  (∀ a x, ((![v316] : Fin 1 → IVec S16 32) a x).toNat < S128.size a)
theorem k0_idx27_inb : ∀ (v316 : IVec S16 32) (k0_hw27 : k0_chk27 v316), ∀ a x, ((![v316] : Fin 1 → IVec S16 32) a x).toNat < S128.size a := fun v316 k0_hw27 => k0_hw27

def k0_chk28 (v354 : IVec S16 32) : Prop :=
  (∀ a x, ((![v354] : Fin 1 → IVec S16 32) a x).toNat < S256.size a)
theorem k0_idx28_inb : ∀ (v354 : IVec S16 32) (k0_hw28 : k0_chk28 v354), ∀ a x, ((![v354] : Fin 1 → IVec S16 32) a x).toNat < S256.size a := fun v354 k0_hw28 => k0_hw28

def k0_chk29 (v350 : IVec S16 32) : Prop :=
  (∀ a x, ((![v350] : Fin 1 → IVec S16 32) a x).toNat < S256.size a)
theorem k0_idx29_inb : ∀ (v350 : IVec S16 32) (k0_hw29 : k0_chk29 v350), ∀ a x, ((![v350] : Fin 1 → IVec S16 32) a x).toNat < S256.size a := fun v350 k0_hw29 => k0_hw29

def k0_chk30 (v358 : IVec S16 32) : Prop :=
  (∀ a x, ((![v358] : Fin 1 → IVec S16 32) a x).toNat < S256.size a)
theorem k0_idx30_inb : ∀ (v358 : IVec S16 32) (k0_hw30 : k0_chk30 v358), ∀ a x, ((![v358] : Fin 1 → IVec S16 32) a x).toNat < S256.size a := fun v358 k0_hw30 => k0_hw30

def k0_chk31 (v388 : IVec S16 32) : Prop :=
  (∀ a x, ((![v388] : Fin 1 → IVec S16 32) a x).toNat < S128.size a)
theorem k0_idx31_inb : ∀ (v388 : IVec S16 32) (k0_hw31 : k0_chk31 v388), ∀ a x, ((![v388] : Fin 1 → IVec S16 32) a x).toNat < S128.size a := fun v388 k0_hw31 => k0_hw31

def k0_chk32 (v384 : IVec S16 32) : Prop :=
  (∀ a x, ((![v384] : Fin 1 → IVec S16 32) a x).toNat < S128.size a)
theorem k0_idx32_inb : ∀ (v384 : IVec S16 32) (k0_hw32 : k0_chk32 v384), ∀ a x, ((![v384] : Fin 1 → IVec S16 32) a x).toNat < S128.size a := fun v384 k0_hw32 => k0_hw32

def k0_chk33 (v392 : IVec S16 32) : Prop :=
  (∀ a x, ((![v392] : Fin 1 → IVec S16 32) a x).toNat < S128.size a)
theorem k0_idx33_inb : ∀ (v392 : IVec S16 32) (k0_hw33 : k0_chk33 v392), ∀ a x, ((![v392] : Fin 1 → IVec S16 32) a x).toNat < S128.size a := fun v392 k0_hw33 => k0_hw33

def k0_chk34 (v424 : IVec S16 32) : Prop :=
  (∀ a x, ((![v424] : Fin 1 → IVec S16 32) a x).toNat < S128.size a)
theorem k0_idx34_inb : ∀ (v424 : IVec S16 32) (k0_hw34 : k0_chk34 v424), ∀ a x, ((![v424] : Fin 1 → IVec S16 32) a x).toNat < S128.size a := fun v424 k0_hw34 => k0_hw34

def k0_chk35 (v420 : IVec S16 32) : Prop :=
  (∀ a x, ((![v420] : Fin 1 → IVec S16 32) a x).toNat < S128.size a)
theorem k0_idx35_inb : ∀ (v420 : IVec S16 32) (k0_hw35 : k0_chk35 v420), ∀ a x, ((![v420] : Fin 1 → IVec S16 32) a x).toNat < S128.size a := fun v420 k0_hw35 => k0_hw35

def k0_chk36 (v428 : IVec S16 32) : Prop :=
  (∀ a x, ((![v428] : Fin 1 → IVec S16 32) a x).toNat < S128.size a)
theorem k0_idx36_inb : ∀ (v428 : IVec S16 32) (k0_hw36 : k0_chk36 v428), ∀ a x, ((![v428] : Fin 1 → IVec S16 32) a x).toNat < S128.size a := fun v428 k0_hw36 => k0_hw36

def k0_chk37 (v466 : IVec S16 32) : Prop :=
  (∀ a x, ((![v466] : Fin 1 → IVec S16 32) a x).toNat < S256.size a)
theorem k0_idx37_inb : ∀ (v466 : IVec S16 32) (k0_hw37 : k0_chk37 v466), ∀ a x, ((![v466] : Fin 1 → IVec S16 32) a x).toNat < S256.size a := fun v466 k0_hw37 => k0_hw37

def k0_chk38 (v462 : IVec S16 32) : Prop :=
  (∀ a x, ((![v462] : Fin 1 → IVec S16 32) a x).toNat < S256.size a)
theorem k0_idx38_inb : ∀ (v462 : IVec S16 32) (k0_hw38 : k0_chk38 v462), ∀ a x, ((![v462] : Fin 1 → IVec S16 32) a x).toNat < S256.size a := fun v462 k0_hw38 => k0_hw38

def k0_chk39 (v470 : IVec S16 32) : Prop :=
  (∀ a x, ((![v470] : Fin 1 → IVec S16 32) a x).toNat < S256.size a)
theorem k0_idx39_inb : ∀ (v470 : IVec S16 32) (k0_hw39 : k0_chk39 v470), ∀ a x, ((![v470] : Fin 1 → IVec S16 32) a x).toNat < S256.size a := fun v470 k0_hw39 => k0_hw39

def k0_chk40 (v500 : IVec S16 32) : Prop :=
  (∀ a x, ((![v500] : Fin 1 → IVec S16 32) a x).toNat < S128.size a)
theorem k0_idx40_inb : ∀ (v500 : IVec S16 32) (k0_hw40 : k0_chk40 v500), ∀ a x, ((![v500] : Fin 1 → IVec S16 32) a x).toNat < S128.size a := fun v500 k0_hw40 => k0_hw40

def k0_chk41 (v496 : IVec S16 32) : Prop :=
  (∀ a x, ((![v496] : Fin 1 → IVec S16 32) a x).toNat < S128.size a)
theorem k0_idx41_inb : ∀ (v496 : IVec S16 32) (k0_hw41 : k0_chk41 v496), ∀ a x, ((![v496] : Fin 1 → IVec S16 32) a x).toNat < S128.size a := fun v496 k0_hw41 => k0_hw41

def k0_chk42 (v504 : IVec S16 32) : Prop :=
  (∀ a x, ((![v504] : Fin 1 → IVec S16 32) a x).toNat < S128.size a)
theorem k0_idx42_inb : ∀ (v504 : IVec S16 32) (k0_hw42 : k0_chk42 v504), ∀ a x, ((![v504] : Fin 1 → IVec S16 32) a x).toNat < S128.size a := fun v504 k0_hw42 => k0_hw42

def k0_chk43 (v536 : IVec S16 32) : Prop :=
  (∀ a x, ((![v536] : Fin 1 → IVec S16 32) a x).toNat < S128.size a)
theorem k0_idx43_inb : ∀ (v536 : IVec S16 32) (k0_hw43 : k0_chk43 v536), ∀ a x, ((![v536] : Fin 1 → IVec S16 32) a x).toNat < S128.size a := fun v536 k0_hw43 => k0_hw43

def k0_chk44 (v532 : IVec S16 32) : Prop :=
  (∀ a x, ((![v532] : Fin 1 → IVec S16 32) a x).toNat < S128.size a)
theorem k0_idx44_inb : ∀ (v532 : IVec S16 32) (k0_hw44 : k0_chk44 v532), ∀ a x, ((![v532] : Fin 1 → IVec S16 32) a x).toNat < S128.size a := fun v532 k0_hw44 => k0_hw44

def k0_chk45 (v540 : IVec S16 32) : Prop :=
  (∀ a x, ((![v540] : Fin 1 → IVec S16 32) a x).toNat < S128.size a)
theorem k0_idx45_inb : ∀ (v540 : IVec S16 32) (k0_hw45 : k0_chk45 v540), ∀ a x, ((![v540] : Fin 1 → IVec S16 32) a x).toNat < S128.size a := fun v540 k0_hw45 => k0_hw45

def k0_chk46 (v578 : IVec S16 32) : Prop :=
  (∀ a x, ((![v578] : Fin 1 → IVec S16 32) a x).toNat < S256.size a)
theorem k0_idx46_inb : ∀ (v578 : IVec S16 32) (k0_hw46 : k0_chk46 v578), ∀ a x, ((![v578] : Fin 1 → IVec S16 32) a x).toNat < S256.size a := fun v578 k0_hw46 => k0_hw46

def k0_chk47 (v574 : IVec S16 32) : Prop :=
  (∀ a x, ((![v574] : Fin 1 → IVec S16 32) a x).toNat < S256.size a)
theorem k0_idx47_inb : ∀ (v574 : IVec S16 32) (k0_hw47 : k0_chk47 v574), ∀ a x, ((![v574] : Fin 1 → IVec S16 32) a x).toNat < S256.size a := fun v574 k0_hw47 => k0_hw47

def k0_chk48 (v582 : IVec S16 32) : Prop :=
  (∀ a x, ((![v582] : Fin 1 → IVec S16 32) a x).toNat < S256.size a)
theorem k0_idx48_inb : ∀ (v582 : IVec S16 32) (k0_hw48 : k0_chk48 v582), ∀ a x, ((![v582] : Fin 1 → IVec S16 32) a x).toNat < S256.size a := fun v582 k0_hw48 => k0_hw48

def k0_chk49 (v612 : IVec S16 32) : Prop :=
  (∀ a x, ((![v612] : Fin 1 → IVec S16 32) a x).toNat < S128.size a)
theorem k0_idx49_inb : ∀ (v612 : IVec S16 32) (k0_hw49 : k0_chk49 v612), ∀ a x, ((![v612] : Fin 1 → IVec S16 32) a x).toNat < S128.size a := fun v612 k0_hw49 => k0_hw49

def k0_chk50 (v608 : IVec S16 32) : Prop :=
  (∀ a x, ((![v608] : Fin 1 → IVec S16 32) a x).toNat < S128.size a)
theorem k0_idx50_inb : ∀ (v608 : IVec S16 32) (k0_hw50 : k0_chk50 v608), ∀ a x, ((![v608] : Fin 1 → IVec S16 32) a x).toNat < S128.size a := fun v608 k0_hw50 => k0_hw50

def k0_chk51 (v616 : IVec S16 32) : Prop :=
  (∀ a x, ((![v616] : Fin 1 → IVec S16 32) a x).toNat < S128.size a)
theorem k0_idx51_inb : ∀ (v616 : IVec S16 32) (k0_hw51 : k0_chk51 v616), ∀ a x, ((![v616] : Fin 1 → IVec S16 32) a x).toNat < S128.size a := fun v616 k0_hw51 => k0_hw51

def k0_chk52 (v648 : IVec S16 32) : Prop :=
  (∀ a x, ((![v648] : Fin 1 → IVec S16 32) a x).toNat < S128.size a)
theorem k0_idx52_inb : ∀ (v648 : IVec S16 32) (k0_hw52 : k0_chk52 v648), ∀ a x, ((![v648] : Fin 1 → IVec S16 32) a x).toNat < S128.size a := fun v648 k0_hw52 => k0_hw52

def k0_chk53 (v644 : IVec S16 32) : Prop :=
  (∀ a x, ((![v644] : Fin 1 → IVec S16 32) a x).toNat < S128.size a)
theorem k0_idx53_inb : ∀ (v644 : IVec S16 32) (k0_hw53 : k0_chk53 v644), ∀ a x, ((![v644] : Fin 1 → IVec S16 32) a x).toNat < S128.size a := fun v644 k0_hw53 => k0_hw53

def k0_chk54 (v652 : IVec S16 32) : Prop :=
  (∀ a x, ((![v652] : Fin 1 → IVec S16 32) a x).toNat < S128.size a)
theorem k0_idx54_inb : ∀ (v652 : IVec S16 32) (k0_hw54 : k0_chk54 v652), ∀ a x, ((![v652] : Fin 1 → IVec S16 32) a x).toNat < S128.size a := fun v652 k0_hw54 => k0_hw54

def k0_chk55 (v690 : IVec S16 32) : Prop :=
  (∀ a x, ((![v690] : Fin 1 → IVec S16 32) a x).toNat < S256.size a)
theorem k0_idx55_inb : ∀ (v690 : IVec S16 32) (k0_hw55 : k0_chk55 v690), ∀ a x, ((![v690] : Fin 1 → IVec S16 32) a x).toNat < S256.size a := fun v690 k0_hw55 => k0_hw55

def k0_chk56 (v686 : IVec S16 32) : Prop :=
  (∀ a x, ((![v686] : Fin 1 → IVec S16 32) a x).toNat < S256.size a)
theorem k0_idx56_inb : ∀ (v686 : IVec S16 32) (k0_hw56 : k0_chk56 v686), ∀ a x, ((![v686] : Fin 1 → IVec S16 32) a x).toNat < S256.size a := fun v686 k0_hw56 => k0_hw56

def k0_chk57 (v694 : IVec S16 32) : Prop :=
  (∀ a x, ((![v694] : Fin 1 → IVec S16 32) a x).toNat < S256.size a)
theorem k0_idx57_inb : ∀ (v694 : IVec S16 32) (k0_hw57 : k0_chk57 v694), ∀ a x, ((![v694] : Fin 1 → IVec S16 32) a x).toNat < S256.size a := fun v694 k0_hw57 => k0_hw57

def k0_chk58 (v724 : IVec S16 32) : Prop :=
  (∀ a x, ((![v724] : Fin 1 → IVec S16 32) a x).toNat < S128.size a)
theorem k0_idx58_inb : ∀ (v724 : IVec S16 32) (k0_hw58 : k0_chk58 v724), ∀ a x, ((![v724] : Fin 1 → IVec S16 32) a x).toNat < S128.size a := fun v724 k0_hw58 => k0_hw58

def k0_chk59 (v720 : IVec S16 32) : Prop :=
  (∀ a x, ((![v720] : Fin 1 → IVec S16 32) a x).toNat < S128.size a)
theorem k0_idx59_inb : ∀ (v720 : IVec S16 32) (k0_hw59 : k0_chk59 v720), ∀ a x, ((![v720] : Fin 1 → IVec S16 32) a x).toNat < S128.size a := fun v720 k0_hw59 => k0_hw59

def k0_chk60 (v728 : IVec S16 32) : Prop :=
  (∀ a x, ((![v728] : Fin 1 → IVec S16 32) a x).toNat < S128.size a)
theorem k0_idx60_inb : ∀ (v728 : IVec S16 32) (k0_hw60 : k0_chk60 v728), ∀ a x, ((![v728] : Fin 1 → IVec S16 32) a x).toNat < S128.size a := fun v728 k0_hw60 => k0_hw60

def k0_chk61 (v760 : IVec S16 32) : Prop :=
  (∀ a x, ((![v760] : Fin 1 → IVec S16 32) a x).toNat < S128.size a)
theorem k0_idx61_inb : ∀ (v760 : IVec S16 32) (k0_hw61 : k0_chk61 v760), ∀ a x, ((![v760] : Fin 1 → IVec S16 32) a x).toNat < S128.size a := fun v760 k0_hw61 => k0_hw61

def k0_chk62 (v756 : IVec S16 32) : Prop :=
  (∀ a x, ((![v756] : Fin 1 → IVec S16 32) a x).toNat < S128.size a)
theorem k0_idx62_inb : ∀ (v756 : IVec S16 32) (k0_hw62 : k0_chk62 v756), ∀ a x, ((![v756] : Fin 1 → IVec S16 32) a x).toNat < S128.size a := fun v756 k0_hw62 => k0_hw62

def k0_chk63 (v764 : IVec S16 32) : Prop :=
  (∀ a x, ((![v764] : Fin 1 → IVec S16 32) a x).toNat < S128.size a)
theorem k0_idx63_inb : ∀ (v764 : IVec S16 32) (k0_hw63 : k0_chk63 v764), ∀ a x, ((![v764] : Fin 1 → IVec S16 32) a x).toNat < S128.size a := fun v764 k0_hw63 => k0_hw63

def k0_chk64 (v802 : IVec S16 32) : Prop :=
  (∀ a x, ((![v802] : Fin 1 → IVec S16 32) a x).toNat < S256.size a)
theorem k0_idx64_inb : ∀ (v802 : IVec S16 32) (k0_hw64 : k0_chk64 v802), ∀ a x, ((![v802] : Fin 1 → IVec S16 32) a x).toNat < S256.size a := fun v802 k0_hw64 => k0_hw64

def k0_chk65 (v798 : IVec S16 32) : Prop :=
  (∀ a x, ((![v798] : Fin 1 → IVec S16 32) a x).toNat < S256.size a)
theorem k0_idx65_inb : ∀ (v798 : IVec S16 32) (k0_hw65 : k0_chk65 v798), ∀ a x, ((![v798] : Fin 1 → IVec S16 32) a x).toNat < S256.size a := fun v798 k0_hw65 => k0_hw65

def k0_chk66 (v806 : IVec S16 32) : Prop :=
  (∀ a x, ((![v806] : Fin 1 → IVec S16 32) a x).toNat < S256.size a)
theorem k0_idx66_inb : ∀ (v806 : IVec S16 32) (k0_hw66 : k0_chk66 v806), ∀ a x, ((![v806] : Fin 1 → IVec S16 32) a x).toNat < S256.size a := fun v806 k0_hw66 => k0_hw66

def k0_chk67 (v836 : IVec S16 32) : Prop :=
  (∀ a x, ((![v836] : Fin 1 → IVec S16 32) a x).toNat < S128.size a)
theorem k0_idx67_inb : ∀ (v836 : IVec S16 32) (k0_hw67 : k0_chk67 v836), ∀ a x, ((![v836] : Fin 1 → IVec S16 32) a x).toNat < S128.size a := fun v836 k0_hw67 => k0_hw67

def k0_chk68 (v832 : IVec S16 32) : Prop :=
  (∀ a x, ((![v832] : Fin 1 → IVec S16 32) a x).toNat < S128.size a)
theorem k0_idx68_inb : ∀ (v832 : IVec S16 32) (k0_hw68 : k0_chk68 v832), ∀ a x, ((![v832] : Fin 1 → IVec S16 32) a x).toNat < S128.size a := fun v832 k0_hw68 => k0_hw68

def k0_chk69 (v840 : IVec S16 32) : Prop :=
  (∀ a x, ((![v840] : Fin 1 → IVec S16 32) a x).toNat < S128.size a)
theorem k0_idx69_inb : ∀ (v840 : IVec S16 32) (k0_hw69 : k0_chk69 v840), ∀ a x, ((![v840] : Fin 1 → IVec S16 32) a x).toNat < S128.size a := fun v840 k0_hw69 => k0_hw69

def k0_chk70 (v872 : IVec S16 32) : Prop :=
  (∀ a x, ((![v872] : Fin 1 → IVec S16 32) a x).toNat < S128.size a)
theorem k0_idx70_inb : ∀ (v872 : IVec S16 32) (k0_hw70 : k0_chk70 v872), ∀ a x, ((![v872] : Fin 1 → IVec S16 32) a x).toNat < S128.size a := fun v872 k0_hw70 => k0_hw70

def k0_chk71 (v868 : IVec S16 32) : Prop :=
  (∀ a x, ((![v868] : Fin 1 → IVec S16 32) a x).toNat < S128.size a)
theorem k0_idx71_inb : ∀ (v868 : IVec S16 32) (k0_hw71 : k0_chk71 v868), ∀ a x, ((![v868] : Fin 1 → IVec S16 32) a x).toNat < S128.size a := fun v868 k0_hw71 => k0_hw71

def k0_chk72 (v876 : IVec S16 32) : Prop :=
  (∀ a x, ((![v876] : Fin 1 → IVec S16 32) a x).toNat < S128.size a)
theorem k0_idx72_inb : ∀ (v876 : IVec S16 32) (k0_hw72 : k0_chk72 v876), ∀ a x, ((![v876] : Fin 1 → IVec S16 32) a x).toNat < S128.size a := fun v876 k0_hw72 => k0_hw72

def k0_chk73 (v920 : IVec S16 32) : Prop :=
  (∀ a x, ((![v920] : Fin 1 → IVec S16 32) a x).toNat < S256.size a)
theorem k0_idx73_inb : ∀ (v920 : IVec S16 32) (k0_hw73 : k0_chk73 v920), ∀ a x, ((![v920] : Fin 1 → IVec S16 32) a x).toNat < S256.size a := fun v920 k0_hw73 => k0_hw73

def k0_chk74 (v916 : IVec S16 32) : Prop :=
  (∀ a x, ((![v916] : Fin 1 → IVec S16 32) a x).toNat < S256.size a)
theorem k0_idx74_inb : ∀ (v916 : IVec S16 32) (k0_hw74 : k0_chk74 v916), ∀ a x, ((![v916] : Fin 1 → IVec S16 32) a x).toNat < S256.size a := fun v916 k0_hw74 => k0_hw74

def k0_chk75 (v924 : IVec S16 32) : Prop :=
  (∀ a x, ((![v924] : Fin 1 → IVec S16 32) a x).toNat < S256.size a)
theorem k0_idx75_inb : ∀ (v924 : IVec S16 32) (k0_hw75 : k0_chk75 v924), ∀ a x, ((![v924] : Fin 1 → IVec S16 32) a x).toNat < S256.size a := fun v924 k0_hw75 => k0_hw75

def k0_chk76 (v954 : IVec S16 32) : Prop :=
  (∀ a x, ((![v954] : Fin 1 → IVec S16 32) a x).toNat < S128.size a)
theorem k0_idx76_inb : ∀ (v954 : IVec S16 32) (k0_hw76 : k0_chk76 v954), ∀ a x, ((![v954] : Fin 1 → IVec S16 32) a x).toNat < S128.size a := fun v954 k0_hw76 => k0_hw76

def k0_chk77 (v950 : IVec S16 32) : Prop :=
  (∀ a x, ((![v950] : Fin 1 → IVec S16 32) a x).toNat < S128.size a)
theorem k0_idx77_inb : ∀ (v950 : IVec S16 32) (k0_hw77 : k0_chk77 v950), ∀ a x, ((![v950] : Fin 1 → IVec S16 32) a x).toNat < S128.size a := fun v950 k0_hw77 => k0_hw77

def k0_chk78 (v958 : IVec S16 32) : Prop :=
  (∀ a x, ((![v958] : Fin 1 → IVec S16 32) a x).toNat < S128.size a)
theorem k0_idx78_inb : ∀ (v958 : IVec S16 32) (k0_hw78 : k0_chk78 v958), ∀ a x, ((![v958] : Fin 1 → IVec S16 32) a x).toNat < S128.size a := fun v958 k0_hw78 => k0_hw78

def k0_chk79 (v990 : IVec S16 32) : Prop :=
  (∀ a x, ((![v990] : Fin 1 → IVec S16 32) a x).toNat < S128.size a)
theorem k0_idx79_inb : ∀ (v990 : IVec S16 32) (k0_hw79 : k0_chk79 v990), ∀ a x, ((![v990] : Fin 1 → IVec S16 32) a x).toNat < S128.size a := fun v990 k0_hw79 => k0_hw79

def k0_chk80 (v986 : IVec S16 32) : Prop :=
  (∀ a x, ((![v986] : Fin 1 → IVec S16 32) a x).toNat < S128.size a)
theorem k0_idx80_inb : ∀ (v986 : IVec S16 32) (k0_hw80 : k0_chk80 v986), ∀ a x, ((![v986] : Fin 1 → IVec S16 32) a x).toNat < S128.size a := fun v986 k0_hw80 => k0_hw80

def k0_chk81 (v994 : IVec S16 32) : Prop :=
  (∀ a x, ((![v994] : Fin 1 → IVec S16 32) a x).toNat < S128.size a)
theorem k0_idx81_inb : ∀ (v994 : IVec S16 32) (k0_hw81 : k0_chk81 v994), ∀ a x, ((![v994] : Fin 1 → IVec S16 32) a x).toNat < S128.size a := fun v994 k0_hw81 => k0_hw81

def k0_chk82 (v1032 : IVec S16 32) : Prop :=
  (∀ a x, ((![v1032] : Fin 1 → IVec S16 32) a x).toNat < S256.size a)
theorem k0_idx82_inb : ∀ (v1032 : IVec S16 32) (k0_hw82 : k0_chk82 v1032), ∀ a x, ((![v1032] : Fin 1 → IVec S16 32) a x).toNat < S256.size a := fun v1032 k0_hw82 => k0_hw82

def k0_chk83 (v1028 : IVec S16 32) : Prop :=
  (∀ a x, ((![v1028] : Fin 1 → IVec S16 32) a x).toNat < S256.size a)
theorem k0_idx83_inb : ∀ (v1028 : IVec S16 32) (k0_hw83 : k0_chk83 v1028), ∀ a x, ((![v1028] : Fin 1 → IVec S16 32) a x).toNat < S256.size a := fun v1028 k0_hw83 => k0_hw83

def k0_chk84 (v1036 : IVec S16 32) : Prop :=
  (∀ a x, ((![v1036] : Fin 1 → IVec S16 32) a x).toNat < S256.size a)
theorem k0_idx84_inb : ∀ (v1036 : IVec S16 32) (k0_hw84 : k0_chk84 v1036), ∀ a x, ((![v1036] : Fin 1 → IVec S16 32) a x).toNat < S256.size a := fun v1036 k0_hw84 => k0_hw84

def k0_chk85 (v1066 : IVec S16 32) : Prop :=
  (∀ a x, ((![v1066] : Fin 1 → IVec S16 32) a x).toNat < S128.size a)
theorem k0_idx85_inb : ∀ (v1066 : IVec S16 32) (k0_hw85 : k0_chk85 v1066), ∀ a x, ((![v1066] : Fin 1 → IVec S16 32) a x).toNat < S128.size a := fun v1066 k0_hw85 => k0_hw85

def k0_chk86 (v1062 : IVec S16 32) : Prop :=
  (∀ a x, ((![v1062] : Fin 1 → IVec S16 32) a x).toNat < S128.size a)
theorem k0_idx86_inb : ∀ (v1062 : IVec S16 32) (k0_hw86 : k0_chk86 v1062), ∀ a x, ((![v1062] : Fin 1 → IVec S16 32) a x).toNat < S128.size a := fun v1062 k0_hw86 => k0_hw86

def k0_chk87 (v1070 : IVec S16 32) : Prop :=
  (∀ a x, ((![v1070] : Fin 1 → IVec S16 32) a x).toNat < S128.size a)
theorem k0_idx87_inb : ∀ (v1070 : IVec S16 32) (k0_hw87 : k0_chk87 v1070), ∀ a x, ((![v1070] : Fin 1 → IVec S16 32) a x).toNat < S128.size a := fun v1070 k0_hw87 => k0_hw87

def k0_chk88 (v1102 : IVec S16 32) : Prop :=
  (∀ a x, ((![v1102] : Fin 1 → IVec S16 32) a x).toNat < S128.size a)
theorem k0_idx88_inb : ∀ (v1102 : IVec S16 32) (k0_hw88 : k0_chk88 v1102), ∀ a x, ((![v1102] : Fin 1 → IVec S16 32) a x).toNat < S128.size a := fun v1102 k0_hw88 => k0_hw88

def k0_chk89 (v1098 : IVec S16 32) : Prop :=
  (∀ a x, ((![v1098] : Fin 1 → IVec S16 32) a x).toNat < S128.size a)
theorem k0_idx89_inb : ∀ (v1098 : IVec S16 32) (k0_hw89 : k0_chk89 v1098), ∀ a x, ((![v1098] : Fin 1 → IVec S16 32) a x).toNat < S128.size a := fun v1098 k0_hw89 => k0_hw89

def k0_chk90 (v1106 : IVec S16 32) : Prop :=
  (∀ a x, ((![v1106] : Fin 1 → IVec S16 32) a x).toNat < S128.size a)
theorem k0_idx90_inb : ∀ (v1106 : IVec S16 32) (k0_hw90 : k0_chk90 v1106), ∀ a x, ((![v1106] : Fin 1 → IVec S16 32) a x).toNat < S128.size a := fun v1106 k0_hw90 => k0_hw90

def k0_chk91 (v1144 : IVec S16 32) : Prop :=
  (∀ a x, ((![v1144] : Fin 1 → IVec S16 32) a x).toNat < S256.size a)
theorem k0_idx91_inb : ∀ (v1144 : IVec S16 32) (k0_hw91 : k0_chk91 v1144), ∀ a x, ((![v1144] : Fin 1 → IVec S16 32) a x).toNat < S256.size a := fun v1144 k0_hw91 => k0_hw91

def k0_chk92 (v1140 : IVec S16 32) : Prop :=
  (∀ a x, ((![v1140] : Fin 1 → IVec S16 32) a x).toNat < S256.size a)
theorem k0_idx92_inb : ∀ (v1140 : IVec S16 32) (k0_hw92 : k0_chk92 v1140), ∀ a x, ((![v1140] : Fin 1 → IVec S16 32) a x).toNat < S256.size a := fun v1140 k0_hw92 => k0_hw92

def k0_chk93 (v1148 : IVec S16 32) : Prop :=
  (∀ a x, ((![v1148] : Fin 1 → IVec S16 32) a x).toNat < S256.size a)
theorem k0_idx93_inb : ∀ (v1148 : IVec S16 32) (k0_hw93 : k0_chk93 v1148), ∀ a x, ((![v1148] : Fin 1 → IVec S16 32) a x).toNat < S256.size a := fun v1148 k0_hw93 => k0_hw93

def k0_chk94 (v1178 : IVec S16 32) : Prop :=
  (∀ a x, ((![v1178] : Fin 1 → IVec S16 32) a x).toNat < S128.size a)
theorem k0_idx94_inb : ∀ (v1178 : IVec S16 32) (k0_hw94 : k0_chk94 v1178), ∀ a x, ((![v1178] : Fin 1 → IVec S16 32) a x).toNat < S128.size a := fun v1178 k0_hw94 => k0_hw94

def k0_chk95 (v1174 : IVec S16 32) : Prop :=
  (∀ a x, ((![v1174] : Fin 1 → IVec S16 32) a x).toNat < S128.size a)
theorem k0_idx95_inb : ∀ (v1174 : IVec S16 32) (k0_hw95 : k0_chk95 v1174), ∀ a x, ((![v1174] : Fin 1 → IVec S16 32) a x).toNat < S128.size a := fun v1174 k0_hw95 => k0_hw95

def k0_chk96 (v1182 : IVec S16 32) : Prop :=
  (∀ a x, ((![v1182] : Fin 1 → IVec S16 32) a x).toNat < S128.size a)
theorem k0_idx96_inb : ∀ (v1182 : IVec S16 32) (k0_hw96 : k0_chk96 v1182), ∀ a x, ((![v1182] : Fin 1 → IVec S16 32) a x).toNat < S128.size a := fun v1182 k0_hw96 => k0_hw96

def k0_chk97 (v1214 : IVec S16 32) : Prop :=
  (∀ a x, ((![v1214] : Fin 1 → IVec S16 32) a x).toNat < S128.size a)
theorem k0_idx97_inb : ∀ (v1214 : IVec S16 32) (k0_hw97 : k0_chk97 v1214), ∀ a x, ((![v1214] : Fin 1 → IVec S16 32) a x).toNat < S128.size a := fun v1214 k0_hw97 => k0_hw97

def k0_chk98 (v1210 : IVec S16 32) : Prop :=
  (∀ a x, ((![v1210] : Fin 1 → IVec S16 32) a x).toNat < S128.size a)
theorem k0_idx98_inb : ∀ (v1210 : IVec S16 32) (k0_hw98 : k0_chk98 v1210), ∀ a x, ((![v1210] : Fin 1 → IVec S16 32) a x).toNat < S128.size a := fun v1210 k0_hw98 => k0_hw98

def k0_chk99 (v1218 : IVec S16 32) : Prop :=
  (∀ a x, ((![v1218] : Fin 1 → IVec S16 32) a x).toNat < S128.size a)
theorem k0_idx99_inb : ∀ (v1218 : IVec S16 32) (k0_hw99 : k0_chk99 v1218), ∀ a x, ((![v1218] : Fin 1 → IVec S16 32) a x).toNat < S128.size a := fun v1218 k0_hw99 => k0_hw99

def k0_chk100 (v1256 : IVec S16 32) : Prop :=
  (∀ a x, ((![v1256] : Fin 1 → IVec S16 32) a x).toNat < S256.size a)
theorem k0_idx100_inb : ∀ (v1256 : IVec S16 32) (k0_hw100 : k0_chk100 v1256), ∀ a x, ((![v1256] : Fin 1 → IVec S16 32) a x).toNat < S256.size a := fun v1256 k0_hw100 => k0_hw100

def k0_chk101 (v1252 : IVec S16 32) : Prop :=
  (∀ a x, ((![v1252] : Fin 1 → IVec S16 32) a x).toNat < S256.size a)
theorem k0_idx101_inb : ∀ (v1252 : IVec S16 32) (k0_hw101 : k0_chk101 v1252), ∀ a x, ((![v1252] : Fin 1 → IVec S16 32) a x).toNat < S256.size a := fun v1252 k0_hw101 => k0_hw101

def k0_chk102 (v1260 : IVec S16 32) : Prop :=
  (∀ a x, ((![v1260] : Fin 1 → IVec S16 32) a x).toNat < S256.size a)
theorem k0_idx102_inb : ∀ (v1260 : IVec S16 32) (k0_hw102 : k0_chk102 v1260), ∀ a x, ((![v1260] : Fin 1 → IVec S16 32) a x).toNat < S256.size a := fun v1260 k0_hw102 => k0_hw102

def k0_chk103 (v1290 : IVec S16 32) : Prop :=
  (∀ a x, ((![v1290] : Fin 1 → IVec S16 32) a x).toNat < S128.size a)
theorem k0_idx103_inb : ∀ (v1290 : IVec S16 32) (k0_hw103 : k0_chk103 v1290), ∀ a x, ((![v1290] : Fin 1 → IVec S16 32) a x).toNat < S128.size a := fun v1290 k0_hw103 => k0_hw103

def k0_chk104 (v1286 : IVec S16 32) : Prop :=
  (∀ a x, ((![v1286] : Fin 1 → IVec S16 32) a x).toNat < S128.size a)
theorem k0_idx104_inb : ∀ (v1286 : IVec S16 32) (k0_hw104 : k0_chk104 v1286), ∀ a x, ((![v1286] : Fin 1 → IVec S16 32) a x).toNat < S128.size a := fun v1286 k0_hw104 => k0_hw104

def k0_chk105 (v1294 : IVec S16 32) : Prop :=
  (∀ a x, ((![v1294] : Fin 1 → IVec S16 32) a x).toNat < S128.size a)
theorem k0_idx105_inb : ∀ (v1294 : IVec S16 32) (k0_hw105 : k0_chk105 v1294), ∀ a x, ((![v1294] : Fin 1 → IVec S16 32) a x).toNat < S128.size a := fun v1294 k0_hw105 => k0_hw105

def k0_chk106 (v1326 : IVec S16 32) : Prop :=
  (∀ a x, ((![v1326] : Fin 1 → IVec S16 32) a x).toNat < S128.size a)
theorem k0_idx106_inb : ∀ (v1326 : IVec S16 32) (k0_hw106 : k0_chk106 v1326), ∀ a x, ((![v1326] : Fin 1 → IVec S16 32) a x).toNat < S128.size a := fun v1326 k0_hw106 => k0_hw106

def k0_chk107 (v1322 : IVec S16 32) : Prop :=
  (∀ a x, ((![v1322] : Fin 1 → IVec S16 32) a x).toNat < S128.size a)
theorem k0_idx107_inb : ∀ (v1322 : IVec S16 32) (k0_hw107 : k0_chk107 v1322), ∀ a x, ((![v1322] : Fin 1 → IVec S16 32) a x).toNat < S128.size a := fun v1322 k0_hw107 => k0_hw107

def k0_chk108 (v1330 : IVec S16 32) : Prop :=
  (∀ a x, ((![v1330] : Fin 1 → IVec S16 32) a x).toNat < S128.size a)
theorem k0_idx108_inb : ∀ (v1330 : IVec S16 32) (k0_hw108 : k0_chk108 v1330), ∀ a x, ((![v1330] : Fin 1 → IVec S16 32) a x).toNat < S128.size a := fun v1330 k0_hw108 => k0_hw108

def k0_chk109 (v1368 : IVec S16 32) : Prop :=
  (∀ a x, ((![v1368] : Fin 1 → IVec S16 32) a x).toNat < S256.size a)
theorem k0_idx109_inb : ∀ (v1368 : IVec S16 32) (k0_hw109 : k0_chk109 v1368), ∀ a x, ((![v1368] : Fin 1 → IVec S16 32) a x).toNat < S256.size a := fun v1368 k0_hw109 => k0_hw109

def k0_chk110 (v1364 : IVec S16 32) : Prop :=
  (∀ a x, ((![v1364] : Fin 1 → IVec S16 32) a x).toNat < S256.size a)
theorem k0_idx110_inb : ∀ (v1364 : IVec S16 32) (k0_hw110 : k0_chk110 v1364), ∀ a x, ((![v1364] : Fin 1 → IVec S16 32) a x).toNat < S256.size a := fun v1364 k0_hw110 => k0_hw110

def k0_chk111 (v1372 : IVec S16 32) : Prop :=
  (∀ a x, ((![v1372] : Fin 1 → IVec S16 32) a x).toNat < S256.size a)
theorem k0_idx111_inb : ∀ (v1372 : IVec S16 32) (k0_hw111 : k0_chk111 v1372), ∀ a x, ((![v1372] : Fin 1 → IVec S16 32) a x).toNat < S256.size a := fun v1372 k0_hw111 => k0_hw111

def k0_chk112 (v1402 : IVec S16 32) : Prop :=
  (∀ a x, ((![v1402] : Fin 1 → IVec S16 32) a x).toNat < S128.size a)
theorem k0_idx112_inb : ∀ (v1402 : IVec S16 32) (k0_hw112 : k0_chk112 v1402), ∀ a x, ((![v1402] : Fin 1 → IVec S16 32) a x).toNat < S128.size a := fun v1402 k0_hw112 => k0_hw112

def k0_chk113 (v1398 : IVec S16 32) : Prop :=
  (∀ a x, ((![v1398] : Fin 1 → IVec S16 32) a x).toNat < S128.size a)
theorem k0_idx113_inb : ∀ (v1398 : IVec S16 32) (k0_hw113 : k0_chk113 v1398), ∀ a x, ((![v1398] : Fin 1 → IVec S16 32) a x).toNat < S128.size a := fun v1398 k0_hw113 => k0_hw113

def k0_chk114 (v1406 : IVec S16 32) : Prop :=
  (∀ a x, ((![v1406] : Fin 1 → IVec S16 32) a x).toNat < S128.size a)
theorem k0_idx114_inb : ∀ (v1406 : IVec S16 32) (k0_hw114 : k0_chk114 v1406), ∀ a x, ((![v1406] : Fin 1 → IVec S16 32) a x).toNat < S128.size a := fun v1406 k0_hw114 => k0_hw114

def k0_chk115 (v1438 : IVec S16 32) : Prop :=
  (∀ a x, ((![v1438] : Fin 1 → IVec S16 32) a x).toNat < S128.size a)
theorem k0_idx115_inb : ∀ (v1438 : IVec S16 32) (k0_hw115 : k0_chk115 v1438), ∀ a x, ((![v1438] : Fin 1 → IVec S16 32) a x).toNat < S128.size a := fun v1438 k0_hw115 => k0_hw115

def k0_chk116 (v1434 : IVec S16 32) : Prop :=
  (∀ a x, ((![v1434] : Fin 1 → IVec S16 32) a x).toNat < S128.size a)
theorem k0_idx116_inb : ∀ (v1434 : IVec S16 32) (k0_hw116 : k0_chk116 v1434), ∀ a x, ((![v1434] : Fin 1 → IVec S16 32) a x).toNat < S128.size a := fun v1434 k0_hw116 => k0_hw116

def k0_chk117 (v1442 : IVec S16 32) : Prop :=
  (∀ a x, ((![v1442] : Fin 1 → IVec S16 32) a x).toNat < S128.size a)
theorem k0_idx117_inb : ∀ (v1442 : IVec S16 32) (k0_hw117 : k0_chk117 v1442), ∀ a x, ((![v1442] : Fin 1 → IVec S16 32) a x).toNat < S128.size a := fun v1442 k0_hw117 => k0_hw117

def k0_chk118 (v1480 : IVec S16 32) : Prop :=
  (∀ a x, ((![v1480] : Fin 1 → IVec S16 32) a x).toNat < S256.size a)
theorem k0_idx118_inb : ∀ (v1480 : IVec S16 32) (k0_hw118 : k0_chk118 v1480), ∀ a x, ((![v1480] : Fin 1 → IVec S16 32) a x).toNat < S256.size a := fun v1480 k0_hw118 => k0_hw118

def k0_chk119 (v1476 : IVec S16 32) : Prop :=
  (∀ a x, ((![v1476] : Fin 1 → IVec S16 32) a x).toNat < S256.size a)
theorem k0_idx119_inb : ∀ (v1476 : IVec S16 32) (k0_hw119 : k0_chk119 v1476), ∀ a x, ((![v1476] : Fin 1 → IVec S16 32) a x).toNat < S256.size a := fun v1476 k0_hw119 => k0_hw119

def k0_chk120 (v1484 : IVec S16 32) : Prop :=
  (∀ a x, ((![v1484] : Fin 1 → IVec S16 32) a x).toNat < S256.size a)
theorem k0_idx120_inb : ∀ (v1484 : IVec S16 32) (k0_hw120 : k0_chk120 v1484), ∀ a x, ((![v1484] : Fin 1 → IVec S16 32) a x).toNat < S256.size a := fun v1484 k0_hw120 => k0_hw120

def k0_chk121 (v1514 : IVec S16 32) : Prop :=
  (∀ a x, ((![v1514] : Fin 1 → IVec S16 32) a x).toNat < S128.size a)
theorem k0_idx121_inb : ∀ (v1514 : IVec S16 32) (k0_hw121 : k0_chk121 v1514), ∀ a x, ((![v1514] : Fin 1 → IVec S16 32) a x).toNat < S128.size a := fun v1514 k0_hw121 => k0_hw121

def k0_chk122 (v1510 : IVec S16 32) : Prop :=
  (∀ a x, ((![v1510] : Fin 1 → IVec S16 32) a x).toNat < S128.size a)
theorem k0_idx122_inb : ∀ (v1510 : IVec S16 32) (k0_hw122 : k0_chk122 v1510), ∀ a x, ((![v1510] : Fin 1 → IVec S16 32) a x).toNat < S128.size a := fun v1510 k0_hw122 => k0_hw122

def k0_chk123 (v1518 : IVec S16 32) : Prop :=
  (∀ a x, ((![v1518] : Fin 1 → IVec S16 32) a x).toNat < S128.size a)
theorem k0_idx123_inb : ∀ (v1518 : IVec S16 32) (k0_hw123 : k0_chk123 v1518), ∀ a x, ((![v1518] : Fin 1 → IVec S16 32) a x).toNat < S128.size a := fun v1518 k0_hw123 => k0_hw123

def k0_chk124 (v1550 : IVec S16 32) : Prop :=
  (∀ a x, ((![v1550] : Fin 1 → IVec S16 32) a x).toNat < S128.size a)
theorem k0_idx124_inb : ∀ (v1550 : IVec S16 32) (k0_hw124 : k0_chk124 v1550), ∀ a x, ((![v1550] : Fin 1 → IVec S16 32) a x).toNat < S128.size a := fun v1550 k0_hw124 => k0_hw124

def k0_chk125 (v1546 : IVec S16 32) : Prop :=
  (∀ a x, ((![v1546] : Fin 1 → IVec S16 32) a x).toNat < S128.size a)
theorem k0_idx125_inb : ∀ (v1546 : IVec S16 32) (k0_hw125 : k0_chk125 v1546), ∀ a x, ((![v1546] : Fin 1 → IVec S16 32) a x).toNat < S128.size a := fun v1546 k0_hw125 => k0_hw125

def k0_chk126 (v1554 : IVec S16 32) : Prop :=
  (∀ a x, ((![v1554] : Fin 1 → IVec S16 32) a x).toNat < S128.size a)
theorem k0_idx126_inb : ∀ (v1554 : IVec S16 32) (k0_hw126 : k0_chk126 v1554), ∀ a x, ((![v1554] : Fin 1 → IVec S16 32) a x).toNat < S128.size a := fun v1554 k0_hw126 => k0_hw126

def k0_chk127 (v1592 : IVec S16 32) : Prop :=
  (∀ a x, ((![v1592] : Fin 1 → IVec S16 32) a x).toNat < S256.size a)
theorem k0_idx127_inb : ∀ (v1592 : IVec S16 32) (k0_hw127 : k0_chk127 v1592), ∀ a x, ((![v1592] : Fin 1 → IVec S16 32) a x).toNat < S256.size a := fun v1592 k0_hw127 => k0_hw127

def k0_chk128 (v1588 : IVec S16 32) : Prop :=
  (∀ a x, ((![v1588] : Fin 1 → IVec S16 32) a x).toNat < S256.size a)
theorem k0_idx128_inb : ∀ (v1588 : IVec S16 32) (k0_hw128 : k0_chk128 v1588), ∀ a x, ((![v1588] : Fin 1 → IVec S16 32) a x).toNat < S256.size a := fun v1588 k0_hw128 => k0_hw128

def k0_chk129 (v1596 : IVec S16 32) : Prop :=
  (∀ a x, ((![v1596] : Fin 1 → IVec S16 32) a x).toNat < S256.size a)
theorem k0_idx129_inb : ∀ (v1596 : IVec S16 32) (k0_hw129 : k0_chk129 v1596), ∀ a x, ((![v1596] : Fin 1 → IVec S16 32) a x).toNat < S256.size a := fun v1596 k0_hw129 => k0_hw129

def k0_chk130 (v1626 : IVec S16 32) : Prop :=
  (∀ a x, ((![v1626] : Fin 1 → IVec S16 32) a x).toNat < S128.size a)
theorem k0_idx130_inb : ∀ (v1626 : IVec S16 32) (k0_hw130 : k0_chk130 v1626), ∀ a x, ((![v1626] : Fin 1 → IVec S16 32) a x).toNat < S128.size a := fun v1626 k0_hw130 => k0_hw130

def k0_chk131 (v1622 : IVec S16 32) : Prop :=
  (∀ a x, ((![v1622] : Fin 1 → IVec S16 32) a x).toNat < S128.size a)
theorem k0_idx131_inb : ∀ (v1622 : IVec S16 32) (k0_hw131 : k0_chk131 v1622), ∀ a x, ((![v1622] : Fin 1 → IVec S16 32) a x).toNat < S128.size a := fun v1622 k0_hw131 => k0_hw131

def k0_chk132 (v1630 : IVec S16 32) : Prop :=
  (∀ a x, ((![v1630] : Fin 1 → IVec S16 32) a x).toNat < S128.size a)
theorem k0_idx132_inb : ∀ (v1630 : IVec S16 32) (k0_hw132 : k0_chk132 v1630), ∀ a x, ((![v1630] : Fin 1 → IVec S16 32) a x).toNat < S128.size a := fun v1630 k0_hw132 => k0_hw132

def k0_chk133 (v1662 : IVec S16 32) : Prop :=
  (∀ a x, ((![v1662] : Fin 1 → IVec S16 32) a x).toNat < S128.size a)
theorem k0_idx133_inb : ∀ (v1662 : IVec S16 32) (k0_hw133 : k0_chk133 v1662), ∀ a x, ((![v1662] : Fin 1 → IVec S16 32) a x).toNat < S128.size a := fun v1662 k0_hw133 => k0_hw133

def k0_chk134 (v1658 : IVec S16 32) : Prop :=
  (∀ a x, ((![v1658] : Fin 1 → IVec S16 32) a x).toNat < S128.size a)
theorem k0_idx134_inb : ∀ (v1658 : IVec S16 32) (k0_hw134 : k0_chk134 v1658), ∀ a x, ((![v1658] : Fin 1 → IVec S16 32) a x).toNat < S128.size a := fun v1658 k0_hw134 => k0_hw134

def k0_chk135 (v1666 : IVec S16 32) : Prop :=
  (∀ a x, ((![v1666] : Fin 1 → IVec S16 32) a x).toNat < S128.size a)
theorem k0_idx135_inb : ∀ (v1666 : IVec S16 32) (k0_hw135 : k0_chk135 v1666), ∀ a x, ((![v1666] : Fin 1 → IVec S16 32) a x).toNat < S128.size a := fun v1666 k0_hw135 => k0_hw135

def k0_chk136 (v1704 : IVec S16 32) : Prop :=
  (∀ a x, ((![v1704] : Fin 1 → IVec S16 32) a x).toNat < S256.size a)
theorem k0_idx136_inb : ∀ (v1704 : IVec S16 32) (k0_hw136 : k0_chk136 v1704), ∀ a x, ((![v1704] : Fin 1 → IVec S16 32) a x).toNat < S256.size a := fun v1704 k0_hw136 => k0_hw136

def k0_chk137 (v1700 : IVec S16 32) : Prop :=
  (∀ a x, ((![v1700] : Fin 1 → IVec S16 32) a x).toNat < S256.size a)
theorem k0_idx137_inb : ∀ (v1700 : IVec S16 32) (k0_hw137 : k0_chk137 v1700), ∀ a x, ((![v1700] : Fin 1 → IVec S16 32) a x).toNat < S256.size a := fun v1700 k0_hw137 => k0_hw137

def k0_chk138 (v1708 : IVec S16 32) : Prop :=
  (∀ a x, ((![v1708] : Fin 1 → IVec S16 32) a x).toNat < S256.size a)
theorem k0_idx138_inb : ∀ (v1708 : IVec S16 32) (k0_hw138 : k0_chk138 v1708), ∀ a x, ((![v1708] : Fin 1 → IVec S16 32) a x).toNat < S256.size a := fun v1708 k0_hw138 => k0_hw138

def k0_chk139 (v1738 : IVec S16 32) : Prop :=
  (∀ a x, ((![v1738] : Fin 1 → IVec S16 32) a x).toNat < S128.size a)
theorem k0_idx139_inb : ∀ (v1738 : IVec S16 32) (k0_hw139 : k0_chk139 v1738), ∀ a x, ((![v1738] : Fin 1 → IVec S16 32) a x).toNat < S128.size a := fun v1738 k0_hw139 => k0_hw139

def k0_chk140 (v1734 : IVec S16 32) : Prop :=
  (∀ a x, ((![v1734] : Fin 1 → IVec S16 32) a x).toNat < S128.size a)
theorem k0_idx140_inb : ∀ (v1734 : IVec S16 32) (k0_hw140 : k0_chk140 v1734), ∀ a x, ((![v1734] : Fin 1 → IVec S16 32) a x).toNat < S128.size a := fun v1734 k0_hw140 => k0_hw140

def k0_chk141 (v1742 : IVec S16 32) : Prop :=
  (∀ a x, ((![v1742] : Fin 1 → IVec S16 32) a x).toNat < S128.size a)
theorem k0_idx141_inb : ∀ (v1742 : IVec S16 32) (k0_hw141 : k0_chk141 v1742), ∀ a x, ((![v1742] : Fin 1 → IVec S16 32) a x).toNat < S128.size a := fun v1742 k0_hw141 => k0_hw141

def k0_chk142 (v1774 : IVec S16 32) : Prop :=
  (∀ a x, ((![v1774] : Fin 1 → IVec S16 32) a x).toNat < S128.size a)
theorem k0_idx142_inb : ∀ (v1774 : IVec S16 32) (k0_hw142 : k0_chk142 v1774), ∀ a x, ((![v1774] : Fin 1 → IVec S16 32) a x).toNat < S128.size a := fun v1774 k0_hw142 => k0_hw142

def k0_chk143 (v1770 : IVec S16 32) : Prop :=
  (∀ a x, ((![v1770] : Fin 1 → IVec S16 32) a x).toNat < S128.size a)
theorem k0_idx143_inb : ∀ (v1770 : IVec S16 32) (k0_hw143 : k0_chk143 v1770), ∀ a x, ((![v1770] : Fin 1 → IVec S16 32) a x).toNat < S128.size a := fun v1770 k0_hw143 => k0_hw143

def k0_chk144 (v1778 : IVec S16 32) : Prop :=
  (∀ a x, ((![v1778] : Fin 1 → IVec S16 32) a x).toNat < S128.size a)
theorem k0_idx144_inb : ∀ (v1778 : IVec S16 32) (k0_hw144 : k0_chk144 v1778), ∀ a x, ((![v1778] : Fin 1 → IVec S16 32) a x).toNat < S128.size a := fun v1778 k0_hw144 => k0_hw144

def k0_chk145 (v1822 : IVec S16 32) : Prop :=
  (∀ a x, ((![v1822] : Fin 1 → IVec S16 32) a x).toNat < S256.size a)
theorem k0_idx145_inb : ∀ (v1822 : IVec S16 32) (k0_hw145 : k0_chk145 v1822), ∀ a x, ((![v1822] : Fin 1 → IVec S16 32) a x).toNat < S256.size a := fun v1822 k0_hw145 => k0_hw145

def k0_chk146 (v1818 : IVec S16 32) : Prop :=
  (∀ a x, ((![v1818] : Fin 1 → IVec S16 32) a x).toNat < S256.size a)
theorem k0_idx146_inb : ∀ (v1818 : IVec S16 32) (k0_hw146 : k0_chk146 v1818), ∀ a x, ((![v1818] : Fin 1 → IVec S16 32) a x).toNat < S256.size a := fun v1818 k0_hw146 => k0_hw146

def k0_chk147 (v1826 : IVec S16 32) : Prop :=
  (∀ a x, ((![v1826] : Fin 1 → IVec S16 32) a x).toNat < S256.size a)
theorem k0_idx147_inb : ∀ (v1826 : IVec S16 32) (k0_hw147 : k0_chk147 v1826), ∀ a x, ((![v1826] : Fin 1 → IVec S16 32) a x).toNat < S256.size a := fun v1826 k0_hw147 => k0_hw147

def k0_chk148 (v1856 : IVec S16 32) : Prop :=
  (∀ a x, ((![v1856] : Fin 1 → IVec S16 32) a x).toNat < S128.size a)
theorem k0_idx148_inb : ∀ (v1856 : IVec S16 32) (k0_hw148 : k0_chk148 v1856), ∀ a x, ((![v1856] : Fin 1 → IVec S16 32) a x).toNat < S128.size a := fun v1856 k0_hw148 => k0_hw148

def k0_chk149 (v1852 : IVec S16 32) : Prop :=
  (∀ a x, ((![v1852] : Fin 1 → IVec S16 32) a x).toNat < S128.size a)
theorem k0_idx149_inb : ∀ (v1852 : IVec S16 32) (k0_hw149 : k0_chk149 v1852), ∀ a x, ((![v1852] : Fin 1 → IVec S16 32) a x).toNat < S128.size a := fun v1852 k0_hw149 => k0_hw149

def k0_chk150 (v1860 : IVec S16 32) : Prop :=
  (∀ a x, ((![v1860] : Fin 1 → IVec S16 32) a x).toNat < S128.size a)
theorem k0_idx150_inb : ∀ (v1860 : IVec S16 32) (k0_hw150 : k0_chk150 v1860), ∀ a x, ((![v1860] : Fin 1 → IVec S16 32) a x).toNat < S128.size a := fun v1860 k0_hw150 => k0_hw150

def k0_chk151 (v1892 : IVec S16 32) : Prop :=
  (∀ a x, ((![v1892] : Fin 1 → IVec S16 32) a x).toNat < S128.size a)
theorem k0_idx151_inb : ∀ (v1892 : IVec S16 32) (k0_hw151 : k0_chk151 v1892), ∀ a x, ((![v1892] : Fin 1 → IVec S16 32) a x).toNat < S128.size a := fun v1892 k0_hw151 => k0_hw151

def k0_chk152 (v1888 : IVec S16 32) : Prop :=
  (∀ a x, ((![v1888] : Fin 1 → IVec S16 32) a x).toNat < S128.size a)
theorem k0_idx152_inb : ∀ (v1888 : IVec S16 32) (k0_hw152 : k0_chk152 v1888), ∀ a x, ((![v1888] : Fin 1 → IVec S16 32) a x).toNat < S128.size a := fun v1888 k0_hw152 => k0_hw152

def k0_chk153 (v1896 : IVec S16 32) : Prop :=
  (∀ a x, ((![v1896] : Fin 1 → IVec S16 32) a x).toNat < S128.size a)
theorem k0_idx153_inb : ∀ (v1896 : IVec S16 32) (k0_hw153 : k0_chk153 v1896), ∀ a x, ((![v1896] : Fin 1 → IVec S16 32) a x).toNat < S128.size a := fun v1896 k0_hw153 => k0_hw153

def k0_chk154 (v1934 : IVec S16 32) : Prop :=
  (∀ a x, ((![v1934] : Fin 1 → IVec S16 32) a x).toNat < S256.size a)
theorem k0_idx154_inb : ∀ (v1934 : IVec S16 32) (k0_hw154 : k0_chk154 v1934), ∀ a x, ((![v1934] : Fin 1 → IVec S16 32) a x).toNat < S256.size a := fun v1934 k0_hw154 => k0_hw154

def k0_chk155 (v1930 : IVec S16 32) : Prop :=
  (∀ a x, ((![v1930] : Fin 1 → IVec S16 32) a x).toNat < S256.size a)
theorem k0_idx155_inb : ∀ (v1930 : IVec S16 32) (k0_hw155 : k0_chk155 v1930), ∀ a x, ((![v1930] : Fin 1 → IVec S16 32) a x).toNat < S256.size a := fun v1930 k0_hw155 => k0_hw155

def k0_chk156 (v1938 : IVec S16 32) : Prop :=
  (∀ a x, ((![v1938] : Fin 1 → IVec S16 32) a x).toNat < S256.size a)
theorem k0_idx156_inb : ∀ (v1938 : IVec S16 32) (k0_hw156 : k0_chk156 v1938), ∀ a x, ((![v1938] : Fin 1 → IVec S16 32) a x).toNat < S256.size a := fun v1938 k0_hw156 => k0_hw156

def k0_chk157 (v1968 : IVec S16 32) : Prop :=
  (∀ a x, ((![v1968] : Fin 1 → IVec S16 32) a x).toNat < S128.size a)
theorem k0_idx157_inb : ∀ (v1968 : IVec S16 32) (k0_hw157 : k0_chk157 v1968), ∀ a x, ((![v1968] : Fin 1 → IVec S16 32) a x).toNat < S128.size a := fun v1968 k0_hw157 => k0_hw157

def k0_chk158 (v1964 : IVec S16 32) : Prop :=
  (∀ a x, ((![v1964] : Fin 1 → IVec S16 32) a x).toNat < S128.size a)
theorem k0_idx158_inb : ∀ (v1964 : IVec S16 32) (k0_hw158 : k0_chk158 v1964), ∀ a x, ((![v1964] : Fin 1 → IVec S16 32) a x).toNat < S128.size a := fun v1964 k0_hw158 => k0_hw158

def k0_chk159 (v1972 : IVec S16 32) : Prop :=
  (∀ a x, ((![v1972] : Fin 1 → IVec S16 32) a x).toNat < S128.size a)
theorem k0_idx159_inb : ∀ (v1972 : IVec S16 32) (k0_hw159 : k0_chk159 v1972), ∀ a x, ((![v1972] : Fin 1 → IVec S16 32) a x).toNat < S128.size a := fun v1972 k0_hw159 => k0_hw159

def k0_chk160 (v2004 : IVec S16 32) : Prop :=
  (∀ a x, ((![v2004] : Fin 1 → IVec S16 32) a x).toNat < S128.size a)
theorem k0_idx160_inb : ∀ (v2004 : IVec S16 32) (k0_hw160 : k0_chk160 v2004), ∀ a x, ((![v2004] : Fin 1 → IVec S16 32) a x).toNat < S128.size a := fun v2004 k0_hw160 => k0_hw160

def k0_chk161 (v2000 : IVec S16 32) : Prop :=
  (∀ a x, ((![v2000] : Fin 1 → IVec S16 32) a x).toNat < S128.size a)
theorem k0_idx161_inb : ∀ (v2000 : IVec S16 32) (k0_hw161 : k0_chk161 v2000), ∀ a x, ((![v2000] : Fin 1 → IVec S16 32) a x).toNat < S128.size a := fun v2000 k0_hw161 => k0_hw161

def k0_chk162 (v2008 : IVec S16 32) : Prop :=
  (∀ a x, ((![v2008] : Fin 1 → IVec S16 32) a x).toNat < S128.size a)
theorem k0_idx162_inb : ∀ (v2008 : IVec S16 32) (k0_hw162 : k0_chk162 v2008), ∀ a x, ((![v2008] : Fin 1 → IVec S16 32) a x).toNat < S128.size a := fun v2008 k0_hw162 => k0_hw162

def k0_chk163 (v2046 : IVec S16 32) : Prop :=
  (∀ a x, ((![v2046] : Fin 1 → IVec S16 32) a x).toNat < S256.size a)
theorem k0_idx163_inb : ∀ (v2046 : IVec S16 32) (k0_hw163 : k0_chk163 v2046), ∀ a x, ((![v2046] : Fin 1 → IVec S16 32) a x).toNat < S256.size a := fun v2046 k0_hw163 => k0_hw163

def k0_chk164 (v2042 : IVec S16 32) : Prop :=
  (∀ a x, ((![v2042] : Fin 1 → IVec S16 32) a x).toNat < S256.size a)
theorem k0_idx164_inb : ∀ (v2042 : IVec S16 32) (k0_hw164 : k0_chk164 v2042), ∀ a x, ((![v2042] : Fin 1 → IVec S16 32) a x).toNat < S256.size a := fun v2042 k0_hw164 => k0_hw164

def k0_chk165 (v2050 : IVec S16 32) : Prop :=
  (∀ a x, ((![v2050] : Fin 1 → IVec S16 32) a x).toNat < S256.size a)
theorem k0_idx165_inb : ∀ (v2050 : IVec S16 32) (k0_hw165 : k0_chk165 v2050), ∀ a x, ((![v2050] : Fin 1 → IVec S16 32) a x).toNat < S256.size a := fun v2050 k0_hw165 => k0_hw165

def k0_chk166 (v2080 : IVec S16 32) : Prop :=
  (∀ a x, ((![v2080] : Fin 1 → IVec S16 32) a x).toNat < S128.size a)
theorem k0_idx166_inb : ∀ (v2080 : IVec S16 32) (k0_hw166 : k0_chk166 v2080), ∀ a x, ((![v2080] : Fin 1 → IVec S16 32) a x).toNat < S128.size a := fun v2080 k0_hw166 => k0_hw166

def k0_chk167 (v2076 : IVec S16 32) : Prop :=
  (∀ a x, ((![v2076] : Fin 1 → IVec S16 32) a x).toNat < S128.size a)
theorem k0_idx167_inb : ∀ (v2076 : IVec S16 32) (k0_hw167 : k0_chk167 v2076), ∀ a x, ((![v2076] : Fin 1 → IVec S16 32) a x).toNat < S128.size a := fun v2076 k0_hw167 => k0_hw167

def k0_chk168 (v2084 : IVec S16 32) : Prop :=
  (∀ a x, ((![v2084] : Fin 1 → IVec S16 32) a x).toNat < S128.size a)
theorem k0_idx168_inb : ∀ (v2084 : IVec S16 32) (k0_hw168 : k0_chk168 v2084), ∀ a x, ((![v2084] : Fin 1 → IVec S16 32) a x).toNat < S128.size a := fun v2084 k0_hw168 => k0_hw168

def k0_chk169 (v2116 : IVec S16 32) : Prop :=
  (∀ a x, ((![v2116] : Fin 1 → IVec S16 32) a x).toNat < S128.size a)
theorem k0_idx169_inb : ∀ (v2116 : IVec S16 32) (k0_hw169 : k0_chk169 v2116), ∀ a x, ((![v2116] : Fin 1 → IVec S16 32) a x).toNat < S128.size a := fun v2116 k0_hw169 => k0_hw169

def k0_chk170 (v2112 : IVec S16 32) : Prop :=
  (∀ a x, ((![v2112] : Fin 1 → IVec S16 32) a x).toNat < S128.size a)
theorem k0_idx170_inb : ∀ (v2112 : IVec S16 32) (k0_hw170 : k0_chk170 v2112), ∀ a x, ((![v2112] : Fin 1 → IVec S16 32) a x).toNat < S128.size a := fun v2112 k0_hw170 => k0_hw170

def k0_chk171 (v2120 : IVec S16 32) : Prop :=
  (∀ a x, ((![v2120] : Fin 1 → IVec S16 32) a x).toNat < S128.size a)
theorem k0_idx171_inb : ∀ (v2120 : IVec S16 32) (k0_hw171 : k0_chk171 v2120), ∀ a x, ((![v2120] : Fin 1 → IVec S16 32) a x).toNat < S128.size a := fun v2120 k0_hw171 => k0_hw171

def k0_chk172 (v2158 : IVec S16 32) : Prop :=
  (∀ a x, ((![v2158] : Fin 1 → IVec S16 32) a x).toNat < S256.size a)
theorem k0_idx172_inb : ∀ (v2158 : IVec S16 32) (k0_hw172 : k0_chk172 v2158), ∀ a x, ((![v2158] : Fin 1 → IVec S16 32) a x).toNat < S256.size a := fun v2158 k0_hw172 => k0_hw172

def k0_chk173 (v2154 : IVec S16 32) : Prop :=
  (∀ a x, ((![v2154] : Fin 1 → IVec S16 32) a x).toNat < S256.size a)
theorem k0_idx173_inb : ∀ (v2154 : IVec S16 32) (k0_hw173 : k0_chk173 v2154), ∀ a x, ((![v2154] : Fin 1 → IVec S16 32) a x).toNat < S256.size a := fun v2154 k0_hw173 => k0_hw173

def k0_chk174 (v2162 : IVec S16 32) : Prop :=
  (∀ a x, ((![v2162] : Fin 1 → IVec S16 32) a x).toNat < S256.size a)
theorem k0_idx174_inb : ∀ (v2162 : IVec S16 32) (k0_hw174 : k0_chk174 v2162), ∀ a x, ((![v2162] : Fin 1 → IVec S16 32) a x).toNat < S256.size a := fun v2162 k0_hw174 => k0_hw174

def k0_chk175 (v2192 : IVec S16 32) : Prop :=
  (∀ a x, ((![v2192] : Fin 1 → IVec S16 32) a x).toNat < S128.size a)
theorem k0_idx175_inb : ∀ (v2192 : IVec S16 32) (k0_hw175 : k0_chk175 v2192), ∀ a x, ((![v2192] : Fin 1 → IVec S16 32) a x).toNat < S128.size a := fun v2192 k0_hw175 => k0_hw175

def k0_chk176 (v2188 : IVec S16 32) : Prop :=
  (∀ a x, ((![v2188] : Fin 1 → IVec S16 32) a x).toNat < S128.size a)
theorem k0_idx176_inb : ∀ (v2188 : IVec S16 32) (k0_hw176 : k0_chk176 v2188), ∀ a x, ((![v2188] : Fin 1 → IVec S16 32) a x).toNat < S128.size a := fun v2188 k0_hw176 => k0_hw176

def k0_chk177 (v2196 : IVec S16 32) : Prop :=
  (∀ a x, ((![v2196] : Fin 1 → IVec S16 32) a x).toNat < S128.size a)
theorem k0_idx177_inb : ∀ (v2196 : IVec S16 32) (k0_hw177 : k0_chk177 v2196), ∀ a x, ((![v2196] : Fin 1 → IVec S16 32) a x).toNat < S128.size a := fun v2196 k0_hw177 => k0_hw177

def k0_chk178 (v2228 : IVec S16 32) : Prop :=
  (∀ a x, ((![v2228] : Fin 1 → IVec S16 32) a x).toNat < S128.size a)
theorem k0_idx178_inb : ∀ (v2228 : IVec S16 32) (k0_hw178 : k0_chk178 v2228), ∀ a x, ((![v2228] : Fin 1 → IVec S16 32) a x).toNat < S128.size a := fun v2228 k0_hw178 => k0_hw178

def k0_chk179 (v2224 : IVec S16 32) : Prop :=
  (∀ a x, ((![v2224] : Fin 1 → IVec S16 32) a x).toNat < S128.size a)
theorem k0_idx179_inb : ∀ (v2224 : IVec S16 32) (k0_hw179 : k0_chk179 v2224), ∀ a x, ((![v2224] : Fin 1 → IVec S16 32) a x).toNat < S128.size a := fun v2224 k0_hw179 => k0_hw179

def k0_chk180 (v2232 : IVec S16 32) : Prop :=
  (∀ a x, ((![v2232] : Fin 1 → IVec S16 32) a x).toNat < S128.size a)
theorem k0_idx180_inb : ∀ (v2232 : IVec S16 32) (k0_hw180 : k0_chk180 v2232), ∀ a x, ((![v2232] : Fin 1 → IVec S16 32) a x).toNat < S128.size a := fun v2232 k0_hw180 => k0_hw180

def k0_chk181 (v2270 : IVec S16 32) : Prop :=
  (∀ a x, ((![v2270] : Fin 1 → IVec S16 32) a x).toNat < S256.size a)
theorem k0_idx181_inb : ∀ (v2270 : IVec S16 32) (k0_hw181 : k0_chk181 v2270), ∀ a x, ((![v2270] : Fin 1 → IVec S16 32) a x).toNat < S256.size a := fun v2270 k0_hw181 => k0_hw181

def k0_chk182 (v2266 : IVec S16 32) : Prop :=
  (∀ a x, ((![v2266] : Fin 1 → IVec S16 32) a x).toNat < S256.size a)
theorem k0_idx182_inb : ∀ (v2266 : IVec S16 32) (k0_hw182 : k0_chk182 v2266), ∀ a x, ((![v2266] : Fin 1 → IVec S16 32) a x).toNat < S256.size a := fun v2266 k0_hw182 => k0_hw182

def k0_chk183 (v2274 : IVec S16 32) : Prop :=
  (∀ a x, ((![v2274] : Fin 1 → IVec S16 32) a x).toNat < S256.size a)
theorem k0_idx183_inb : ∀ (v2274 : IVec S16 32) (k0_hw183 : k0_chk183 v2274), ∀ a x, ((![v2274] : Fin 1 → IVec S16 32) a x).toNat < S256.size a := fun v2274 k0_hw183 => k0_hw183

def k0_chk184 (v2304 : IVec S16 32) : Prop :=
  (∀ a x, ((![v2304] : Fin 1 → IVec S16 32) a x).toNat < S128.size a)
theorem k0_idx184_inb : ∀ (v2304 : IVec S16 32) (k0_hw184 : k0_chk184 v2304), ∀ a x, ((![v2304] : Fin 1 → IVec S16 32) a x).toNat < S128.size a := fun v2304 k0_hw184 => k0_hw184

def k0_chk185 (v2300 : IVec S16 32) : Prop :=
  (∀ a x, ((![v2300] : Fin 1 → IVec S16 32) a x).toNat < S128.size a)
theorem k0_idx185_inb : ∀ (v2300 : IVec S16 32) (k0_hw185 : k0_chk185 v2300), ∀ a x, ((![v2300] : Fin 1 → IVec S16 32) a x).toNat < S128.size a := fun v2300 k0_hw185 => k0_hw185

def k0_chk186 (v2308 : IVec S16 32) : Prop :=
  (∀ a x, ((![v2308] : Fin 1 → IVec S16 32) a x).toNat < S128.size a)
theorem k0_idx186_inb : ∀ (v2308 : IVec S16 32) (k0_hw186 : k0_chk186 v2308), ∀ a x, ((![v2308] : Fin 1 → IVec S16 32) a x).toNat < S128.size a := fun v2308 k0_hw186 => k0_hw186

def k0_chk187 (v2340 : IVec S16 32) : Prop :=
  (∀ a x, ((![v2340] : Fin 1 → IVec S16 32) a x).toNat < S128.size a)
theorem k0_idx187_inb : ∀ (v2340 : IVec S16 32) (k0_hw187 : k0_chk187 v2340), ∀ a x, ((![v2340] : Fin 1 → IVec S16 32) a x).toNat < S128.size a := fun v2340 k0_hw187 => k0_hw187

def k0_chk188 (v2336 : IVec S16 32) : Prop :=
  (∀ a x, ((![v2336] : Fin 1 → IVec S16 32) a x).toNat < S128.size a)
theorem k0_idx188_inb : ∀ (v2336 : IVec S16 32) (k0_hw188 : k0_chk188 v2336), ∀ a x, ((![v2336] : Fin 1 → IVec S16 32) a x).toNat < S128.size a := fun v2336 k0_hw188 => k0_hw188

def k0_chk189 (v2344 : IVec S16 32) : Prop :=
  (∀ a x, ((![v2344] : Fin 1 → IVec S16 32) a x).toNat < S128.size a)
theorem k0_idx189_inb : ∀ (v2344 : IVec S16 32) (k0_hw189 : k0_chk189 v2344), ∀ a x, ((![v2344] : Fin 1 → IVec S16 32) a x).toNat < S128.size a := fun v2344 k0_hw189 => k0_hw189

def k0_chk190 (v2382 : IVec S16 32) : Prop :=
  (∀ a x, ((![v2382] : Fin 1 → IVec S16 32) a x).toNat < S256.size a)
theorem k0_idx190_inb : ∀ (v2382 : IVec S16 32) (k0_hw190 : k0_chk190 v2382), ∀ a x, ((![v2382] : Fin 1 → IVec S16 32) a x).toNat < S256.size a := fun v2382 k0_hw190 => k0_hw190

def k0_chk191 (v2378 : IVec S16 32) : Prop :=
  (∀ a x, ((![v2378] : Fin 1 → IVec S16 32) a x).toNat < S256.size a)
theorem k0_idx191_inb : ∀ (v2378 : IVec S16 32) (k0_hw191 : k0_chk191 v2378), ∀ a x, ((![v2378] : Fin 1 → IVec S16 32) a x).toNat < S256.size a := fun v2378 k0_hw191 => k0_hw191

def k0_chk192 (v2386 : IVec S16 32) : Prop :=
  (∀ a x, ((![v2386] : Fin 1 → IVec S16 32) a x).toNat < S256.size a)
theorem k0_idx192_inb : ∀ (v2386 : IVec S16 32) (k0_hw192 : k0_chk192 v2386), ∀ a x, ((![v2386] : Fin 1 → IVec S16 32) a x).toNat < S256.size a := fun v2386 k0_hw192 => k0_hw192

def k0_chk193 (v2416 : IVec S16 32) : Prop :=
  (∀ a x, ((![v2416] : Fin 1 → IVec S16 32) a x).toNat < S128.size a)
theorem k0_idx193_inb : ∀ (v2416 : IVec S16 32) (k0_hw193 : k0_chk193 v2416), ∀ a x, ((![v2416] : Fin 1 → IVec S16 32) a x).toNat < S128.size a := fun v2416 k0_hw193 => k0_hw193

def k0_chk194 (v2412 : IVec S16 32) : Prop :=
  (∀ a x, ((![v2412] : Fin 1 → IVec S16 32) a x).toNat < S128.size a)
theorem k0_idx194_inb : ∀ (v2412 : IVec S16 32) (k0_hw194 : k0_chk194 v2412), ∀ a x, ((![v2412] : Fin 1 → IVec S16 32) a x).toNat < S128.size a := fun v2412 k0_hw194 => k0_hw194

def k0_chk195 (v2420 : IVec S16 32) : Prop :=
  (∀ a x, ((![v2420] : Fin 1 → IVec S16 32) a x).toNat < S128.size a)
theorem k0_idx195_inb : ∀ (v2420 : IVec S16 32) (k0_hw195 : k0_chk195 v2420), ∀ a x, ((![v2420] : Fin 1 → IVec S16 32) a x).toNat < S128.size a := fun v2420 k0_hw195 => k0_hw195

def k0_chk196 (v2452 : IVec S16 32) : Prop :=
  (∀ a x, ((![v2452] : Fin 1 → IVec S16 32) a x).toNat < S128.size a)
theorem k0_idx196_inb : ∀ (v2452 : IVec S16 32) (k0_hw196 : k0_chk196 v2452), ∀ a x, ((![v2452] : Fin 1 → IVec S16 32) a x).toNat < S128.size a := fun v2452 k0_hw196 => k0_hw196

def k0_chk197 (v2448 : IVec S16 32) : Prop :=
  (∀ a x, ((![v2448] : Fin 1 → IVec S16 32) a x).toNat < S128.size a)
theorem k0_idx197_inb : ∀ (v2448 : IVec S16 32) (k0_hw197 : k0_chk197 v2448), ∀ a x, ((![v2448] : Fin 1 → IVec S16 32) a x).toNat < S128.size a := fun v2448 k0_hw197 => k0_hw197

def k0_chk198 (v2456 : IVec S16 32) : Prop :=
  (∀ a x, ((![v2456] : Fin 1 → IVec S16 32) a x).toNat < S128.size a)
theorem k0_idx198_inb : ∀ (v2456 : IVec S16 32) (k0_hw198 : k0_chk198 v2456), ∀ a x, ((![v2456] : Fin 1 → IVec S16 32) a x).toNat < S128.size a := fun v2456 k0_hw198 => k0_hw198

def k0_chk199 (v2494 : IVec S16 32) : Prop :=
  (∀ a x, ((![v2494] : Fin 1 → IVec S16 32) a x).toNat < S256.size a)
theorem k0_idx199_inb : ∀ (v2494 : IVec S16 32) (k0_hw199 : k0_chk199 v2494), ∀ a x, ((![v2494] : Fin 1 → IVec S16 32) a x).toNat < S256.size a := fun v2494 k0_hw199 => k0_hw199

def k0_chk200 (v2490 : IVec S16 32) : Prop :=
  (∀ a x, ((![v2490] : Fin 1 → IVec S16 32) a x).toNat < S256.size a)
theorem k0_idx200_inb : ∀ (v2490 : IVec S16 32) (k0_hw200 : k0_chk200 v2490), ∀ a x, ((![v2490] : Fin 1 → IVec S16 32) a x).toNat < S256.size a := fun v2490 k0_hw200 => k0_hw200

def k0_chk201 (v2498 : IVec S16 32) : Prop :=
  (∀ a x, ((![v2498] : Fin 1 → IVec S16 32) a x).toNat < S256.size a)
theorem k0_idx201_inb : ∀ (v2498 : IVec S16 32) (k0_hw201 : k0_chk201 v2498), ∀ a x, ((![v2498] : Fin 1 → IVec S16 32) a x).toNat < S256.size a := fun v2498 k0_hw201 => k0_hw201

def k0_chk202 (v2528 : IVec S16 32) : Prop :=
  (∀ a x, ((![v2528] : Fin 1 → IVec S16 32) a x).toNat < S128.size a)
theorem k0_idx202_inb : ∀ (v2528 : IVec S16 32) (k0_hw202 : k0_chk202 v2528), ∀ a x, ((![v2528] : Fin 1 → IVec S16 32) a x).toNat < S128.size a := fun v2528 k0_hw202 => k0_hw202

def k0_chk203 (v2524 : IVec S16 32) : Prop :=
  (∀ a x, ((![v2524] : Fin 1 → IVec S16 32) a x).toNat < S128.size a)
theorem k0_idx203_inb : ∀ (v2524 : IVec S16 32) (k0_hw203 : k0_chk203 v2524), ∀ a x, ((![v2524] : Fin 1 → IVec S16 32) a x).toNat < S128.size a := fun v2524 k0_hw203 => k0_hw203

def k0_chk204 (v2532 : IVec S16 32) : Prop :=
  (∀ a x, ((![v2532] : Fin 1 → IVec S16 32) a x).toNat < S128.size a)
theorem k0_idx204_inb : ∀ (v2532 : IVec S16 32) (k0_hw204 : k0_chk204 v2532), ∀ a x, ((![v2532] : Fin 1 → IVec S16 32) a x).toNat < S128.size a := fun v2532 k0_hw204 => k0_hw204

def k0_chk205 (v2564 : IVec S16 32) : Prop :=
  (∀ a x, ((![v2564] : Fin 1 → IVec S16 32) a x).toNat < S128.size a)
theorem k0_idx205_inb : ∀ (v2564 : IVec S16 32) (k0_hw205 : k0_chk205 v2564), ∀ a x, ((![v2564] : Fin 1 → IVec S16 32) a x).toNat < S128.size a := fun v2564 k0_hw205 => k0_hw205

def k0_chk206 (v2560 : IVec S16 32) : Prop :=
  (∀ a x, ((![v2560] : Fin 1 → IVec S16 32) a x).toNat < S128.size a)
theorem k0_idx206_inb : ∀ (v2560 : IVec S16 32) (k0_hw206 : k0_chk206 v2560), ∀ a x, ((![v2560] : Fin 1 → IVec S16 32) a x).toNat < S128.size a := fun v2560 k0_hw206 => k0_hw206

def k0_chk207 (v2568 : IVec S16 32) : Prop :=
  (∀ a x, ((![v2568] : Fin 1 → IVec S16 32) a x).toNat < S128.size a)
theorem k0_idx207_inb : ∀ (v2568 : IVec S16 32) (k0_hw207 : k0_chk207 v2568), ∀ a x, ((![v2568] : Fin 1 → IVec S16 32) a x).toNat < S128.size a := fun v2568 k0_hw207 => k0_hw207

def k0_chk208 (v2606 : IVec S16 32) : Prop :=
  (∀ a x, ((![v2606] : Fin 1 → IVec S16 32) a x).toNat < S256.size a)
theorem k0_idx208_inb : ∀ (v2606 : IVec S16 32) (k0_hw208 : k0_chk208 v2606), ∀ a x, ((![v2606] : Fin 1 → IVec S16 32) a x).toNat < S256.size a := fun v2606 k0_hw208 => k0_hw208

def k0_chk209 (v2602 : IVec S16 32) : Prop :=
  (∀ a x, ((![v2602] : Fin 1 → IVec S16 32) a x).toNat < S256.size a)
theorem k0_idx209_inb : ∀ (v2602 : IVec S16 32) (k0_hw209 : k0_chk209 v2602), ∀ a x, ((![v2602] : Fin 1 → IVec S16 32) a x).toNat < S256.size a := fun v2602 k0_hw209 => k0_hw209

def k0_chk210 (v2610 : IVec S16 32) : Prop :=
  (∀ a x, ((![v2610] : Fin 1 → IVec S16 32) a x).toNat < S256.size a)
theorem k0_idx210_inb : ∀ (v2610 : IVec S16 32) (k0_hw210 : k0_chk210 v2610), ∀ a x, ((![v2610] : Fin 1 → IVec S16 32) a x).toNat < S256.size a := fun v2610 k0_hw210 => k0_hw210

def k0_chk211 (v2640 : IVec S16 32) : Prop :=
  (∀ a x, ((![v2640] : Fin 1 → IVec S16 32) a x).toNat < S128.size a)
theorem k0_idx211_inb : ∀ (v2640 : IVec S16 32) (k0_hw211 : k0_chk211 v2640), ∀ a x, ((![v2640] : Fin 1 → IVec S16 32) a x).toNat < S128.size a := fun v2640 k0_hw211 => k0_hw211

def k0_chk212 (v2636 : IVec S16 32) : Prop :=
  (∀ a x, ((![v2636] : Fin 1 → IVec S16 32) a x).toNat < S128.size a)
theorem k0_idx212_inb : ∀ (v2636 : IVec S16 32) (k0_hw212 : k0_chk212 v2636), ∀ a x, ((![v2636] : Fin 1 → IVec S16 32) a x).toNat < S128.size a := fun v2636 k0_hw212 => k0_hw212

def k0_chk213 (v2644 : IVec S16 32) : Prop :=
  (∀ a x, ((![v2644] : Fin 1 → IVec S16 32) a x).toNat < S128.size a)
theorem k0_idx213_inb : ∀ (v2644 : IVec S16 32) (k0_hw213 : k0_chk213 v2644), ∀ a x, ((![v2644] : Fin 1 → IVec S16 32) a x).toNat < S128.size a := fun v2644 k0_hw213 => k0_hw213

def k0_chk214 (v2676 : IVec S16 32) : Prop :=
  (∀ a x, ((![v2676] : Fin 1 → IVec S16 32) a x).toNat < S128.size a)
theorem k0_idx214_inb : ∀ (v2676 : IVec S16 32) (k0_hw214 : k0_chk214 v2676), ∀ a x, ((![v2676] : Fin 1 → IVec S16 32) a x).toNat < S128.size a := fun v2676 k0_hw214 => k0_hw214

def k0_chk215 (v2672 : IVec S16 32) : Prop :=
  (∀ a x, ((![v2672] : Fin 1 → IVec S16 32) a x).toNat < S128.size a)
theorem k0_idx215_inb : ∀ (v2672 : IVec S16 32) (k0_hw215 : k0_chk215 v2672), ∀ a x, ((![v2672] : Fin 1 → IVec S16 32) a x).toNat < S128.size a := fun v2672 k0_hw215 => k0_hw215

def k0_chk216 (v2680 : IVec S16 32) : Prop :=
  (∀ a x, ((![v2680] : Fin 1 → IVec S16 32) a x).toNat < S128.size a)
theorem k0_idx216_inb : ∀ (v2680 : IVec S16 32) (k0_hw216 : k0_chk216 v2680), ∀ a x, ((![v2680] : Fin 1 → IVec S16 32) a x).toNat < S128.size a := fun v2680 k0_hw216 => k0_hw216

def k0_chk217 (v2724 : IVec S16 32) : Prop :=
  (∀ a x, ((![v2724] : Fin 1 → IVec S16 32) a x).toNat < S256.size a)
theorem k0_idx217_inb : ∀ (v2724 : IVec S16 32) (k0_hw217 : k0_chk217 v2724), ∀ a x, ((![v2724] : Fin 1 → IVec S16 32) a x).toNat < S256.size a := fun v2724 k0_hw217 => k0_hw217

def k0_chk218 (v2720 : IVec S16 32) : Prop :=
  (∀ a x, ((![v2720] : Fin 1 → IVec S16 32) a x).toNat < S256.size a)
theorem k0_idx218_inb : ∀ (v2720 : IVec S16 32) (k0_hw218 : k0_chk218 v2720), ∀ a x, ((![v2720] : Fin 1 → IVec S16 32) a x).toNat < S256.size a := fun v2720 k0_hw218 => k0_hw218

def k0_chk219 (v2728 : IVec S16 32) : Prop :=
  (∀ a x, ((![v2728] : Fin 1 → IVec S16 32) a x).toNat < S256.size a)
theorem k0_idx219_inb : ∀ (v2728 : IVec S16 32) (k0_hw219 : k0_chk219 v2728), ∀ a x, ((![v2728] : Fin 1 → IVec S16 32) a x).toNat < S256.size a := fun v2728 k0_hw219 => k0_hw219

def k0_chk220 (v2758 : IVec S16 32) : Prop :=
  (∀ a x, ((![v2758] : Fin 1 → IVec S16 32) a x).toNat < S128.size a)
theorem k0_idx220_inb : ∀ (v2758 : IVec S16 32) (k0_hw220 : k0_chk220 v2758), ∀ a x, ((![v2758] : Fin 1 → IVec S16 32) a x).toNat < S128.size a := fun v2758 k0_hw220 => k0_hw220

def k0_chk221 (v2754 : IVec S16 32) : Prop :=
  (∀ a x, ((![v2754] : Fin 1 → IVec S16 32) a x).toNat < S128.size a)
theorem k0_idx221_inb : ∀ (v2754 : IVec S16 32) (k0_hw221 : k0_chk221 v2754), ∀ a x, ((![v2754] : Fin 1 → IVec S16 32) a x).toNat < S128.size a := fun v2754 k0_hw221 => k0_hw221

def k0_chk222 (v2762 : IVec S16 32) : Prop :=
  (∀ a x, ((![v2762] : Fin 1 → IVec S16 32) a x).toNat < S128.size a)
theorem k0_idx222_inb : ∀ (v2762 : IVec S16 32) (k0_hw222 : k0_chk222 v2762), ∀ a x, ((![v2762] : Fin 1 → IVec S16 32) a x).toNat < S128.size a := fun v2762 k0_hw222 => k0_hw222

def k0_chk223 (v2794 : IVec S16 32) : Prop :=
  (∀ a x, ((![v2794] : Fin 1 → IVec S16 32) a x).toNat < S128.size a)
theorem k0_idx223_inb : ∀ (v2794 : IVec S16 32) (k0_hw223 : k0_chk223 v2794), ∀ a x, ((![v2794] : Fin 1 → IVec S16 32) a x).toNat < S128.size a := fun v2794 k0_hw223 => k0_hw223

def k0_chk224 (v2790 : IVec S16 32) : Prop :=
  (∀ a x, ((![v2790] : Fin 1 → IVec S16 32) a x).toNat < S128.size a)
theorem k0_idx224_inb : ∀ (v2790 : IVec S16 32) (k0_hw224 : k0_chk224 v2790), ∀ a x, ((![v2790] : Fin 1 → IVec S16 32) a x).toNat < S128.size a := fun v2790 k0_hw224 => k0_hw224

def k0_chk225 (v2798 : IVec S16 32) : Prop :=
  (∀ a x, ((![v2798] : Fin 1 → IVec S16 32) a x).toNat < S128.size a)
theorem k0_idx225_inb : ∀ (v2798 : IVec S16 32) (k0_hw225 : k0_chk225 v2798), ∀ a x, ((![v2798] : Fin 1 → IVec S16 32) a x).toNat < S128.size a := fun v2798 k0_hw225 => k0_hw225

def k0_chk226 (v2836 : IVec S16 32) : Prop :=
  (∀ a x, ((![v2836] : Fin 1 → IVec S16 32) a x).toNat < S256.size a)
theorem k0_idx226_inb : ∀ (v2836 : IVec S16 32) (k0_hw226 : k0_chk226 v2836), ∀ a x, ((![v2836] : Fin 1 → IVec S16 32) a x).toNat < S256.size a := fun v2836 k0_hw226 => k0_hw226

def k0_chk227 (v2832 : IVec S16 32) : Prop :=
  (∀ a x, ((![v2832] : Fin 1 → IVec S16 32) a x).toNat < S256.size a)
theorem k0_idx227_inb : ∀ (v2832 : IVec S16 32) (k0_hw227 : k0_chk227 v2832), ∀ a x, ((![v2832] : Fin 1 → IVec S16 32) a x).toNat < S256.size a := fun v2832 k0_hw227 => k0_hw227

def k0_chk228 (v2840 : IVec S16 32) : Prop :=
  (∀ a x, ((![v2840] : Fin 1 → IVec S16 32) a x).toNat < S256.size a)
theorem k0_idx228_inb : ∀ (v2840 : IVec S16 32) (k0_hw228 : k0_chk228 v2840), ∀ a x, ((![v2840] : Fin 1 → IVec S16 32) a x).toNat < S256.size a := fun v2840 k0_hw228 => k0_hw228

def k0_chk229 (v2870 : IVec S16 32) : Prop :=
  (∀ a x, ((![v2870] : Fin 1 → IVec S16 32) a x).toNat < S128.size a)
theorem k0_idx229_inb : ∀ (v2870 : IVec S16 32) (k0_hw229 : k0_chk229 v2870), ∀ a x, ((![v2870] : Fin 1 → IVec S16 32) a x).toNat < S128.size a := fun v2870 k0_hw229 => k0_hw229

def k0_chk230 (v2866 : IVec S16 32) : Prop :=
  (∀ a x, ((![v2866] : Fin 1 → IVec S16 32) a x).toNat < S128.size a)
theorem k0_idx230_inb : ∀ (v2866 : IVec S16 32) (k0_hw230 : k0_chk230 v2866), ∀ a x, ((![v2866] : Fin 1 → IVec S16 32) a x).toNat < S128.size a := fun v2866 k0_hw230 => k0_hw230

def k0_chk231 (v2874 : IVec S16 32) : Prop :=
  (∀ a x, ((![v2874] : Fin 1 → IVec S16 32) a x).toNat < S128.size a)
theorem k0_idx231_inb : ∀ (v2874 : IVec S16 32) (k0_hw231 : k0_chk231 v2874), ∀ a x, ((![v2874] : Fin 1 → IVec S16 32) a x).toNat < S128.size a := fun v2874 k0_hw231 => k0_hw231

def k0_chk232 (v2906 : IVec S16 32) : Prop :=
  (∀ a x, ((![v2906] : Fin 1 → IVec S16 32) a x).toNat < S128.size a)
theorem k0_idx232_inb : ∀ (v2906 : IVec S16 32) (k0_hw232 : k0_chk232 v2906), ∀ a x, ((![v2906] : Fin 1 → IVec S16 32) a x).toNat < S128.size a := fun v2906 k0_hw232 => k0_hw232

def k0_chk233 (v2902 : IVec S16 32) : Prop :=
  (∀ a x, ((![v2902] : Fin 1 → IVec S16 32) a x).toNat < S128.size a)
theorem k0_idx233_inb : ∀ (v2902 : IVec S16 32) (k0_hw233 : k0_chk233 v2902), ∀ a x, ((![v2902] : Fin 1 → IVec S16 32) a x).toNat < S128.size a := fun v2902 k0_hw233 => k0_hw233

def k0_chk234 (v2910 : IVec S16 32) : Prop :=
  (∀ a x, ((![v2910] : Fin 1 → IVec S16 32) a x).toNat < S128.size a)
theorem k0_idx234_inb : ∀ (v2910 : IVec S16 32) (k0_hw234 : k0_chk234 v2910), ∀ a x, ((![v2910] : Fin 1 → IVec S16 32) a x).toNat < S128.size a := fun v2910 k0_hw234 => k0_hw234

def k0_chk235 (v2948 : IVec S16 32) : Prop :=
  (∀ a x, ((![v2948] : Fin 1 → IVec S16 32) a x).toNat < S256.size a)
theorem k0_idx235_inb : ∀ (v2948 : IVec S16 32) (k0_hw235 : k0_chk235 v2948), ∀ a x, ((![v2948] : Fin 1 → IVec S16 32) a x).toNat < S256.size a := fun v2948 k0_hw235 => k0_hw235

def k0_chk236 (v2944 : IVec S16 32) : Prop :=
  (∀ a x, ((![v2944] : Fin 1 → IVec S16 32) a x).toNat < S256.size a)
theorem k0_idx236_inb : ∀ (v2944 : IVec S16 32) (k0_hw236 : k0_chk236 v2944), ∀ a x, ((![v2944] : Fin 1 → IVec S16 32) a x).toNat < S256.size a := fun v2944 k0_hw236 => k0_hw236

def k0_chk237 (v2952 : IVec S16 32) : Prop :=
  (∀ a x, ((![v2952] : Fin 1 → IVec S16 32) a x).toNat < S256.size a)
theorem k0_idx237_inb : ∀ (v2952 : IVec S16 32) (k0_hw237 : k0_chk237 v2952), ∀ a x, ((![v2952] : Fin 1 → IVec S16 32) a x).toNat < S256.size a := fun v2952 k0_hw237 => k0_hw237

def k0_chk238 (v2982 : IVec S16 32) : Prop :=
  (∀ a x, ((![v2982] : Fin 1 → IVec S16 32) a x).toNat < S128.size a)
theorem k0_idx238_inb : ∀ (v2982 : IVec S16 32) (k0_hw238 : k0_chk238 v2982), ∀ a x, ((![v2982] : Fin 1 → IVec S16 32) a x).toNat < S128.size a := fun v2982 k0_hw238 => k0_hw238

def k0_chk239 (v2978 : IVec S16 32) : Prop :=
  (∀ a x, ((![v2978] : Fin 1 → IVec S16 32) a x).toNat < S128.size a)
theorem k0_idx239_inb : ∀ (v2978 : IVec S16 32) (k0_hw239 : k0_chk239 v2978), ∀ a x, ((![v2978] : Fin 1 → IVec S16 32) a x).toNat < S128.size a := fun v2978 k0_hw239 => k0_hw239

def k0_chk240 (v2986 : IVec S16 32) : Prop :=
  (∀ a x, ((![v2986] : Fin 1 → IVec S16 32) a x).toNat < S128.size a)
theorem k0_idx240_inb : ∀ (v2986 : IVec S16 32) (k0_hw240 : k0_chk240 v2986), ∀ a x, ((![v2986] : Fin 1 → IVec S16 32) a x).toNat < S128.size a := fun v2986 k0_hw240 => k0_hw240

def k0_chk241 (v3018 : IVec S16 32) : Prop :=
  (∀ a x, ((![v3018] : Fin 1 → IVec S16 32) a x).toNat < S128.size a)
theorem k0_idx241_inb : ∀ (v3018 : IVec S16 32) (k0_hw241 : k0_chk241 v3018), ∀ a x, ((![v3018] : Fin 1 → IVec S16 32) a x).toNat < S128.size a := fun v3018 k0_hw241 => k0_hw241

def k0_chk242 (v3014 : IVec S16 32) : Prop :=
  (∀ a x, ((![v3014] : Fin 1 → IVec S16 32) a x).toNat < S128.size a)
theorem k0_idx242_inb : ∀ (v3014 : IVec S16 32) (k0_hw242 : k0_chk242 v3014), ∀ a x, ((![v3014] : Fin 1 → IVec S16 32) a x).toNat < S128.size a := fun v3014 k0_hw242 => k0_hw242

def k0_chk243 (v3022 : IVec S16 32) : Prop :=
  (∀ a x, ((![v3022] : Fin 1 → IVec S16 32) a x).toNat < S128.size a)
theorem k0_idx243_inb : ∀ (v3022 : IVec S16 32) (k0_hw243 : k0_chk243 v3022), ∀ a x, ((![v3022] : Fin 1 → IVec S16 32) a x).toNat < S128.size a := fun v3022 k0_hw243 => k0_hw243

def k0_chk244 (v3060 : IVec S16 32) : Prop :=
  (∀ a x, ((![v3060] : Fin 1 → IVec S16 32) a x).toNat < S256.size a)
theorem k0_idx244_inb : ∀ (v3060 : IVec S16 32) (k0_hw244 : k0_chk244 v3060), ∀ a x, ((![v3060] : Fin 1 → IVec S16 32) a x).toNat < S256.size a := fun v3060 k0_hw244 => k0_hw244

def k0_chk245 (v3056 : IVec S16 32) : Prop :=
  (∀ a x, ((![v3056] : Fin 1 → IVec S16 32) a x).toNat < S256.size a)
theorem k0_idx245_inb : ∀ (v3056 : IVec S16 32) (k0_hw245 : k0_chk245 v3056), ∀ a x, ((![v3056] : Fin 1 → IVec S16 32) a x).toNat < S256.size a := fun v3056 k0_hw245 => k0_hw245

def k0_chk246 (v3064 : IVec S16 32) : Prop :=
  (∀ a x, ((![v3064] : Fin 1 → IVec S16 32) a x).toNat < S256.size a)
theorem k0_idx246_inb : ∀ (v3064 : IVec S16 32) (k0_hw246 : k0_chk246 v3064), ∀ a x, ((![v3064] : Fin 1 → IVec S16 32) a x).toNat < S256.size a := fun v3064 k0_hw246 => k0_hw246

def k0_chk247 (v3094 : IVec S16 32) : Prop :=
  (∀ a x, ((![v3094] : Fin 1 → IVec S16 32) a x).toNat < S128.size a)
theorem k0_idx247_inb : ∀ (v3094 : IVec S16 32) (k0_hw247 : k0_chk247 v3094), ∀ a x, ((![v3094] : Fin 1 → IVec S16 32) a x).toNat < S128.size a := fun v3094 k0_hw247 => k0_hw247

def k0_chk248 (v3090 : IVec S16 32) : Prop :=
  (∀ a x, ((![v3090] : Fin 1 → IVec S16 32) a x).toNat < S128.size a)
theorem k0_idx248_inb : ∀ (v3090 : IVec S16 32) (k0_hw248 : k0_chk248 v3090), ∀ a x, ((![v3090] : Fin 1 → IVec S16 32) a x).toNat < S128.size a := fun v3090 k0_hw248 => k0_hw248

def k0_chk249 (v3098 : IVec S16 32) : Prop :=
  (∀ a x, ((![v3098] : Fin 1 → IVec S16 32) a x).toNat < S128.size a)
theorem k0_idx249_inb : ∀ (v3098 : IVec S16 32) (k0_hw249 : k0_chk249 v3098), ∀ a x, ((![v3098] : Fin 1 → IVec S16 32) a x).toNat < S128.size a := fun v3098 k0_hw249 => k0_hw249

def k0_chk250 (v3130 : IVec S16 32) : Prop :=
  (∀ a x, ((![v3130] : Fin 1 → IVec S16 32) a x).toNat < S128.size a)
theorem k0_idx250_inb : ∀ (v3130 : IVec S16 32) (k0_hw250 : k0_chk250 v3130), ∀ a x, ((![v3130] : Fin 1 → IVec S16 32) a x).toNat < S128.size a := fun v3130 k0_hw250 => k0_hw250

def k0_chk251 (v3126 : IVec S16 32) : Prop :=
  (∀ a x, ((![v3126] : Fin 1 → IVec S16 32) a x).toNat < S128.size a)
theorem k0_idx251_inb : ∀ (v3126 : IVec S16 32) (k0_hw251 : k0_chk251 v3126), ∀ a x, ((![v3126] : Fin 1 → IVec S16 32) a x).toNat < S128.size a := fun v3126 k0_hw251 => k0_hw251

def k0_chk252 (v3134 : IVec S16 32) : Prop :=
  (∀ a x, ((![v3134] : Fin 1 → IVec S16 32) a x).toNat < S128.size a)
theorem k0_idx252_inb : ∀ (v3134 : IVec S16 32) (k0_hw252 : k0_chk252 v3134), ∀ a x, ((![v3134] : Fin 1 → IVec S16 32) a x).toNat < S128.size a := fun v3134 k0_hw252 => k0_hw252

def k0_chk253 (v3172 : IVec S16 32) : Prop :=
  (∀ a x, ((![v3172] : Fin 1 → IVec S16 32) a x).toNat < S256.size a)
theorem k0_idx253_inb : ∀ (v3172 : IVec S16 32) (k0_hw253 : k0_chk253 v3172), ∀ a x, ((![v3172] : Fin 1 → IVec S16 32) a x).toNat < S256.size a := fun v3172 k0_hw253 => k0_hw253

def k0_chk254 (v3168 : IVec S16 32) : Prop :=
  (∀ a x, ((![v3168] : Fin 1 → IVec S16 32) a x).toNat < S256.size a)
theorem k0_idx254_inb : ∀ (v3168 : IVec S16 32) (k0_hw254 : k0_chk254 v3168), ∀ a x, ((![v3168] : Fin 1 → IVec S16 32) a x).toNat < S256.size a := fun v3168 k0_hw254 => k0_hw254

def k0_chk255 (v3176 : IVec S16 32) : Prop :=
  (∀ a x, ((![v3176] : Fin 1 → IVec S16 32) a x).toNat < S256.size a)
theorem k0_idx255_inb : ∀ (v3176 : IVec S16 32) (k0_hw255 : k0_chk255 v3176), ∀ a x, ((![v3176] : Fin 1 → IVec S16 32) a x).toNat < S256.size a := fun v3176 k0_hw255 => k0_hw255

def k0_chk256 (v3206 : IVec S16 32) : Prop :=
  (∀ a x, ((![v3206] : Fin 1 → IVec S16 32) a x).toNat < S128.size a)
theorem k0_idx256_inb : ∀ (v3206 : IVec S16 32) (k0_hw256 : k0_chk256 v3206), ∀ a x, ((![v3206] : Fin 1 → IVec S16 32) a x).toNat < S128.size a := fun v3206 k0_hw256 => k0_hw256

def k0_chk257 (v3202 : IVec S16 32) : Prop :=
  (∀ a x, ((![v3202] : Fin 1 → IVec S16 32) a x).toNat < S128.size a)
theorem k0_idx257_inb : ∀ (v3202 : IVec S16 32) (k0_hw257 : k0_chk257 v3202), ∀ a x, ((![v3202] : Fin 1 → IVec S16 32) a x).toNat < S128.size a := fun v3202 k0_hw257 => k0_hw257

def k0_chk258 (v3210 : IVec S16 32) : Prop :=
  (∀ a x, ((![v3210] : Fin 1 → IVec S16 32) a x).toNat < S128.size a)
theorem k0_idx258_inb : ∀ (v3210 : IVec S16 32) (k0_hw258 : k0_chk258 v3210), ∀ a x, ((![v3210] : Fin 1 → IVec S16 32) a x).toNat < S128.size a := fun v3210 k0_hw258 => k0_hw258

def k0_chk259 (v3242 : IVec S16 32) : Prop :=
  (∀ a x, ((![v3242] : Fin 1 → IVec S16 32) a x).toNat < S128.size a)
theorem k0_idx259_inb : ∀ (v3242 : IVec S16 32) (k0_hw259 : k0_chk259 v3242), ∀ a x, ((![v3242] : Fin 1 → IVec S16 32) a x).toNat < S128.size a := fun v3242 k0_hw259 => k0_hw259

def k0_chk260 (v3238 : IVec S16 32) : Prop :=
  (∀ a x, ((![v3238] : Fin 1 → IVec S16 32) a x).toNat < S128.size a)
theorem k0_idx260_inb : ∀ (v3238 : IVec S16 32) (k0_hw260 : k0_chk260 v3238), ∀ a x, ((![v3238] : Fin 1 → IVec S16 32) a x).toNat < S128.size a := fun v3238 k0_hw260 => k0_hw260

def k0_chk261 (v3246 : IVec S16 32) : Prop :=
  (∀ a x, ((![v3246] : Fin 1 → IVec S16 32) a x).toNat < S128.size a)
theorem k0_idx261_inb : ∀ (v3246 : IVec S16 32) (k0_hw261 : k0_chk261 v3246), ∀ a x, ((![v3246] : Fin 1 → IVec S16 32) a x).toNat < S128.size a := fun v3246 k0_hw261 => k0_hw261

def k0_chk262 (v3284 : IVec S16 32) : Prop :=
  (∀ a x, ((![v3284] : Fin 1 → IVec S16 32) a x).toNat < S256.size a)
theorem k0_idx262_inb : ∀ (v3284 : IVec S16 32) (k0_hw262 : k0_chk262 v3284), ∀ a x, ((![v3284] : Fin 1 → IVec S16 32) a x).toNat < S256.size a := fun v3284 k0_hw262 => k0_hw262

def k0_chk263 (v3280 : IVec S16 32) : Prop :=
  (∀ a x, ((![v3280] : Fin 1 → IVec S16 32) a x).toNat < S256.size a)
theorem k0_idx263_inb : ∀ (v3280 : IVec S16 32) (k0_hw263 : k0_chk263 v3280), ∀ a x, ((![v3280] : Fin 1 → IVec S16 32) a x).toNat < S256.size a := fun v3280 k0_hw263 => k0_hw263

def k0_chk264 (v3288 : IVec S16 32) : Prop :=
  (∀ a x, ((![v3288] : Fin 1 → IVec S16 32) a x).toNat < S256.size a)
theorem k0_idx264_inb : ∀ (v3288 : IVec S16 32) (k0_hw264 : k0_chk264 v3288), ∀ a x, ((![v3288] : Fin 1 → IVec S16 32) a x).toNat < S256.size a := fun v3288 k0_hw264 => k0_hw264

def k0_chk265 (v3318 : IVec S16 32) : Prop :=
  (∀ a x, ((![v3318] : Fin 1 → IVec S16 32) a x).toNat < S128.size a)
theorem k0_idx265_inb : ∀ (v3318 : IVec S16 32) (k0_hw265 : k0_chk265 v3318), ∀ a x, ((![v3318] : Fin 1 → IVec S16 32) a x).toNat < S128.size a := fun v3318 k0_hw265 => k0_hw265

def k0_chk266 (v3314 : IVec S16 32) : Prop :=
  (∀ a x, ((![v3314] : Fin 1 → IVec S16 32) a x).toNat < S128.size a)
theorem k0_idx266_inb : ∀ (v3314 : IVec S16 32) (k0_hw266 : k0_chk266 v3314), ∀ a x, ((![v3314] : Fin 1 → IVec S16 32) a x).toNat < S128.size a := fun v3314 k0_hw266 => k0_hw266

def k0_chk267 (v3322 : IVec S16 32) : Prop :=
  (∀ a x, ((![v3322] : Fin 1 → IVec S16 32) a x).toNat < S128.size a)
theorem k0_idx267_inb : ∀ (v3322 : IVec S16 32) (k0_hw267 : k0_chk267 v3322), ∀ a x, ((![v3322] : Fin 1 → IVec S16 32) a x).toNat < S128.size a := fun v3322 k0_hw267 => k0_hw267

def k0_chk268 (v3354 : IVec S16 32) : Prop :=
  (∀ a x, ((![v3354] : Fin 1 → IVec S16 32) a x).toNat < S128.size a)
theorem k0_idx268_inb : ∀ (v3354 : IVec S16 32) (k0_hw268 : k0_chk268 v3354), ∀ a x, ((![v3354] : Fin 1 → IVec S16 32) a x).toNat < S128.size a := fun v3354 k0_hw268 => k0_hw268

def k0_chk269 (v3350 : IVec S16 32) : Prop :=
  (∀ a x, ((![v3350] : Fin 1 → IVec S16 32) a x).toNat < S128.size a)
theorem k0_idx269_inb : ∀ (v3350 : IVec S16 32) (k0_hw269 : k0_chk269 v3350), ∀ a x, ((![v3350] : Fin 1 → IVec S16 32) a x).toNat < S128.size a := fun v3350 k0_hw269 => k0_hw269

def k0_chk270 (v3358 : IVec S16 32) : Prop :=
  (∀ a x, ((![v3358] : Fin 1 → IVec S16 32) a x).toNat < S128.size a)
theorem k0_idx270_inb : ∀ (v3358 : IVec S16 32) (k0_hw270 : k0_chk270 v3358), ∀ a x, ((![v3358] : Fin 1 → IVec S16 32) a x).toNat < S128.size a := fun v3358 k0_hw270 => k0_hw270

def k0_chk271 (v3396 : IVec S16 32) : Prop :=
  (∀ a x, ((![v3396] : Fin 1 → IVec S16 32) a x).toNat < S256.size a)
theorem k0_idx271_inb : ∀ (v3396 : IVec S16 32) (k0_hw271 : k0_chk271 v3396), ∀ a x, ((![v3396] : Fin 1 → IVec S16 32) a x).toNat < S256.size a := fun v3396 k0_hw271 => k0_hw271

def k0_chk272 (v3392 : IVec S16 32) : Prop :=
  (∀ a x, ((![v3392] : Fin 1 → IVec S16 32) a x).toNat < S256.size a)
theorem k0_idx272_inb : ∀ (v3392 : IVec S16 32) (k0_hw272 : k0_chk272 v3392), ∀ a x, ((![v3392] : Fin 1 → IVec S16 32) a x).toNat < S256.size a := fun v3392 k0_hw272 => k0_hw272

def k0_chk273 (v3400 : IVec S16 32) : Prop :=
  (∀ a x, ((![v3400] : Fin 1 → IVec S16 32) a x).toNat < S256.size a)
theorem k0_idx273_inb : ∀ (v3400 : IVec S16 32) (k0_hw273 : k0_chk273 v3400), ∀ a x, ((![v3400] : Fin 1 → IVec S16 32) a x).toNat < S256.size a := fun v3400 k0_hw273 => k0_hw273

def k0_chk274 (v3430 : IVec S16 32) : Prop :=
  (∀ a x, ((![v3430] : Fin 1 → IVec S16 32) a x).toNat < S128.size a)
theorem k0_idx274_inb : ∀ (v3430 : IVec S16 32) (k0_hw274 : k0_chk274 v3430), ∀ a x, ((![v3430] : Fin 1 → IVec S16 32) a x).toNat < S128.size a := fun v3430 k0_hw274 => k0_hw274

def k0_chk275 (v3426 : IVec S16 32) : Prop :=
  (∀ a x, ((![v3426] : Fin 1 → IVec S16 32) a x).toNat < S128.size a)
theorem k0_idx275_inb : ∀ (v3426 : IVec S16 32) (k0_hw275 : k0_chk275 v3426), ∀ a x, ((![v3426] : Fin 1 → IVec S16 32) a x).toNat < S128.size a := fun v3426 k0_hw275 => k0_hw275

def k0_chk276 (v3434 : IVec S16 32) : Prop :=
  (∀ a x, ((![v3434] : Fin 1 → IVec S16 32) a x).toNat < S128.size a)
theorem k0_idx276_inb : ∀ (v3434 : IVec S16 32) (k0_hw276 : k0_chk276 v3434), ∀ a x, ((![v3434] : Fin 1 → IVec S16 32) a x).toNat < S128.size a := fun v3434 k0_hw276 => k0_hw276

def k0_chk277 (v3466 : IVec S16 32) : Prop :=
  (∀ a x, ((![v3466] : Fin 1 → IVec S16 32) a x).toNat < S128.size a)
theorem k0_idx277_inb : ∀ (v3466 : IVec S16 32) (k0_hw277 : k0_chk277 v3466), ∀ a x, ((![v3466] : Fin 1 → IVec S16 32) a x).toNat < S128.size a := fun v3466 k0_hw277 => k0_hw277

def k0_chk278 (v3462 : IVec S16 32) : Prop :=
  (∀ a x, ((![v3462] : Fin 1 → IVec S16 32) a x).toNat < S128.size a)
theorem k0_idx278_inb : ∀ (v3462 : IVec S16 32) (k0_hw278 : k0_chk278 v3462), ∀ a x, ((![v3462] : Fin 1 → IVec S16 32) a x).toNat < S128.size a := fun v3462 k0_hw278 => k0_hw278

def k0_chk279 (v3470 : IVec S16 32) : Prop :=
  (∀ a x, ((![v3470] : Fin 1 → IVec S16 32) a x).toNat < S128.size a)
theorem k0_idx279_inb : ∀ (v3470 : IVec S16 32) (k0_hw279 : k0_chk279 v3470), ∀ a x, ((![v3470] : Fin 1 → IVec S16 32) a x).toNat < S128.size a := fun v3470 k0_hw279 => k0_hw279

def k0_chk280 (v3508 : IVec S16 32) : Prop :=
  (∀ a x, ((![v3508] : Fin 1 → IVec S16 32) a x).toNat < S256.size a)
theorem k0_idx280_inb : ∀ (v3508 : IVec S16 32) (k0_hw280 : k0_chk280 v3508), ∀ a x, ((![v3508] : Fin 1 → IVec S16 32) a x).toNat < S256.size a := fun v3508 k0_hw280 => k0_hw280

def k0_chk281 (v3504 : IVec S16 32) : Prop :=
  (∀ a x, ((![v3504] : Fin 1 → IVec S16 32) a x).toNat < S256.size a)
theorem k0_idx281_inb : ∀ (v3504 : IVec S16 32) (k0_hw281 : k0_chk281 v3504), ∀ a x, ((![v3504] : Fin 1 → IVec S16 32) a x).toNat < S256.size a := fun v3504 k0_hw281 => k0_hw281

def k0_chk282 (v3512 : IVec S16 32) : Prop :=
  (∀ a x, ((![v3512] : Fin 1 → IVec S16 32) a x).toNat < S256.size a)
theorem k0_idx282_inb : ∀ (v3512 : IVec S16 32) (k0_hw282 : k0_chk282 v3512), ∀ a x, ((![v3512] : Fin 1 → IVec S16 32) a x).toNat < S256.size a := fun v3512 k0_hw282 => k0_hw282

def k0_chk283 (v3542 : IVec S16 32) : Prop :=
  (∀ a x, ((![v3542] : Fin 1 → IVec S16 32) a x).toNat < S128.size a)
theorem k0_idx283_inb : ∀ (v3542 : IVec S16 32) (k0_hw283 : k0_chk283 v3542), ∀ a x, ((![v3542] : Fin 1 → IVec S16 32) a x).toNat < S128.size a := fun v3542 k0_hw283 => k0_hw283

def k0_chk284 (v3538 : IVec S16 32) : Prop :=
  (∀ a x, ((![v3538] : Fin 1 → IVec S16 32) a x).toNat < S128.size a)
theorem k0_idx284_inb : ∀ (v3538 : IVec S16 32) (k0_hw284 : k0_chk284 v3538), ∀ a x, ((![v3538] : Fin 1 → IVec S16 32) a x).toNat < S128.size a := fun v3538 k0_hw284 => k0_hw284

def k0_chk285 (v3546 : IVec S16 32) : Prop :=
  (∀ a x, ((![v3546] : Fin 1 → IVec S16 32) a x).toNat < S128.size a)
theorem k0_idx285_inb : ∀ (v3546 : IVec S16 32) (k0_hw285 : k0_chk285 v3546), ∀ a x, ((![v3546] : Fin 1 → IVec S16 32) a x).toNat < S128.size a := fun v3546 k0_hw285 => k0_hw285

def k0_chk286 (v3578 : IVec S16 32) : Prop :=
  (∀ a x, ((![v3578] : Fin 1 → IVec S16 32) a x).toNat < S128.size a)
theorem k0_idx286_inb : ∀ (v3578 : IVec S16 32) (k0_hw286 : k0_chk286 v3578), ∀ a x, ((![v3578] : Fin 1 → IVec S16 32) a x).toNat < S128.size a := fun v3578 k0_hw286 => k0_hw286

def k0_chk287 (v3574 : IVec S16 32) : Prop :=
  (∀ a x, ((![v3574] : Fin 1 → IVec S16 32) a x).toNat < S128.size a)
theorem k0_idx287_inb : ∀ (v3574 : IVec S16 32) (k0_hw287 : k0_chk287 v3574), ∀ a x, ((![v3574] : Fin 1 → IVec S16 32) a x).toNat < S128.size a := fun v3574 k0_hw287 => k0_hw287

def k0_chk288 (v3582 : IVec S16 32) : Prop :=
  (∀ a x, ((![v3582] : Fin 1 → IVec S16 32) a x).toNat < S128.size a)
theorem k0_idx288_inb : ∀ (v3582 : IVec S16 32) (k0_hw288 : k0_chk288 v3582), ∀ a x, ((![v3582] : Fin 1 → IVec S16 32) a x).toNat < S128.size a := fun v3582 k0_hw288 => k0_hw288
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S256 : Shape := ⟨1, ![256]⟩
abbrev S128 : Shape := ⟨1, ![128]⟩
abbrev S256x128x128 : Shape := ⟨3, ![256, 128, 128]⟩
abbrev S_ : Shape := ⟨0, ![]⟩
abbrev S1x256 : Shape := ⟨2, ![1, 256]⟩
abbrev S16384x1 : Shape := ⟨2, ![16384, 1]⟩
abbrev S16384x256 : Shape := ⟨2, ![16384, 256]⟩
abbrev S1x128 : Shape := ⟨2, ![1, 128]⟩
abbrev S16384x128 : Shape := ⟨2, ![16384, 128]⟩
abbrev S16384x3 : Shape := ⟨2, ![16384, 3]⟩

abbrev nBuf : Space → Nat
  | .hbm => 192
  | .vmem => 0
  | .smem => 0
  | _ => 0

abbrev hbmTy0_0 (i : Nat) : BufTy := match i % 128 with
  | 0 => ⟨S16384, .f32⟩
  | 1 => ⟨S16384, .f32⟩
  | 2 => ⟨S16384, .f32⟩
  | 3 => ⟨S256, .f32⟩
  | 4 => ⟨S128, .f32⟩
  | 5 => ⟨S128, .f32⟩
  | 6 => ⟨S256x128x128, .f32⟩
  | 7 => ⟨S_, .f32⟩
  | 8 => ⟨S16384, .f32⟩
  | 9 => ⟨S16384, .f32⟩
  | 10 => ⟨S1x256, .f32⟩
  | 11 => ⟨S16384x1, .f32⟩
  | 12 => ⟨S16384x256, .f32⟩
  | 13 => ⟨S16384x256, .f32⟩
  | 14 => ⟨S16384x256, .i1⟩
  | 15 => ⟨S16384x256, .i32⟩
  | 16 => ⟨S_, .i32⟩
  | 17 => ⟨S16384, .i32⟩
  | 18 => ⟨S_, .i32⟩
  | 19 => ⟨S_, .i32⟩
  | 20 => ⟨S_, .i32⟩
  | 21 => ⟨S16384, .i32⟩
  | 22 => ⟨S16384, .i32⟩
  | 23 => ⟨S_, .i32⟩
  | 24 => ⟨S16384, .i32⟩
  | 25 => ⟨S16384, .i32⟩
  | 26 => ⟨S_, .i32⟩
  | 27 => ⟨S16384, .i32⟩
  | 28 => ⟨S16384, .i32⟩
  | 29 => ⟨S_, .i32⟩
  | 30 => ⟨S_, .i32⟩
  | 31 => ⟨S_, .i32⟩
  | 32 => ⟨S16384, .i32⟩
  | 33 => ⟨S16384, .i32⟩
  | 34 => ⟨S_, .i32⟩
  | 35 => ⟨S16384, .i32⟩
  | 36 => ⟨S16384, .i32⟩
  | 37 => ⟨S_, .i32⟩
  | 38 => ⟨S16384, .i32⟩
  | 39 => ⟨S16384, .i1⟩
  | 40 => ⟨S_, .i32⟩
  | 41 => ⟨S16384, .i32⟩
  | 42 => ⟨S16384, .i32⟩
  | 43 => ⟨S16384, .i32⟩
  | 44 => ⟨S16384x1, .i32⟩
  | 45 => ⟨S16384, .f32⟩
  | 46 => ⟨S16384, .f32⟩
  | 47 => ⟨S16384, .f32⟩
  | 48 => ⟨S_, .i32⟩
  | 49 => ⟨S16384, .i32⟩
  | 50 => ⟨S16384, .i1⟩
  | 51 => ⟨S_, .i32⟩
  | 52 => ⟨S16384, .i32⟩
  | 53 => ⟨S16384, .i32⟩
  | 54 => ⟨S16384, .i32⟩
  | 55 => ⟨S16384x1, .i32⟩
  | 56 => ⟨S16384, .f32⟩
  | 57 => ⟨S16384, .f32⟩
  | 58 => ⟨S16384, .f32⟩
  | 59 => ⟨S16384, .i1⟩
  | 60 => ⟨S16384, .i32⟩
  | 61 => ⟨S1x128, .f32⟩
  | 62 => ⟨S16384x1, .f32⟩
  | 63 => ⟨S16384x128, .f32⟩
  | 64 => ⟨S16384x128, .f32⟩
  | 65 => ⟨S16384x128, .i1⟩
  | 66 => ⟨S16384x128, .i32⟩
  | 67 => ⟨S_, .i32⟩
  | 68 => ⟨S16384, .i32⟩
  | 69 => ⟨S_, .i32⟩
  | 70 => ⟨S_, .i32⟩
  | 71 => ⟨S_, .i32⟩
  | 72 => ⟨S16384, .i32⟩
  | 73 => ⟨S16384, .i32⟩
  | 74 => ⟨S_, .i32⟩
  | 75 => ⟨S16384, .i32⟩
  | 76 => ⟨S16384, .i32⟩
  | 77 => ⟨S_, .i32⟩
  | 78 => ⟨S16384, .i32⟩
  | 79 => ⟨S16384, .i32⟩
  | 80 => ⟨S_, .i32⟩
  | 81 => ⟨S_, .i32⟩
  | 82 => ⟨S_, .i32⟩
  | 83 => ⟨S16384, .i32⟩
  | 84 => ⟨S16384, .i32⟩
  | 85 => ⟨S_, .i32⟩
  | 86 => ⟨S16384, .i32⟩
  | 87 => ⟨S16384, .i32⟩
  | 88 => ⟨S_, .i32⟩
  | 89 => ⟨S16384, .i32⟩
  | 90 => ⟨S16384, .i1⟩
  | 91 => ⟨S_, .i32⟩
  | 92 => ⟨S16384, .i32⟩
  | 93 => ⟨S16384, .i32⟩
  | 94 => ⟨S16384, .i32⟩
  | 95 => ⟨S16384x1, .i32⟩
  | 96 => ⟨S16384, .f32⟩
  | 97 => ⟨S16384, .f32⟩
  | 98 => ⟨S16384, .f32⟩
  | 99 => ⟨S_, .i32⟩
  | 100 => ⟨S16384, .i32⟩
  | 101 => ⟨S16384, .i1⟩
  | 102 => ⟨S_, .i32⟩
  | 103 => ⟨S16384, .i32⟩
  | 104 => ⟨S16384, .i32⟩
  | 105 => ⟨S16384, .i32⟩
  | 106 => ⟨S16384x1, .i32⟩
  | 107 => ⟨S16384, .f32⟩
  | 108 => ⟨S16384, .f32⟩
  | 109 => ⟨S16384, .f32⟩
  | 110 => ⟨S16384, .i1⟩
  | 111 => ⟨S16384, .i32⟩
  | 112 => ⟨S1x128, .f32⟩
  | 113 => ⟨S16384x1, .f32⟩
  | 114 => ⟨S16384x128, .f32⟩
  | 115 => ⟨S16384x128, .f32⟩
  | 116 => ⟨S16384x128, .i1⟩
  | 117 => ⟨S16384x128, .i32⟩
  | 118 => ⟨S_, .i32⟩
  | 119 => ⟨S16384, .i32⟩
  | 120 => ⟨S_, .i32⟩
  | 121 => ⟨S_, .i32⟩
  | 122 => ⟨S_, .i32⟩
  | 123 => ⟨S16384, .i32⟩
  | 124 => ⟨S16384, .i32⟩
  | 125 => ⟨S_, .i32⟩
  | 126 => ⟨S16384, .i32⟩
  | 127 => ⟨S16384, .i32⟩
  | _ => ⟨S16384, .f32⟩

abbrev hbmTy0_1 (i : Nat) : BufTy := match i % 128 with
  | 0 => ⟨S_, .i32⟩
  | 1 => ⟨S16384, .i32⟩
  | 2 => ⟨S16384, .i32⟩
  | 3 => ⟨S_, .i32⟩
  | 4 => ⟨S_, .i32⟩
  | 5 => ⟨S_, .i32⟩
  | 6 => ⟨S16384, .i32⟩
  | 7 => ⟨S16384, .i32⟩
  | 8 => ⟨S_, .i32⟩
  | 9 => ⟨S16384, .i32⟩
  | 10 => ⟨S16384, .i32⟩
  | 11 => ⟨S_, .i32⟩
  | 12 => ⟨S16384, .i32⟩
  | 13 => ⟨S16384, .i1⟩
  | 14 => ⟨S_, .i32⟩
  | 15 => ⟨S16384, .i32⟩
  | 16 => ⟨S16384, .i32⟩
  | 17 => ⟨S16384, .i32⟩
  | 18 => ⟨S16384x1, .i32⟩
  | 19 => ⟨S16384, .f32⟩
  | 20 => ⟨S16384, .f32⟩
  | 21 => ⟨S16384, .f32⟩
  | 22 => ⟨S_, .i32⟩
  | 23 => ⟨S16384, .i32⟩
  | 24 => ⟨S16384, .i1⟩
  | 25 => ⟨S_, .i32⟩
  | 26 => ⟨S16384, .i32⟩
  | 27 => ⟨S16384, .i32⟩
  | 28 => ⟨S16384, .i32⟩
  | 29 => ⟨S16384x1, .i32⟩
  | 30 => ⟨S16384, .f32⟩
  | 31 => ⟨S16384, .f32⟩
  | 32 => ⟨S16384, .f32⟩
  | 33 => ⟨S16384, .i1⟩
  | 34 => ⟨S16384, .i32⟩
  | 35 => ⟨S_, .i32⟩
  | 36 => ⟨S16384, .i32⟩
  | 37 => ⟨S16384, .i1⟩
  | 38 => ⟨S_, .i32⟩
  | 39 => ⟨S16384, .i32⟩
  | 40 => ⟨S16384, .i32⟩
  | 41 => ⟨S16384, .i32⟩
  | 42 => ⟨S_, .i32⟩
  | 43 => ⟨S16384, .i32⟩
  | 44 => ⟨S16384, .i1⟩
  | 45 => ⟨S_, .i32⟩
  | 46 => ⟨S16384, .i32⟩
  | 47 => ⟨S16384, .i32⟩
  | 48 => ⟨S16384, .i32⟩
  | 49 => ⟨S_, .i32⟩
  | 50 => ⟨S16384, .i32⟩
  | 51 => ⟨S16384, .i1⟩
  | 52 => ⟨S_, .i32⟩
  | 53 => ⟨S16384, .i32⟩
  | 54 => ⟨S16384, .i32⟩
  | 55 => ⟨S16384, .i32⟩
  | 56 => ⟨S16384x1, .i32⟩
  | 57 => ⟨S16384x1, .i32⟩
  | 58 => ⟨S16384x1, .i32⟩
  | 59 => ⟨S16384x3, .i32⟩
  | 60 => ⟨S16384, .f32⟩
  | 61 => ⟨S_, .f32⟩
  | 62 => ⟨S16384, .f32⟩
  | 63 => ⟨S16384, .f32⟩
  | _ => ⟨S16384, .f32⟩

abbrev hbmTy (i : Nat) : BufTy := match i / 128 with
  | 0 => hbmTy0_0 i
  | 1 => hbmTy0_1 i
  | _ => ⟨S16384, .f32⟩

abbrev bufTy : (tb : Table) → Fin (tcTables nBuf tb) → BufTy
  | .hbm, ⟨i, _⟩ => hbmTy i
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_c_0 : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v9 : Ref sig .tc := ⟨.hbm, 25, rfl⟩
abbrev main_c_2 : Ref sig .tc := ⟨.hbm, 26, rfl⟩
abbrev main_v10 : Ref sig .tc := ⟨.hbm, 27, rfl⟩
abbrev main_v11 : Ref sig .tc := ⟨.hbm, 28, rfl⟩
abbrev main_c_3 : Ref sig .tc := ⟨.hbm, 29, rfl⟩
abbrev main_c_4 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v12 : Ref sig .tc := ⟨.hbm, 36, rfl⟩
abbrev main_c_5 : Ref sig .tc := ⟨.hbm, 37, rfl⟩
abbrev main_v13 : Ref sig .tc := ⟨.hbm, 38, rfl⟩
abbrev main_v14 : Ref sig .tc := ⟨.hbm, 39, rfl⟩
abbrev main_c_6 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c_7 : Ref sig .tc := ⟨.hbm, 48, rfl⟩
abbrev main_v22 : Ref sig .tc := ⟨.hbm, 49, rfl⟩
abbrev main_v23 : Ref sig .tc := ⟨.hbm, 50, rfl⟩
abbrev main_c_8 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_9 : Ref sig .tc := ⟨.hbm, 67, rfl⟩
abbrev main_v39 : Ref sig .tc := ⟨.hbm, 68, rfl⟩
abbrev main_c_10 : Ref sig .tc := ⟨.hbm, 69, rfl⟩
abbrev main_c_11 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_v40 : Ref sig .tc := ⟨.hbm, 76, rfl⟩
abbrev main_c_12 : Ref sig .tc := ⟨.hbm, 77, rfl⟩
abbrev main_v41 : Ref sig .tc := ⟨.hbm, 78, rfl⟩
abbrev main_v42 : Ref sig .tc := ⟨.hbm, 79, rfl⟩
abbrev main_c_13 : Ref sig .tc := ⟨.hbm, 80, rfl⟩
abbrev main_c_14 : Ref sig .tc := ⟨.hbm, 81, rfl⟩
abbrev main_call4_v0 : Ref sig .tc := ⟨.hbm, 82, rfl⟩
abbrev main_call4_v1 : Ref sig .tc := ⟨.hbm, 83, rfl⟩
abbrev main_call4_v2 : Ref sig .tc := ⟨.hbm, 84, rfl⟩
abbrev main_call4_v3 : Ref sig .tc := ⟨.hbm, 85, rfl⟩
abbrev main_call4_v4 : Ref sig .tc := ⟨.hbm, 86, rfl⟩
abbrev main_v43 : Ref sig .tc := ⟨.hbm, 87, rfl⟩
abbrev main_c_15 : Ref sig .tc := ⟨.hbm, 88, rfl⟩
abbrev main_v44 : Ref sig .tc := ⟨.hbm, 89, rfl⟩
abbrev main_v45 : Ref sig .tc := ⟨.hbm, 90, rfl⟩
abbrev main_c_16 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_c_17 : Ref sig .tc := ⟨.hbm, 99, rfl⟩
abbrev main_v53 : Ref sig .tc := ⟨.hbm, 100, rfl⟩
abbrev main_v54 : Ref sig .tc := ⟨.hbm, 101, rfl⟩
abbrev main_c_18 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_c_19 : Ref sig .tc := ⟨.hbm, 118, rfl⟩
abbrev main_v70 : Ref sig .tc := ⟨.hbm, 119, rfl⟩
abbrev main_c_20 : Ref sig .tc := ⟨.hbm, 120, rfl⟩
abbrev main_c_21 : Ref sig .tc := ⟨.hbm, 121, rfl⟩
abbrev main_call6_v0 : Ref sig .tc := ⟨.hbm, 122, rfl⟩
abbrev main_call6_v1 : Ref sig .tc := ⟨.hbm, 123, rfl⟩
abbrev main_call6_v2 : Ref sig .tc := ⟨.hbm, 124, rfl⟩
abbrev main_call6_v3 : Ref sig .tc := ⟨.hbm, 125, rfl⟩
abbrev main_call6_v4 : Ref sig .tc := ⟨.hbm, 126, rfl⟩
abbrev main_v71 : Ref sig .tc := ⟨.hbm, 127, rfl⟩
abbrev main_c_22 : Ref sig .tc := ⟨.hbm, 128, rfl⟩
abbrev main_v72 : Ref sig .tc := ⟨.hbm, 129, rfl⟩
abbrev main_v73 : Ref sig .tc := ⟨.hbm, 130, rfl⟩
abbrev main_c_23 : Ref sig .tc := ⟨.hbm, 131, rfl⟩
abbrev main_c_24 : Ref sig .tc := ⟨.hbm, 132, rfl⟩
abbrev main_call7_v0 : Ref sig .tc := ⟨.hbm, 133, rfl⟩
abbrev main_call7_v1 : Ref sig .tc := ⟨.hbm, 134, rfl⟩
abbrev main_call7_v2 : Ref sig .tc := ⟨.hbm, 135, rfl⟩
abbrev main_call7_v3 : Ref sig .tc := ⟨.hbm, 136, rfl⟩
abbrev main_call7_v4 : Ref sig .tc := ⟨.hbm, 137, rfl⟩
abbrev main_v74 : Ref sig .tc := ⟨.hbm, 138, rfl⟩
abbrev main_c_25 : Ref sig .tc := ⟨.hbm, 139, rfl⟩
abbrev main_v75 : Ref sig .tc := ⟨.hbm, 140, rfl⟩
abbrev main_v76 : Ref sig .tc := ⟨.hbm, 141, rfl⟩
abbrev main_c_26 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_c_27 : Ref sig .tc := ⟨.hbm, 150, rfl⟩
abbrev main_v84 : Ref sig .tc := ⟨.hbm, 151, rfl⟩
abbrev main_v85 : Ref sig .tc := ⟨.hbm, 152, rfl⟩
abbrev main_c_28 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_c_29 : Ref sig .tc := ⟨.hbm, 163, rfl⟩
abbrev main_v95 : Ref sig .tc := ⟨.hbm, 164, rfl⟩
abbrev main_v96 : Ref sig .tc := ⟨.hbm, 165, rfl⟩
abbrev main_c_30 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_c_31 : Ref sig .tc := ⟨.hbm, 170, rfl⟩
abbrev main_v100 : Ref sig .tc := ⟨.hbm, 171, rfl⟩
abbrev main_v101 : Ref sig .tc := ⟨.hbm, 172, rfl⟩
abbrev main_c_32 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_c_33 : Ref sig .tc := ⟨.hbm, 177, rfl⟩
abbrev main_v105 : Ref sig .tc := ⟨.hbm, 178, rfl⟩
abbrev main_v106 : Ref sig .tc := ⟨.hbm, 179, rfl⟩
abbrev main_c_34 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_v114 : Ref sig .tc := ⟨.hbm, 188, rfl⟩
abbrev main_cst_35 : Ref sig .tc := ⟨.hbm, 189, rfl⟩
abbrev main_v115 : Ref sig .tc := ⟨.hbm, 190, rfl⟩
abbrev main_v116 : Ref sig .tc := ⟨.hbm, 191, rfl⟩

abbrev nD : Nat := 1
abbrev τ : Topo := Topo.v7x

variable {F : FTy → Type} [FloatOps F]
-- ==== Proof.Values.lean ====
/-
  The kernel's arithmetic one query at a time: the place a search finds in a grid, the table row three places name, the
  result; and the ranges these keep.
-/
module

public import Idealize.ShloMosaic.PureOps
public import Idealize.ShloMosaic.Lib.SparseCore.Ops

@[expose] public section

noncomputable section

namespace Cert.Lookup

open Idealize.ShloMosaic

variable {F : FTy → Type} [FloatOps F]

/-- The index of place `k` of a vector of `n` words (`k` taken modulo `n`). -/
def at1 (n : ℕ) (hn : 0 < n) (k : ℕ) : (⟨1, ![n]⟩ : Shape).Idx := Shape.ofLane (d := ![n]) ⟨k % n, Nat.mod_lt _ hn⟩

/-- The guess of one query's place. -/
def guess1 (hi : BitVec 32) (g0 inv v : F .f32) : BitVec 32 :=
  IntOp.minsi hi (IntOp.maxsi 0#32
    (FloatOps.fptosi 32 (FloatOps.addf (FloatOps.mulf (FloatOps.subf v g0) inv) (Scalar.ofBits .f32 0x3F000000#32))))

/-- The place below. -/
def below1 (j : BitVec 32) : BitVec 32 := IntOp.maxsi (IntOp.subi j 1#32) 0#32

/-- The place above. -/
def above1 (hi j : BitVec 32) : BitVec 32 := IntOp.minsi (IntOp.addi j 1#32) hi

/-- The distance of two words. -/
def dist1 (v g : F .f32) : F .f32 := FloatOps.absf (FloatOps.subf v g)

/-- The nearest of three places, the first of equals. -/
def choose1 (v : F .f32) (jm j0 jp : BitVec 32) (gm gc gp : F .f32) : BitVec 32 :=
  Scalar.select (FloatOps.cmpf .olt (dist1 v gp) (Scalar.select (FloatOps.cmpf .olt (dist1 v gc) (dist1 v gm)) (dist1 v gc) (dist1 v gm)))
    jp (Scalar.select (FloatOps.cmpf .olt (dist1 v gc) (dist1 v gm)) j0 jm)

/-- One search in the grid `f` of `n` words. -/
def near1 (n : ℕ) (hn : 0 < n) (hi : BitVec 32) (g0 inv : F .f32) (f : (⟨1, ![n]⟩ : Shape).Idx → F .f32) (v : F .f32) : BitVec 32 :=
  choose1 v (below1 (guess1 hi g0 inv v)) (guess1 hi g0 inv v) (above1 hi (guess1 hi g0 inv v))
    (f (at1 n hn (below1 (guess1 hi g0 inv v)).toNat)) (f (at1 n hn (guess1 hi g0 inv v).toNat)) (f (at1 n hn (above1 hi (guess1 hi g0 inv v)).toNat))

/-- The table row of three places. -/
def flat1 (im iq ip : BitVec 32) : BitVec 32 := IntOp.addi (IntOp.addi (IntOp.muli im 16384#32) (IntOp.muli iq 128#32)) ip

/-- The table row of one query. -/
def rowOf (gm : (⟨1, ![256]⟩ : Shape).Idx → F .f32) (gq gp : (⟨1, ![128]⟩ : Shape).Idx → F .f32) (m q p : F .f32) : BitVec 32 :=
  flat1 (near1 256 (by decide) 255#32 (Scalar.ofBits .f32 0x00000000#32) (Scalar.ofBits .f32 0x3D028F5C#32) gm m)
    (near1 128 (by decide) 127#32 (Scalar.ofBits .f32 0xBF000000#32) (Scalar.ofBits .f32 0x42A95555#32) gq q)
    (near1 128 (by decide) 127#32 (Scalar.ofBits .f32 0x47C35000#32) (Scalar.ofBits .f32 0x36CBE536#32) gp
      (FloatOps.mulf p (Scalar.ofBits .f32 0x49742400#32)))

/-- The word the table has for one query. -/
def wordOf (tab : (⟨1, ![4194304]⟩ : Shape).Idx → F .f32) (gm : (⟨1, ![256]⟩ : Shape).Idx → F .f32) (gq gp : (⟨1, ![128]⟩ : Shape).Idx → F .f32)
    (m q p : F .f32) : F .f32 := tab (at1 4194304 (by decide) (rowOf gm gq gp m q p).toNat)

/-- The result for one query. -/
def resultOf (tab : (⟨1, ![4194304]⟩ : Shape).Idx → F .f32) (gm : (⟨1, ![256]⟩ : Shape).Idx → F .f32) (gq gp : (⟨1, ![128]⟩ : Shape).Idx → F .f32)
    (m q p : F .f32) : F .f32 := FloatOps.divf (wordOf tab gm gq gp m q p) (Scalar.ofBits .f32 0x49742400#32)

/-! ## Ranges -/

/-- A signed word between zero and a small bound is its value. -/
theorem toNat_of_toInt {x : BitVec 32} {n : ℕ} (h0 : 0 ≤ x.toInt) (h1 : x.toInt < n) : x.toNat < n ∧ (x.toNat : ℤ) = x.toInt := by
  have e := BitVec.toInt_eq_toNat_cond x
  have hx := x.isLt
  split at e <;> omega

omit [FloatOps F] in
/-- The signed minimum's value is the minimum of the values. -/
theorem min_toInt (x y : BitVec 32) : (IntOp.minsi x y).toInt = min x.toInt y.toInt := by
  unfold IntOp.minsi; rw [BitVec.slt_eq_decide]; simp only [decide_eq_true_eq]; split <;> omega

omit [FloatOps F] in
/-- The signed maximum's value is the maximum of the values. -/
theorem max_toInt (x y : BitVec 32) : (IntOp.maxsi x y).toInt = max x.toInt y.toInt := by
  unfold IntOp.maxsi; rw [BitVec.slt_eq_decide]; simp only [decide_eq_true_eq]; split <;> omega

/-- The guess is the rounded query held between zero and `hi`. -/
theorem guess1_toInt (hi : BitVec 32) (g0 inv v : F .f32) :
    (guess1 hi g0 inv v).toInt = min hi.toInt (max 0
      (FloatOps.fptosi 32 (FloatOps.addf (FloatOps.mulf (FloatOps.subf v g0) inv) (Scalar.ofBits .f32 0x3F000000#32)) : BitVec 32).toInt) := by
  unfold guess1; rw [min_toInt, max_toInt]; rfl

/-- The guess is a place of the grid, whatever the query. -/
theorem guess1_range {n : ℕ} {hi : BitVec 32} (h0 : 0 ≤ hi.toInt) (h : hi.toInt < n) (g0 inv v : F .f32) :
    0 ≤ (guess1 hi g0 inv v).toInt ∧ (guess1 hi g0 inv v).toInt < n := by
  rw [guess1_toInt]; omega

omit [FloatOps F] in
/-- The candidate below: one less, or zero. -/
theorem below1_toInt {j : BitVec 32} (h0 : 0 ≤ j.toInt) (h : j.toInt < 1000) : (below1 j).toInt = max (j.toInt - 1) 0 := by
  unfold below1; rw [max_toInt]
  have e : (IntOp.subi j 1#32).toInt = j.toInt - 1 := by
    show (j - 1#32).toInt = _
    rw [BitVec.toInt_sub, Int.bmod_eq_of_le] <;> simp <;> omega
  rw [e]; rfl

omit [FloatOps F] in
/-- The candidate above: one more, or the last. -/
theorem above1_toInt {hi j : BitVec 32} (h0 : 0 ≤ j.toInt) (h : j.toInt < 1000) : (above1 hi j).toInt = min (j.toInt + 1) hi.toInt := by
  unfold above1; rw [min_toInt]
  have e : (IntOp.addi j 1#32).toInt = j.toInt + 1 := by
    show (j + 1#32).toInt = _
    rw [BitVec.toInt_add, Int.bmod_eq_of_le] <;> simp <;> omega
  rw [e]

/-- A search's three places are below the grid's size. -/
theorem places_lt {n : ℕ} {hi : BitVec 32} (h0 : 0 ≤ hi.toInt) (h : hi.toInt < n) (hn : n ≤ 1000) (g0 inv v : F .f32) :
    (guess1 hi g0 inv v).toNat < n ∧ (below1 (guess1 hi g0 inv v)).toNat < n ∧ (above1 hi (guess1 hi g0 inv v)).toNat < n := by
  have hg := guess1_range h0 h g0 inv v
  refine ⟨(toNat_of_toInt hg.1 hg.2).1, (toNat_of_toInt ?_ ?_).1, (toNat_of_toInt ?_ ?_).1⟩
  · rw [below1_toInt hg.1 (by omega)]; omega
  · rw [below1_toInt hg.1 (by omega)]; omega
  · rw [above1_toInt hg.1 (by omega)]; omega
  · rw [above1_toInt hg.1 (by omega)]; omega

/-- A choice is one of the three places. -/
theorem choose1_mem (v : F .f32) (jm j0 jp : BitVec 32) (gm gc gp : F .f32) :
    choose1 v jm j0 jp gm gc gp = jm ∨ choose1 v jm j0 jp gm gc gp = j0 ∨ choose1 v jm j0 jp gm gc gp = jp := by
  unfold choose1 Scalar.select
  repeat' split
  all_goals simp

/-- A search's place is below the grid's size. -/
theorem near1_lt {n : ℕ} (hn : 0 < n) {hi : BitVec 32} (h0 : 0 ≤ hi.toInt) (h : hi.toInt < n) (hn' : n ≤ 1000) (g0 inv : F .f32)
    (f : (⟨1, ![n]⟩ : Shape).Idx → F .f32) (v : F .f32) : (near1 n hn hi g0 inv f v).toNat < n := by
  obtain ⟨a, b, c⟩ := places_lt h0 h hn' g0 inv v
  unfold near1
  rcases choose1_mem v (below1 (guess1 hi g0 inv v)) (guess1 hi g0 inv v) (above1 hi (guess1 hi g0 inv v))
    (f (at1 n hn (below1 (guess1 hi g0 inv v)).toNat)) (f (at1 n hn (guess1 hi g0 inv v).toNat)) (f (at1 n hn (above1 hi (guess1 hi g0 inv v)).toNat))
    with e | e | e <;> rw [e] <;> assumption

omit [FloatOps F] in
/-- The row of three places in range is the row-major position. -/
theorem flat1_toNat {im iq ip : BitVec 32} (hm : im.toNat < 256) (hq : iq.toNat < 128) (hp : ip.toNat < 128) :
    (flat1 im iq ip).toNat = im.toNat * 16384 + iq.toNat * 128 + ip.toNat := by
  show (im * 16384#32 + iq * 128#32 + ip).toNat = _
  simp only [BitVec.toNat_add, BitVec.toNat_mul, BitVec.toNat_ofNat]
  omega

/-- A query's row is one of the table's. -/
theorem rowOf_lt (gm : (⟨1, ![256]⟩ : Shape).Idx → F .f32) (gq gp : (⟨1, ![128]⟩ : Shape).Idx → F .f32) (m q p : F .f32) :
    (rowOf gm gq gp m q p).toNat < 4194304 := by
  unfold rowOf
  have hm := near1_lt (n := 256) (by decide) (hi := 255#32) (by decide) (by decide) (by decide) (Scalar.ofBits .f32 0x00000000#32) (Scalar.ofBits .f32 0x3D028F5C#32) gm m
  have hq := near1_lt (n := 128) (by decide) (hi := 127#32) (by decide) (by decide) (by decide) (Scalar.ofBits .f32 0xBF000000#32) (Scalar.ofBits .f32 0x42A95555#32) gq q
  have hp := near1_lt (n := 128) (by decide) (hi := 127#32) (by decide) (by decide) (by decide) (Scalar.ofBits .f32 0x47C35000#32) (Scalar.ofBits .f32 0x36CBE536#32) gp
      (FloatOps.mulf p (Scalar.ofBits .f32 0x49742400#32))
  rw [flat1_toNat hm hq hp]
  omega

end Cert.Lookup

end
-- ==== Proof.BodyIdeal.lean ====
/-
  The kernel's body written with repetition: one nearest-point search, one chunk of sixteen queries, one group of eight
  chunks with its gather, one group of eight divisions, and the whole body from them.
-/
module

public import proofs.«01_k».proof.Proof.Gen.KernelIdeal
public import Idealize.ShloMosaic.Lib.SparseCore.Ops

@[expose] public section

noncomputable section

namespace Cert.KernelIdeal.Lookup

open Cert.KernelIdeal Cert.KernelIdeal.Gen Idealize.ShloMosaic Idealize.SL.Sem

variable {F : FTy → Type} [FloatOps F]

/-- A vector of one grid's words. -/
abbrev Vn (n : ℕ) : Shape := ⟨1, ![n]⟩

/-- The programs of the vector subcore at the coordinates `L`. -/
abbrev Pg (L : grid0.Coords) (α : Type) : Type 1 :=
  Prog (TpuEff nD τ sig (Elt F) Λ₀ (.scVector ((L 0).castLE hcore0) ((L 1).castLE hsub0))) α

/-! ## The pure parts of a search -/

/-- The guess of a place in a grid: the query scaled to grid steps, rounded, and held between zero and `hi`. -/
def guess (hi : BitVec 32) (g0 inv : F .f32) (v : FVec F S16 .f32) : IVec S16 32 :=
  minsi (broadcast S16 hi) (maxsi (broadcast S16 0#32)
    (fptosi 32 (addf (mulf (subf v (broadcast S16 g0)) (broadcast S16 inv)) (broadcast S16 (Scalar.ofBits .f32 0x3F000000#32)))))

/-- The place below, held at zero. -/
def below (j : IVec S16 32) : IVec S16 32 := maxsi (subi j (broadcast S16 1#32)) (broadcast S16 0#32)

/-- The place above, held at `hi`. -/
def above (hi : BitVec 32) (j : IVec S16 32) : IVec S16 32 := minsi (addi j (broadcast S16 1#32)) (broadcast S16 hi)

/-- The nearest of three places, the first of equals, from the words found at them. -/
def choose (v : FVec F S16 .f32) (jm j0 jp : IVec S16 32) (gm gc gp : FVec F S16 .f32) : IVec S16 32 :=
  select (cmpf .olt (absf (subf v gp)) (select (cmpf .olt (absf (subf v gc)) (absf (subf v gm))) (absf (subf v gc)) (absf (subf v gm))))
    jp (select (cmpf .olt (absf (subf v gc)) (absf (subf v gm))) j0 jm)

/-- A row of the table from three places. -/
def flatIx (im iq ip : IVec S16 32) : IVec S16 32 :=
  addi (addi (muli im (broadcast S16 16384#32)) (muli iq (broadcast S16 128#32))) ip

/-- The words divided by a million. -/
def perMega (v : FVec F S16 .f32) : FVec F S16 .f32 := divf v (broadcast S16 (Scalar.ofBits .f32 0x49742400#32))

/-- The words times a million. -/
def mega (v : FVec F S16 .f32) : FVec F S16 .f32 := mulf v (broadcast S16 (Scalar.ofBits .f32 0x49742400#32))

/-! ## The pieces of the body -/

/-- `f 0`, then `f 1`, …, then `f (n - 1)`. -/
def inTurn {L : grid0.Coords} : (n : ℕ) → (Fin n → Pg (F := F) L PUnit) → Pg (F := F) L PUnit
  | 0, _ => .ret ⟨⟩
  | n + 1, f => f 0 >>= fun _ => inTurn n fun i => f i.succ

/-- Two programs with one head are equal when what follows is. -/
theorem op_ext {L : grid0.Coords} {α ε : Type} {e : TpuEff nD τ sig (Elt F) Λ₀ (.scVector ((L 0).castLE hcore0) ((L 1).castLE hsub0)) ε}
    {k k' : ε → Pg (F := F) L α} (h : ∀ a, k a = k' a) : Prog.op e k = Prog.op e k' := congrArg (Prog.op e) (funext h)

section

variable (L : grid0.Coords)

/-- The search of sixteen queries in a grid held in tile memory. -/
def near {n : ℕ} (A : Memref sig .scVector .vmem (Vn n) .f32) (hn : 0 < (Vn n).numel) (C : IVec S16 32 → Prop) (dec : ∀ w, Decidable (C w))
    (hC : ∀ w, C w → ∀ a x, ((![w] : Fin 1 → IVec S16 32) a x).toNat < (Vn n).size a)
    (hi : BitVec 32) (g0 inv : F .f32) (v : FVec F S16 .f32) : Pg (F := F) L (IVec S16 32) := do
  let h0 ← Prog.lift (TpuEff.assume (C (guess hi g0 inv v)) (dec _))
  let hm ← Prog.lift (TpuEff.assume (C (below (guess hi g0 inv v))) (dec _))
  let hp ← Prog.lift (TpuEff.assume (C (above hi (guess hi g0 inv v))) (dec _))
  let gm ← SparseCore.vectorLoadIdx A ![below (guess hi g0 inv v)] (hC _ hm.down) (View.loads_vmem hn)
  let gc ← SparseCore.vectorLoadIdx A ![guess hi g0 inv v] (hC _ h0.down) (View.loads_vmem hn)
  let gp ← SparseCore.vectorLoadIdx A ![above hi (guess hi g0 inv v)] (hC _ hp.down) (View.loads_vmem hn)
  pure (choose v (below (guess hi g0 inv v)) (guess hi g0 inv v) (above hi (guess hi g0 inv v)) gm gc gp)

/-- The sixteen places of vector `c` of group `g` lie within the 512. -/
theorem inbQ (g : Fin 4) (c : Fin 8) : ∀ a, (![128 * g.val + 16 * c.val] : Fin 1 → Nat) a + S16.size a ≤ S512.size a :=
  fun a => match a with | 0 => show 128 * g.val + 16 * c.val + 16 ≤ 512 by omega

/-- The sixteen places of vector `c` in row `g` lie within the index buffer. -/
theorem inbI (g : Fin 4) (c : Fin 8) : ∀ a, (![g.val, 16 * c.val] : Fin 2 → Nat) a + S1x16.size a ≤ S4x128.size a :=
  fun a => match a with
    | 0 => show g.val + 1 ≤ 4 by omega
    | 1 => show 16 * c.val + 16 ≤ 128 by omega

/-- The 128 places of group `g` lie within the 512. -/
theorem inbV (g : Fin 4) : ∀ a, (![128 * g.val] : Fin 1 → Nat) a + S128.size a ≤ S512.size a :=
  fun a => match a with | 0 => show 128 * g.val + 128 ≤ 512 by omega

/-- Row `g` lies within the index buffer. -/
theorem inbR (g : Fin 4) : ∀ a, (![g.val, 0] : Fin 2 → Nat) a + S1x128.size a ≤ S4x128.size a :=
  fun a => match a with
    | 0 => show g.val + 1 ≤ 4 by omega
    | 1 => show 0 + 128 ≤ 128 by omega

/-- Semaphore `g` is one of the four. -/
theorem inbS (g : Fin 4) : ∀ a, (![g.val] : Fin 1 → Nat) a + S1.size a ≤ S4.size a :=
  fun a => match a with | 0 => show g.val + 1 ≤ 4 by omega

/-- The sixteen words of chunk `c` of group `g` in a tile's vector of 512. -/
abbrev rQ (g : Fin 4) (c : Fin 8) : Rect S512 := Rect.unit (s := S512) ![128 * g.val + 16 * c.val] S16.size (inbQ g c)
/-- The sixteen words of chunk `c` in row `g` of the index rows. -/
abbrev rI (g : Fin 4) (c : Fin 8) : Rect S4x128 := Rect.unit (s := S4x128) ![g.val, 16 * c.val] S1x16.size (inbI g c)

variable (a2 a3 a4 : Memref sig .scVector .hbm S16384 .f32) (h2 : a2.IsWhole) (h3 : a3.IsWhole) (h4 : a4.IsWhole)
  (a5 : Memref sig .scVector .hbm S256 .f32) (h5 : a5.IsWhole) (a6 a7 : Memref sig .scVector .hbm S128 .f32) (h6 : a6.IsWhole) (h7 : a7.IsWhole)
  (a8 : Memref sig .scVector .hbm S4194304 .f32) (h8 : a8.IsWhole) (a9 : Memref sig .scVector .hbm S16384 .f32) (h9 : a9.IsWhole)
  (a10 a11 a12 : Memref sig .scVector .vmem S512 .f32) (h10 : a10.IsWhole) (h11 : a11.IsWhole) (h12 : a12.IsWhole)
  (a13 : Memref sig .scVector .vmem S256 .f32) (h13 : a13.IsWhole) (a14 a15 : Memref sig .scVector .vmem S128 .f32) (h14 : a14.IsWhole) (h15 : a15.IsWhole)
  (a16 : Memref sig .scVector .vmem S4x128 .i32) (h16 : a16.IsWhole) (a17 : Memref sig .scVector .vmem S512 .f32) (h17 : a17.IsWhole)
  (a18 : DmaSems sig S4) (s0 s1 s2 s3 s4 s5 s6 : DmaSems sig S_)

/-- One chunk: three searches, and the table rows they name written to the index rows. -/
def chunk (g : Fin 4) (c : Fin 8) : Pg (F := F) L PUnit := do
  let m : Vec F S16 .f32 ← Prog.lift (.load a10 (rQ g c).toLoadRect (View.loadsAt_vmem h_S16))
  let im ← near L a13 h_S256 k0_chk1 k0_chk1.dec k0_idx1_inb 255#32 (Scalar.ofBits .f32 0x00000000#32) (Scalar.ofBits .f32 0x3D028F5C#32) m
  let q : Vec F S16 .f32 ← Prog.lift (.load a11 (rQ g c).toLoadRect (View.loadsAt_vmem h_S16))
  let iq ← near L a14 h_S128 k0_chk4 k0_chk4.dec k0_idx4_inb 127#32 (Scalar.ofBits .f32 0xBF000000#32) (Scalar.ofBits .f32 0x42A95555#32) q
  let p : Vec F S16 .f32 ← Prog.lift (.load a12 (rQ g c).toLoadRect (View.loadsAt_vmem h_S16))
  let ip ← near L a15 h_S128 k0_chk4 k0_chk4.dec k0_idx4_inb 127#32 (Scalar.ofBits .f32 0x47C35000#32) (Scalar.ofBits .f32 0x36CBE536#32) (mega p)
  let _ : Vec F S1x16 .i32 ← Prog.lift (.load a16 (rI g c).toLoadRect (View.loadsAt_vmem h_S1x16))
  Prog.lift (.store a16 (rI g c) (shapeCast S1x16 (flatIx im iq ip) shapeCasts_S16_S1x16) Finset.univ (View.stores_vmem_bits_univ h_S1x16 rfl) (.inl rfl))

/-- Block `g` of the fetched words. -/
abbrev dstK (g : Fin 4) : Memref sig .scVector .vmem S128 .f32 := a17.slice (Rect.unit (s := S512) ![128 * g.val] S128.size (inbV g)) (fun _ => rfl)
/-- Row `g` of the index rows. -/
abbrev offK (g : Fin 4) : Memref sig .scVector .vmem S128 .i32 :=
  (a16.slice (Rect.unit (s := S4x128) ![g.val, 0] S1x128.size (inbR g)) (fun _ => rfl)).squeeze S128 squeezes_S1x128_S128
/-- The table as the gathers name it. -/
abbrev tabK : Memref sig .scVector .hbm S4194304 .f32 := a8.slice (Rect.unit (s := S4194304) ![0] S4194304.size inb_S4194304_S4194304_0) (fun _ => rfl)
/-- Gather `g`'s semaphore. -/
abbrev semK (g : Fin 4) : DmaSems sig S_ := (a18.slice (Rect.unit (s := S4) ![g.val] S1.size (inbS g))).squeeze S_ squeezes_S1_S_

/-- One group: eight chunks, then the gather of the rows they name is started. -/
def group (g : Fin 4) : Pg (F := F) L PUnit := do
  inTurn 8 fun c => chunk L a10 a11 a12 a13 a14 a15 a16 g c
  SparseCore.enqueueIndirectGather rfl (tabK a8) (dstK a17 g) gathers_S4194304_S128 (offK a16 g) rfl (semK a18 g).sem (View.wordExact_bits rfl) rfl (Or.inl rfl)

/-- One chunk of fetched words divided by a million, in place. -/
def scale (g : Fin 4) (c : Fin 8) : Pg (F := F) L PUnit := do
  let v : Vec F S16 .f32 ← Prog.lift (.load a17 (rQ g c).toLoadRect (View.loadsAt_vmem h_S16))
  let _ : Vec F S16 .f32 ← Prog.lift (.load a17 (rQ g c).toLoadRect (View.loadsAt_vmem h_S16))
  Prog.lift (.store a17 (rQ g c) (perMega v) Finset.univ (View.stores_vmem_bits_univ h_S16 rfl) (.inl rfl))

/-- One group's end: its gather waited for, then its eight chunks divided. -/
def finish (g : Fin 4) : Pg (F := F) L PUnit := do
  SparseCore.waitIndirectGather (semK a18 g).sem (tabK a8) (dstK a17 g) (View.wordExact_bits rfl) (View.wordExact_bits rfl)
  inTurn 8 fun c => scale L a17 g c

/-- The tile's 512 words of a whole array. -/
abbrev blkK (a : Memref sig .scVector .hbm S16384 .f32) : Memref sig .scVector .hbm S512 .f32 :=
  a.slice (Rect.unit (s := S16384) (k0_off1 L) S512.size (k0_off1_inb L)) (fun _ => rfl)
/-- The tile's 512 words of the result. -/
abbrev outK : Memref sig .scVector .hbm S512 .f32 :=
  a9.slice (Rect.unit (s := S16384) (k0_off2 L) S512.size (k0_off2_inb L)) (fun _ => rfl)

/-- The six arrays copied in. -/
def fetch : Pg (F := F) L PUnit := do
  Prog.lift (.enqueueDma (blkK L a2) (.here a10) (.dma s0.sem) (View.wordExact_bits rfl) h10.wordExact ⟨Or.inl rfl, trivial⟩)
  Prog.lift (.waitDma2 s0.sem (blkK L a2) a10 (View.wordExact_bits rfl) h10.wordExact)
  Prog.lift (.enqueueDma (blkK L a3) (.here a11) (.dma s1.sem) (View.wordExact_bits rfl) h11.wordExact ⟨Or.inl rfl, trivial⟩)
  Prog.lift (.waitDma2 s1.sem (blkK L a3) a11 (View.wordExact_bits rfl) h11.wordExact)
  Prog.lift (.enqueueDma (blkK L a4) (.here a12) (.dma s2.sem) (View.wordExact_bits rfl) h12.wordExact ⟨Or.inl rfl, trivial⟩)
  Prog.lift (.waitDma2 s2.sem (blkK L a4) a12 (View.wordExact_bits rfl) h12.wordExact)
  Prog.lift (.enqueueDma a5 (.here a13) (.dma s3.sem) h5.wordExact h13.wordExact ⟨Or.inl rfl, trivial⟩)
  Prog.lift (.waitDma2 s3.sem a5 a13 h5.wordExact h13.wordExact)
  Prog.lift (.enqueueDma a6 (.here a14) (.dma s4.sem) h6.wordExact h14.wordExact ⟨Or.inl rfl, trivial⟩)
  Prog.lift (.waitDma2 s4.sem a6 a14 h6.wordExact h14.wordExact)
  Prog.lift (.enqueueDma a7 (.here a15) (.dma s5.sem) h7.wordExact h15.wordExact ⟨Or.inl rfl, trivial⟩)
  Prog.lift (.waitDma2 s5.sem a7 a15 h7.wordExact h15.wordExact)

/-- The tile's results copied out. -/
def deliver : Pg (F := F) L PUnit := do
  Prog.lift (.enqueueDma a17 (.here (outK L a9)) (.dma s6.sem) h17.wordExact (View.wordExact_bits rfl) ⟨Or.inl rfl, trivial⟩)
  Prog.lift (.waitDma2 s6.sem a17 (outK L a9) h17.wordExact (View.wordExact_bits rfl))

/-- The body from its pieces. -/
def body : Pg (F := F) L PUnit := do
  fetch L a2 a3 a4 a5 h5 a6 a7 h6 h7 a10 a11 a12 h10 h11 h12 a13 h13 a14 a15 h14 h15 s0 s1 s2 s3 s4 s5
  inTurn 4 fun g => group L a8 a10 a11 a12 a13 a14 a15 a16 a17 a18 g
  inTurn 4 fun g => finish L a8 a17 a18 g
  deliver L a9 a17 h17 s6

set_option maxRecDepth 1000000 in
set_option maxHeartbeats 0 in
/-- The printed body is the body from its pieces. -/
theorem printed_eq_body :
    cc0__lut_sc (F := F) L a2 h2 a3 h3 a4 h4 a5 h5 a6 h6 a7 h7 a8 h8 a9 h9 a10 h10 a11 h11 a12 h12 a13 h13 a14 h14 a15 h15 a16 h16 a17 h17 a18
        s0 s1 s2 s3 s4 s5 s6
      = body L a2 a3 a4 a5 h5 a6 a7 h6 h7 a8 a9 a10 a11 a12 h10 h11 h12 a13 h13 a14 a15 h14 h15 a16 a17 h17 a18 s0 s1 s2 s3 s4 s5 s6 := by
  repeat (refine op_ext fun _ => ?_)
  rfl

end

end Cert.KernelIdeal.Lookup

end
-- ==== Proof.StepsIdeal.lean ====
/-
  What one tile's steps do to its memory: a search, a chunk of sixteen queries, and the repetition of steps over parts
  held apart.
-/
module

public import proofs.«01_k».proof.Defs
public import proofs.«01_k».proof.Proof.BodyIdeal
public import proofs.«01_k».proof.Proof.Values
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.KernelIdeal.Lookup

open Cert.KernelIdeal Cert.KernelIdeal.Gen Cert.Lookup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev 𝒱₀ : Variants := Variants.none
abbrev UH : Type := URounds (GSem nD τ sig) ℕ
abbrev UU : Type := UH × Counters

local notation "𝕄" => MT nD τ sig (HIx 1) (Elt F) ℕ UU ℕ

abbrev cV (L : grid0.Coords) : Fin τ.nSC := (L 0).castLE hcore0
abbrev jV (L : grid0.Coords) : Fin τ.nSub := (L 1).castLE hsub0
/-- The vector subcore at `L`. -/
abbrev tL (d : Dev nD) (L : grid0.Coords) : Thread nD τ := V d (cV L) (jV L)

section

variable (Df : Defs nD τ sig (Elt F) Λ₀) (d : Dev nD) (L : grid0.Coords)

/-- The weakest precondition of a tile's program. -/
abbrev wpt {α : Type} (p : Pg (F := F) L α) (Q : α → sProp 𝕄) : sProp 𝕄 :=
  wp frame (wpE Df 𝒱₀ (tL d L) none) Set.univ p Q

set_option maxHeartbeats 4000000 in
/-- One search, from any share of the grid. -/
theorem wp_near {n : ℕ} (A : Memref sig .scVector .vmem (Vn n) .f32) (hn : 0 < (Vn n).numel) (C : IVec S16 32 → Prop) (dec : ∀ w, Decidable (C w))
    (hC : ∀ w, C w → ∀ a x, ((![w] : Fin 1 → IVec S16 32) a x).toNat < (Vn n).size a)
    (hi : BitVec 32) (g0 inv : F .f32) (v : FVec F S16 .f32) {α : Type} (k : IVec S16 32 → Pg (F := F) L α) (Q : α → sProp 𝕄)
    (hn1 : 0 < n) (hC1 : ∀ w : IVec S16 32, (∀ x, (w x).toNat < n) → C w) (h0 : 0 ≤ hi.toInt) (h : hi.toInt < n) (hn' : n ≤ 1000)
    {q : PosShare TreeShare} {f : Buf (Elt F) ((A.access (.whole (Vn n))).loc (tL d L))} :
    ((A.access (.whole (Vn n))).loc (tL d L) ↦[(A.access (.whole (Vn n))).set]{q} f)
      ⊢ iprop((((A.access (.whole (Vn n))).loc (tL d L) ↦[(A.access (.whole (Vn n))).set]{q} f)
          -∗ wpt Df d L (k fun x => near1 n hn1 hi g0 inv ((A.access (.whole (Vn n))).read (Elt F) f) (v x)) Q)
        -∗ wpt Df d L (near L A hn C dec hC hi g0 inv v >>= k) Q) := by
  have hp := fun x => places_lt (F := F) h0 h hn' g0 inv (v x)
  have c0 : C (guess hi g0 inv v) := hC1 _ fun x => (hp x).1
  have cm : C (below (guess hi g0 inv v)) := hC1 _ fun x => (hp x).2.1
  have cp : C (above hi (guess hi g0 inv v)) := hC1 _ fun x => (hp x).2.2
  have hl : ∀ (w : IVec S16 32) (hw : ∀ a x, ((![w] : Fin 1 → IVec S16 32) a x).toNat < (Vn n).size a) (y : (Vn n).Idx → F .f32) (x : S16.Idx),
      loadIdx (F := F) (e := .f32) y ![w] hw x = y (at1 n hn1 (w x).toNat) := by
    intro w hw y x
    refine congrArg y (funext fun a => Fin.ext ?_)
    match a with
    | 0 => exact (Nat.mod_eq_of_lt (hw 0 x)).symm
  have ek : near L A hn C dec hC hi g0 inv v >>= k
      = Prog.op (TpuEff.assume (C (guess hi g0 inv v)) (dec _)) fun h0 => Prog.op (TpuEff.assume (C (below (guess hi g0 inv v))) (dec _)) fun hm =>
        Prog.op (TpuEff.assume (C (above hi (guess hi g0 inv v))) (dec _)) fun hp =>
        SparseCore.vectorLoadIdx A ![below (guess hi g0 inv v)] (hC _ hm.down) (View.loads_vmem hn) >>= fun gm =>
        SparseCore.vectorLoadIdx A ![guess hi g0 inv v] (hC _ h0.down) (View.loads_vmem hn) >>= fun gc =>
        SparseCore.vectorLoadIdx A ![above hi (guess hi g0 inv v)] (hC _ hp.down) (View.loads_vmem hn) >>= fun gp =>
        k (choose v (below (guess hi g0 inv v)) (guess hi g0 inv v) (above hi (guess hi g0 inv v)) gm gc gp) := rfl
  rw [ek]
  iintro HA Hk
  iapply (wp_assume 𝒱₀ (tL d L) none Set.univ c0)
  iapply (wp_assume 𝒱₀ (tL d L) none Set.univ cm)
  iapply (wp_assume 𝒱₀ (tL d L) none Set.univ cp)
  iapply (SparseCore.wp_vectorLoadIdx 𝒱₀ (tL d L) none Set.univ (base := A) (s := Vn n) (Finset.Subset.refl _)) $$ HA
  iintro HA
  iapply (SparseCore.wp_vectorLoadIdx 𝒱₀ (tL d L) none Set.univ (base := A) (s := Vn n) (Finset.Subset.refl _)) $$ HA
  iintro HA
  iapply (SparseCore.wp_vectorLoadIdx 𝒱₀ (tL d L) none Set.univ (base := A) (s := Vn n) (Finset.Subset.refl _)) $$ HA
  iintro HA
  ihave Hk' := Hk $$ HA
  have e : (choose v (below (guess hi g0 inv v)) (guess hi g0 inv v) (above hi (guess hi g0 inv v))
      (loadIdx ((A.access (.whole (Vn n))).read (Elt F) f) ![below (guess hi g0 inv v)] (hC _ cm))
      (loadIdx ((A.access (.whole (Vn n))).read (Elt F) f) ![guess hi g0 inv v] (hC _ c0))
      (loadIdx ((A.access (.whole (Vn n))).read (Elt F) f) ![above hi (guess hi g0 inv v)] (hC _ cp)))
      = fun x => near1 n hn1 hi g0 inv ((A.access (.whole (Vn n))).read (Elt F) f) (v x) := by
    funext x
    show choose1 (v x) _ _ _ _ _ _ = _
    rw [hl, hl, hl]; rfl
  rw [← e]
  iexact Hk'

/-- Steps over parts held apart: each turns its part's `Φ` to `Ψ` beside what all share. -/
theorem wp_inTurn : ∀ (n : ℕ) (f : Fin n → Pg (F := F) L PUnit) (R : sProp 𝕄) (Φ Ψ : Fin n → sProp 𝕄)
    (_ : ∀ i, iprop(R ∗ Φ i) ⊢ wpt Df d L (f i) fun _ => iprop(R ∗ Ψ i)),
    iprop(R ∗ bigSep Finset.univ Φ) ⊢ wpt Df d L (inTurn n f) fun _ => iprop(R ∗ bigSep Finset.univ Ψ)
  | 0, f, R, Φ, Ψ, h => by
    have e : ∀ X : Fin 0 → sProp 𝕄, bigSep Finset.univ X = iprop(emp) := fun X => by rw [Finset.univ_eq_empty, bigSep_empty]; rfl
    rw [e Φ]; simp only [e Ψ]
    exact le_wp_ret frame (wpE Df 𝒱₀ (tL d L) none) Set.univ (PUnit.unit : PUnit) (fun _ => iprop(R ∗ emp))
  | n + 1, f, R, Φ, Ψ, h => by
    rw [bigSep_univ_succ Φ]
    simp only [bigSep_univ_succ Ψ]
    show _ ⊢ wpt Df d L (f 0 >>= fun _ => inTurn n fun i => f i.succ) _
    unfold wpt
    rw [wp_bind]
    have e1 : ∀ A B C : sProp 𝕄, iprop(A ∗ B ∗ C) ⊢ iprop((A ∗ B) ∗ C) := fun A B C => by
      iintro ⟨HA, HB, HC⟩; isplitl [HA HB]
      · isplitl [HA] <;> iassumption
      · iexact HC
    have e2 : ∀ A B C : sProp 𝕄, iprop((A ∗ B) ∗ C) ⊢ iprop((A ∗ C) ∗ B) := fun A B C => by
      iintro ⟨⟨HA, HB⟩, HC⟩; isplitl [HA HC]
      · isplitl [HA] <;> iassumption
      · iexact HB
    have e3 : ∀ A B C : sProp 𝕄, iprop((A ∗ B) ∗ C) ⊢ iprop(A ∗ C ∗ B) := fun A B C => by
      iintro ⟨⟨HA, HB⟩, HC⟩; isplitl [HA]; · iexact HA
      isplitl [HC] <;> iassumption
    have ih := wp_inTurn n (fun i => f i.succ) R (fun i => Φ i.succ) (fun i => Ψ i.succ) fun i => h i.succ
    exact (e1 _ _ _).trans ((sep_mono_left (h 0)).trans ((wp_frame_r frame _ _).trans (wp_mono frame _ _ fun _ =>
      (e2 _ _ _).trans ((sep_mono_left ih).trans ((wp_frame_r frame _ _).trans (wp_mono frame _ _ fun _ => e3 _ _ _))))))

end

end Cert.KernelIdeal.Lookup

end
-- ==== Proof.TileIdeal.lean ====
/-
  What one tile's chunks and groups do to its memory.
-/
module

public import proofs.«01_k».proof.Proof.StepsIdeal
public import Idealize.ShloMosaic.Lib.Pipeline.Value

@[expose] public section

noncomputable section

namespace Cert.KernelIdeal.Lookup

open Cert.KernelIdeal Cert.KernelIdeal.Gen Cert.Lookup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The tile's memory -/

/-- The tile's memories: three vectors of queries, three grids, the index rows, the fetched words. -/
abbrev M0 : Memref sig .scVector .vmem S512 .f32 := Memref.whole cc0_scratch0
abbrev M1 : Memref sig .scVector .vmem S512 .f32 := Memref.whole cc0_scratch1
abbrev M2 : Memref sig .scVector .vmem S512 .f32 := Memref.whole cc0_scratch2
abbrev M3 : Memref sig .scVector .vmem S256 .f32 := Memref.whole cc0_scratch3
abbrev M4 : Memref sig .scVector .vmem S128 .f32 := Memref.whole cc0_scratch4
abbrev M5 : Memref sig .scVector .vmem S128 .f32 := Memref.whole cc0_scratch5
abbrev M6 : Memref sig .scVector .vmem S4x128 .i32 := Memref.whole cc0_scratch6
abbrev M7 : Memref sig .scVector .vmem S512 .f32 := Memref.whole cc0_scratch7
/-- The table, as the tiles see it. -/
abbrev MT0 : Memref sig .scVector .hbm S4194304 .f32 := Memref.whole main_v0_scv

/-- Block `g` of a vector of 512 words, and row `g` of the index rows. -/
abbrev rV (g : Fin 4) : Rect S512 := Rect.unit (s := S512) ![128 * g.val] S128.size (inbV g)
abbrev rR (g : Fin 4) : Rect S4x128 := Rect.unit (s := S4x128) ![g.val, 0] S1x128.size (inbR g)

section

variable (Df : Defs nD τ sig (Elt F) Λ₀) (d : Dev nD) (L : grid0.Coords)
variable (fm fq fp : S512.Idx → F .f32) (gm : S256.Idx → F .f32) (gq gp : S128.Idx → F .f32) (tab : S4194304.Idx → F .f32)

/-- The queries and the grids, held by the tile. -/
abbrev held : sProp 𝕄 :=
  iprop(((tL d L).loc cc0_scratch0 ↦{fullShare} (fm : Buf (Elt F) ((tL d L).loc cc0_scratch0)))
    ∗ ((tL d L).loc cc0_scratch1 ↦{fullShare} (fq : Buf (Elt F) ((tL d L).loc cc0_scratch1)))
    ∗ ((tL d L).loc cc0_scratch2 ↦{fullShare} (fp : Buf (Elt F) ((tL d L).loc cc0_scratch2)))
    ∗ ((tL d L).loc cc0_scratch3 ↦{fullShare} (gm : Buf (Elt F) ((tL d L).loc cc0_scratch3)))
    ∗ ((tL d L).loc cc0_scratch4 ↦{fullShare} (gq : Buf (Elt F) ((tL d L).loc cc0_scratch4)))
    ∗ ((tL d L).loc cc0_scratch5 ↦{fullShare} (gp : Buf (Elt F) ((tL d L).loc cc0_scratch5))))

/-- Elements of the index rows held. -/
abbrev idxPts (I : Finset S4x128.Idx) (f : S4x128.Idx → BitVec 32) : sProp 𝕄 :=
  (tL d L).loc cc0_scratch6 ↦[(I : Finset (Idx ((tL d L).loc cc0_scratch6)))]{fullShare} (f : Buf (Elt F) ((tL d L).loc cc0_scratch6))
/-- Elements of the fetched words held. -/
abbrev valPts (I : Finset S512.Idx) (f : S512.Idx → F .f32) : sProp 𝕄 :=
  (tL d L).loc cc0_scratch7 ↦[(I : Finset (Idx ((tL d L).loc cc0_scratch7)))]{fullShare} (f : Buf (Elt F) ((tL d L).loc cc0_scratch7))

/-- The rows every chunk writes: entry `(g, l)` is the table row of query `128 g + l`. -/
def rowsOf (x : S4x128.Idx) : BitVec 32 :=
  rowOf gm gq gp (fm (at1 512 (by decide) (128 * (x 0).val + (x 1).val))) (fq (at1 512 (by decide) (128 * (x 0).val + (x 1).val)))
    (fp (at1 512 (by decide) (128 * (x 0).val + (x 1).val)))

/-- The words the gathers fetch. -/
def wordsOf (j : S512.Idx) : F .f32 := wordOf tab gm gq gp (fm j) (fq j) (fp j)

/-- The results. -/
def resultsOf (j : S512.Idx) : F .f32 := resultOf tab gm gq gp (fm j) (fq j) (fp j)

set_option maxHeartbeats 4000000 in
/-- One chunk writes its sixteen rows. -/
theorem wp_chunk (g : Fin 4) (c : Fin 8) (f : S4x128.Idx → BitVec 32) :
    iprop(held d L fm fq fp gm gq gp ∗ idxPts d L (rI g c).set f)
      ⊢ wpt Df d L (chunk L M0 M1 M2 M3 M4 M5 M6 g c)
          fun _ => iprop(held d L fm fq fp gm gq gp ∗ idxPts d L (rI g c).set (rowsOf fm fq fp gm gq gp)) := by
  have ek : chunk (F := F) L M0 M1 M2 M3 M4 M5 M6 g c
      = Prog.op (TpuEff.load M0 (rQ g c).toLoadRect (View.loadsAt_vmem h_S16)) fun m : Vec F S16 .f32 =>
        near L M3 h_S256 k0_chk1 k0_chk1.dec k0_idx1_inb 255#32 (Scalar.ofBits .f32 0x00000000#32) (Scalar.ofBits .f32 0x3D028F5C#32) m >>= fun im =>
        Prog.op (TpuEff.load M1 (rQ g c).toLoadRect (View.loadsAt_vmem h_S16)) fun q : Vec F S16 .f32 =>
        near L M4 h_S128 k0_chk4 k0_chk4.dec k0_idx4_inb 127#32 (Scalar.ofBits .f32 0xBF000000#32) (Scalar.ofBits .f32 0x42A95555#32) q >>= fun iq =>
        Prog.op (TpuEff.load M2 (rQ g c).toLoadRect (View.loadsAt_vmem h_S16)) fun p : Vec F S16 .f32 =>
        near L M5 h_S128 k0_chk4 k0_chk4.dec k0_idx4_inb 127#32 (Scalar.ofBits .f32 0x47C35000#32) (Scalar.ofBits .f32 0x36CBE536#32) (mega p) >>= fun ip =>
        Prog.op (TpuEff.load M6 (rI g c).toLoadRect (View.loadsAt_vmem h_S1x16)) fun _ : Vec F S1x16 .i32 =>
        Prog.op (TpuEff.store M6 (rI g c) (shapeCast S1x16 (flatIx im iq ip) shapeCasts_S16_S1x16) Finset.univ
          (View.stores_vmem_bits_univ h_S1x16 rfl) (.inl rfl)) fun _ => Prog.ret ⟨⟩ := rfl
  have hS (b : Ref sig .scVector) (I : Finset b.ty.shape.Idx) (r : Rect b.ty.shape) (h : r.set ⊆ I) :
      ((Memref.whole b).access r).set ⊆ I := by
    rw [show ((Memref.whole b).access r).set = r.set from View.set_slice_whole b r]; exact h
  have k1 : ∀ w : IVec S16 32, (∀ x, (w x).toNat < 256) → k0_chk1 w := fun w h a x => match a with | 0 => h x
  have k4 : ∀ w : IVec S16 32, (∀ x, (w x).toNat < 128) → k0_chk4 w := fun w h a x => match a with | 0 => h x
  rw [ek]
  iintro ⟨⟨H0, H1, H2, H3, H4, H5⟩, H6⟩
  iapply (wp_load_rect 𝒱₀ (tL d L) none Set.univ (m := M0) (r := rQ g c) (S := Finset.univ) (f := fm) (Finset.subset_univ _)) $$ H0
  iintro H0
  have hu (b : Ref sig .scVector) : ((Memref.whole b).access (.whole b.ty.shape)).set = Finset.univ := by
    rw [show ((Memref.whole b).access (.whole b.ty.shape)).set = (Rect.whole b.ty.shape).set from View.set_slice_whole b _]; exact Rect.set_whole _
  have e3 : ((tL d L).loc cc0_scratch3 ↦{fullShare} (gm : Buf (Elt F) ((tL d L).loc cc0_scratch3)) : sProp 𝕄)
      = ((M3.access (.whole (Vn 256))).loc (tL d L) ↦[(M3.access (.whole (Vn 256))).set]{fullShare} gm) := by rw [show (M3.access (.whole (Vn 256))).set = Finset.univ from hu cc0_scratch3]
  have e4 : ((tL d L).loc cc0_scratch4 ↦{fullShare} (gq : Buf (Elt F) ((tL d L).loc cc0_scratch4)) : sProp 𝕄)
      = ((M4.access (.whole (Vn 128))).loc (tL d L) ↦[(M4.access (.whole (Vn 128))).set]{fullShare} gq) := by rw [show (M4.access (.whole (Vn 128))).set = Finset.univ from hu cc0_scratch4]
  have e5 : ((tL d L).loc cc0_scratch5 ↦{fullShare} (gp : Buf (Elt F) ((tL d L).loc cc0_scratch5)) : sProp 𝕄)
      = ((M5.access (.whole (Vn 128))).loc (tL d L) ↦[(M5.access (.whole (Vn 128))).set]{fullShare} gp) := by rw [show (M5.access (.whole (Vn 128))).set = Finset.univ from hu cc0_scratch5]
  ihave H3 := (Entails.of_eq e3) $$ H3
  ihave H4 := (Entails.of_eq e4) $$ H4
  ihave H5 := (Entails.of_eq e5) $$ H5
  iapply (wp_near Df d L (n := 256) M3 h_S256 k0_chk1 k0_chk1.dec k0_idx1_inb 255#32 _ _ _ _ _ (by decide) k1 (by decide) (by decide) (by decide)) $$ H3
  iintro H3
  iapply (wp_load_rect 𝒱₀ (tL d L) none Set.univ (m := M1) (r := rQ g c) (S := Finset.univ) (f := fq) (Finset.subset_univ _)) $$ H1
  iintro H1
  iapply (wp_near Df d L (n := 128) M4 h_S128 k0_chk4 k0_chk4.dec k0_idx4_inb 127#32 _ _ _ _ _ (by decide) k4 (by decide) (by decide) (by decide)) $$ H4
  iintro H4
  iapply (wp_load_rect 𝒱₀ (tL d L) none Set.univ (m := M2) (r := rQ g c) (S := Finset.univ) (f := fp) (Finset.subset_univ _)) $$ H2
  iintro H2
  iapply (wp_near Df d L (n := 128) M5 h_S128 k0_chk4 k0_chk4.dec k0_idx4_inb 127#32 _ _ _ _ _ (by decide) k4 (by decide) (by decide) (by decide)) $$ H5
  iintro H5
  iapply (wp_load_rect 𝒱₀ (tL d L) none Set.univ (m := M6) (r := rI g c) (S := (rI g c).set) (f := f) (hS cc0_scratch6 _ _ (Finset.Subset.refl _))) $$ H6
  iintro H6
  iapply (wp_store 𝒱₀ (tL d L) none Set.univ (m := M6) (r := rI g c) (S := (rI g c).set) (f := f)
    (by rw [View.setOn_univ]; exact hS cc0_scratch6 _ _ (Finset.Subset.refl _))) $$ H6
  iintro H6
  ihave H3 := (Entails.of_eq e3.symm) $$ H3
  ihave H4 := (Entails.of_eq e4.symm) $$ H4
  ihave H5 := (Entails.of_eq e5.symm) $$ H5
  simp only [wp_ret]
  imodintro
  isplitl [H0 H1 H2 H3 H4 H5]
  · isplitl [H0]; · iexact H0
    isplitl [H1]; · iexact H1
    isplitl [H2]; · iexact H2
    isplitl [H3]; · iexact H3
    isplitl [H4] <;> iassumption
  refine Entails.of_eq (pointsTo_congr fun i hi => ?_)
  have hi' : i ∈ (M6.access (rI g c)).set := by
    rw [show (M6.access (rI g c)).set = (rI g c).set from View.set_slice_whole cc0_scratch6 _]; exact hi
  obtain ⟨x, -, rfl⟩ := Finset.mem_map.mp hi'
  refine (View.write_emb_of_mem _ _ (Finset.mem_univ x)).trans ((cast_eq _ _).trans ?_)
  have x0 : (x 0).val = 0 := Nat.lt_one_iff.mp (x 0).isLt
  have x1 : (x 1).val < 16 := (x 1).isLt
  change _ = rowsOf fm fq fp gm gq gp ((rI g c).emb x)
  rw [Idealize.ShloMosaic.shapeCast_apply _ shapeCasts_S16_S1x16 x (at1 16 (by decide) (x 1).val) (by
    rw [Shape.rowMajor_val_one, Shape.rowMajor_val_two, x0]
    show (x 1).val % 16 = 0 * 16 + (x 1).val
    omega)]
  have hk : (rQ g c).emb (at1 16 (by decide) (x 1).val) = at1 512 (by decide) (128 * (((rI g c).emb x) 0).val + (((rI g c).emb x) 1).val) := by
    funext a
    match a with
    | 0 =>
      apply Fin.ext
      show 128 * g.val + 16 * c.val + 1 * ((x 1).val % 16) = (128 * (g.val + 1 * (x 0).val) + (16 * c.val + 1 * (x 1).val)) % 512
      have := g.isLt; have := c.isLt
      omega
  unfold rowsOf
  rw [← hk]
  generalize at1 16 (by decide) (x 1).val = k
  unfold rowOf
  show flat1 _ _ _ = flat1 _ _ _
  have w3 : View.read (Elt F) (M3.access (.whole (Vn 256))) gm = gm := funext fun y => congrArg gm (Rect.emb_whole_apply (Vn 256) y)
  have w4 : View.read (Elt F) (M4.access (.whole (Vn 128))) gq = gq := funext fun y => congrArg gq (Rect.emb_whole_apply (Vn 128) y)
  have w5 : View.read (Elt F) (M5.access (.whole (Vn 128))) gp = gp := funext fun y => congrArg gp (Rect.emb_whole_apply (Vn 128) y)
  rw [w3, w4, w5]
  rfl

set_option maxHeartbeats 4000000 in
/-- One chunk's words divided, in place. -/
theorem wp_scale (g : Fin 4) (c : Fin 8) (w : S512.Idx → F .f32) :
    valPts d L (rQ g c).set w
      ⊢ wpt Df d L (scale L M7 g c) fun _ => valPts d L (rQ g c).set fun j => FloatOps.divf (w j) (Scalar.ofBits .f32 0x49742400#32) := by
  have ek : scale (F := F) L M7 g c
      = Prog.op (TpuEff.load M7 (rQ g c).toLoadRect (View.loadsAt_vmem h_S16)) fun v : Vec F S16 .f32 =>
        Prog.op (TpuEff.load M7 (rQ g c).toLoadRect (View.loadsAt_vmem h_S16)) fun _ : Vec F S16 .f32 =>
        Prog.op (TpuEff.store M7 (rQ g c) (perMega v) Finset.univ (View.stores_vmem_bits_univ h_S16 rfl) (.inl rfl)) fun _ => Prog.ret ⟨⟩ := rfl
  have hset : (M7.access (rQ g c)).set = (rQ g c).set := View.set_slice_whole cc0_scratch7 _
  rw [ek]
  iintro H
  iapply (wp_load_rect 𝒱₀ (tL d L) none Set.univ (m := M7) (r := rQ g c) (S := (rQ g c).set) (f := w) (by rw [hset])) $$ H
  iintro H
  iapply (wp_load_rect 𝒱₀ (tL d L) none Set.univ (m := M7) (r := rQ g c) (S := (rQ g c).set) (f := w) (by rw [hset])) $$ H
  iintro H
  iapply (wp_store 𝒱₀ (tL d L) none Set.univ (m := M7) (r := rQ g c) (S := (rQ g c).set) (f := w) (by rw [View.setOn_univ, hset])) $$ H
  iintro H
  simp only [wp_ret]
  imodintro
  refine Entails.of_eq (pointsTo_congr fun i hi => ?_)
  have hi' : i ∈ (M7.access (rQ g c)).set := by rw [hset]; exact hi
  obtain ⟨x, -, rfl⟩ := Finset.mem_map.mp hi'
  exact (View.write_emb_of_mem _ _ (Finset.mem_univ x)).trans ((cast_eq _ _).trans rfl)

/-! ## The parts of the memories -/

omit [FloatOps F] in
/-- A group's 128 places are those of its eight vectors. -/
theorem rV_eq (g : Fin 4) : (rV g).set = Finset.univ.biUnion fun c : Fin 8 => (rQ g c).set := by
  ext i
  simp only [Finset.mem_biUnion, Finset.mem_univ, true_and, Rect.mem_set_unit]
  constructor
  · intro h
    have h0 : 128 * g.val ≤ (i 0).val ∧ (i 0).val < 128 * g.val + 128 := h 0
    refine ⟨⟨((i 0).val - 128 * g.val) / 16, by omega⟩, fun a => ?_⟩
    match a with
    | 0 =>
      show 128 * g.val + 16 * (((i 0).val - 128 * g.val) / 16) ≤ (i 0).val ∧ (i 0).val < 128 * g.val + 16 * (((i 0).val - 128 * g.val) / 16) + 16
      omega
  · rintro ⟨c, h⟩ a
    have h0 : 128 * g.val + 16 * c.val ≤ (i 0).val ∧ (i 0).val < 128 * g.val + 16 * c.val + 16 := h 0
    match a with
    | 0 =>
      show 128 * g.val ≤ (i 0).val ∧ (i 0).val < 128 * g.val + 128
      have := c.isLt
      omega

omit [FloatOps F] in
/-- Different vectors of a group have no place in common. -/
theorem rQ_disj (g : Fin 4) : ∀ c ∈ (Finset.univ : Finset (Fin 8)), ∀ c' ∈ (Finset.univ : Finset (Fin 8)), c ≠ c' → Disjoint (rQ g c).set (rQ g c').set := by
  intro c _ c' _ h
  rw [Finset.disjoint_left]
  intro i hi hi'
  have h0 : 128 * g.val + 16 * c.val ≤ (i 0).val ∧ (i 0).val < 128 * g.val + 16 * c.val + 16 := Rect.mem_set_unit.mp hi 0
  have h1 : 128 * g.val + 16 * c'.val ≤ (i 0).val ∧ (i 0).val < 128 * g.val + 16 * c'.val + 16 := Rect.mem_set_unit.mp hi' 0
  exact h (Fin.ext (by omega))

omit [FloatOps F] in
/-- A row of the index buffer is the places of its eight vectors. -/
theorem rR_eq (g : Fin 4) : (rR g).set = Finset.univ.biUnion fun c : Fin 8 => (rI g c).set := by
  ext i
  simp only [Finset.mem_biUnion, Finset.mem_univ, true_and, Rect.mem_set_unit]
  constructor
  · intro h
    have h0 : g.val ≤ (i 0).val ∧ (i 0).val < g.val + 1 := h 0
    have h1 : 0 ≤ (i 1).val ∧ (i 1).val < 0 + 128 := h 1
    refine ⟨⟨(i 1).val / 16, by omega⟩, fun a => ?_⟩
    match a with
    | 0 => exact h0
    | 1 =>
      show 16 * ((i 1).val / 16) ≤ (i 1).val ∧ (i 1).val < 16 * ((i 1).val / 16) + 16
      omega
  · rintro ⟨c, h⟩ a
    have h1 : 16 * c.val ≤ (i 1).val ∧ (i 1).val < 16 * c.val + 16 := h 1
    match a with
    | 0 => exact h 0
    | 1 =>
      show 0 ≤ (i 1).val ∧ (i 1).val < 0 + 128
      have := c.isLt
      omega

omit [FloatOps F] in
/-- Different vectors of a row have no place in common. -/
theorem rI_disj (g : Fin 4) : ∀ c ∈ (Finset.univ : Finset (Fin 8)), ∀ c' ∈ (Finset.univ : Finset (Fin 8)), c ≠ c' → Disjoint (rI g c).set (rI g c').set := by
  intro c _ c' _ h
  rw [Finset.disjoint_left]
  intro i hi hi'
  have h0 : 16 * c.val ≤ (i 1).val ∧ (i 1).val < 16 * c.val + 16 := Rect.mem_set_unit.mp hi 1
  have h1 : 16 * c'.val ≤ (i 1).val ∧ (i 1).val < 16 * c'.val + 16 := Rect.mem_set_unit.mp hi' 1
  exact h (Fin.ext (by omega))

omit [FloatOps F] in
/-- The 512 places are those of the four groups. -/
theorem rV_cover : (Finset.univ : Finset S512.Idx) = Finset.univ.biUnion fun g : Fin 4 => (rV g).set := by
  ext i
  simp only [Finset.mem_biUnion, Finset.mem_univ, true_and, Rect.mem_set_unit, true_iff]
  have hi : (i 0).val < 512 := (i 0).isLt
  refine ⟨⟨(i 0).val / 128, by omega⟩, fun a => ?_⟩
  match a with
  | 0 =>
    show 128 * ((i 0).val / 128) ≤ (i 0).val ∧ (i 0).val < 128 * ((i 0).val / 128) + 128
    omega

omit [FloatOps F] in
/-- Different groups have no place in common. -/
theorem rV_disj : ∀ g ∈ (Finset.univ : Finset (Fin 4)), ∀ g' ∈ (Finset.univ : Finset (Fin 4)), g ≠ g' → Disjoint (rV g).set (rV g').set := by
  intro g _ g' _ h
  rw [Finset.disjoint_left]
  intro i hi hi'
  have h0 : 128 * g.val ≤ (i 0).val ∧ (i 0).val < 128 * g.val + 128 := Rect.mem_set_unit.mp hi 0
  have h1 : 128 * g'.val ≤ (i 0).val ∧ (i 0).val < 128 * g'.val + 128 := Rect.mem_set_unit.mp hi' 0
  exact h (Fin.ext (by omega))

omit [FloatOps F] in
/-- The index buffer is its four rows. -/
theorem rR_cover : (Finset.univ : Finset S4x128.Idx) = Finset.univ.biUnion fun g : Fin 4 => (rR g).set := by
  ext i
  simp only [Finset.mem_biUnion, Finset.mem_univ, true_and, Rect.mem_set_unit, true_iff]
  have hi : (i 1).val < 128 := (i 1).isLt
  refine ⟨i 0, fun a => ?_⟩
  match a with
  | 0 =>
    show (i 0).val ≤ (i 0).val ∧ (i 0).val < (i 0).val + 1
    omega
  | 1 =>
    show 0 ≤ (i 1).val ∧ (i 1).val < 0 + 128
    omega

omit [FloatOps F] in
/-- Different rows have no place in common. -/
theorem rR_disj : ∀ g ∈ (Finset.univ : Finset (Fin 4)), ∀ g' ∈ (Finset.univ : Finset (Fin 4)), g ≠ g' → Disjoint (rR g).set (rR g').set := by
  intro g _ g' _ h
  rw [Finset.disjoint_left]
  intro i hi hi'
  have h0 : g.val ≤ (i 0).val ∧ (i 0).val < g.val + 1 := Rect.mem_set_unit.mp hi 0
  have h1 : g'.val ≤ (i 0).val ∧ (i 0).val < g'.val + 1 := Rect.mem_set_unit.mp hi' 0
  exact h (Fin.ext (by omega))

/-- A row of the index rows is its eight chunks; a block of the words its eight; the words and the rows their four. -/
theorem idx_row (g : Fin 4) (f : S4x128.Idx → BitVec 32) :
    idxPts (F := F) d L (rR g).set f = bigSep Finset.univ fun c : Fin 8 => idxPts d L (rI g c).set f := by
  rw [rR_eq]; exact pointsTo_biUnion (ℓ := (tL d L).loc cc0_scratch6) Finset.univ (fun c : Fin 8 => (rI g c).set) (rI_disj g)
/-- A group's places held with contents `f` are its eight vectors' places held with `f`. -/
theorem val_block (g : Fin 4) (f : S512.Idx → F .f32) :
    valPts d L (rV g).set f = bigSep Finset.univ fun c : Fin 8 => valPts d L (rQ g c).set f := by
  rw [rV_eq]; exact pointsTo_biUnion (ℓ := (tL d L).loc cc0_scratch7) Finset.univ (fun c : Fin 8 => (rQ g c).set) (rQ_disj g)
/-- The index buffer held with contents `f` is its four rows held with `f`. -/
theorem idx_all (f : S4x128.Idx → BitVec 32) :
    idxPts (F := F) d L Finset.univ f = bigSep Finset.univ fun g : Fin 4 => idxPts d L (rR g).set f := by
  rw [rR_cover]; exact pointsTo_biUnion (ℓ := (tL d L).loc cc0_scratch6) Finset.univ (fun g : Fin 4 => (rR g).set) rR_disj
/-- The value buffer held with contents `f` is its four groups' places held with `f`. -/
theorem val_all (f : S512.Idx → F .f32) :
    valPts d L Finset.univ f = bigSep Finset.univ fun g : Fin 4 => valPts d L (rV g).set f := by
  rw [rV_cover]; exact pointsTo_biUnion (ℓ := (tL d L).loc cc0_scratch7) Finset.univ (fun g : Fin 4 => (rV g).set) rV_disj

end

end Cert.KernelIdeal.Lookup

end
-- ==== Proof.GroupIdeal.lean ====
/-
  What one tile's groups do: eight chunks and the start of a gather; the wait for it and eight divisions.
-/
module

public import proofs.«01_k».proof.Proof.TileIdeal

@[expose] public section

noncomputable section

namespace Cert.KernelIdeal.Lookup

open Cert.KernelIdeal Cert.KernelIdeal.Gen Cert.Lookup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section

variable (Df : Defs nD τ sig (Elt F) Λ₀) (d : Dev nD) (L : grid0.Coords)
variable (fm fq fp : S512.Idx → F .f32) (gm : S256.Idx → F .f32) (gq gp : S128.Idx → F .f32) (tab : S4194304.Idx → F .f32)

/-- A share of the table. -/
abbrev tabPts (q : PosShare TreeShare) : sProp 𝕄 := (tL d L).loc main_v0_scv ↦{q} (tab : Buf (Elt F) ((tL d L).loc main_v0_scv))

/-- Gather `g`'s semaphore, as a cell's name. -/
abbrev smK (g : Fin 4) : SemLoc sig := .dma (semK cc0_scratch8 g).sem

/-- What gather `g` brings back at its wait. -/
abbrev back (q : PosShare TreeShare) (g : Fin 4) : sProp 𝕄 :=
  iprop(valPts d L (rV g).set (wordsOf fm fq fp gm gq gp tab) ∗ tabPts d L tab q ∗ idxPts d L (rR g).set (rowsOf fm fq fp gm gq gp))

/-- Gather `g` under way. -/
abbrev flying (q : PosShare TreeShare) (g : Fin 4) : sProp 𝕄 :=
  Transfers.Flight countersEmb (tL d L) (smK g) (default : HIx 1) (dstK M7 g).view.dmaCredit (back d L fm fq fp gm gq gp tab q g)

omit [FloatOps F] in
/-- A group's copy writes the group's 128 places of the value buffer. -/
theorem set_dst (g : Fin 4) : (dstK M7 g).view.set = (rV g).set := View.set_slice_whole cc0_scratch7 _
omit [FloatOps F] in
/-- A group's copy reads its list from the group's row of the index buffer. -/
theorem set_off (g : Fin 4) : (offK M6 g).view.set = (rR g).set := by
  show (((Memref.whole cc0_scratch6).view.slice (rR g)).reshape S128 squeezes_S1x128_S128.numel_eq).set = _
  rw [View.set_reshape]; exact View.set_slice_whole cc0_scratch6 _
omit [FloatOps F] in
/-- A group's copy may read every word of the table. -/
theorem set_tab : (tabK MT0).view.set = Finset.univ := by
  rw [show (tabK MT0).view.set = (Rect.unit (s := S4194304) ![0] S4194304.size inb_S4194304_S4194304_0).set from View.set_slice_whole main_v0_scv _]
  ext i
  simp only [Finset.mem_univ, iff_true, Rect.mem_set_unit]
  intro a
  match a with
  | 0 =>
    have := (i 0).isLt
    exact ⟨Nat.zero_le _, by simpa using this⟩

/-- The list of gather `g` read out of the index rows: entry `l` is the table row of query `128 g + l`. -/
theorem read_off (g : Fin 4) (x : S128.Idx) :
    (offK M6 g).view.read (Elt F) (rowsOf fm fq fp gm gq gp) x
      = (rowOf gm gq gp (fm (at1 512 (by decide) (128 * g.val + (x 0).val))) (fq (at1 512 (by decide) (128 * g.val + (x 0).val)))
          (fp (at1 512 (by decide) (128 * g.val + (x 0).val))) : BitVec 32) := by
  refine (View.read_apply _ _).trans ((cast_eq _ _).trans ?_)
  have hx : (x 0).val < 128 := (x 0).isLt
  let y : S1x128.Idx := fun a => match a with | 0 => ⟨0, Nat.one_pos⟩ | 1 => ⟨(x 0).val, hx⟩
  have e : Shape.reshapeEquiv (s := S1x128) (s' := S128) squeezes_S1x128_S128.numel_eq x = y :=
    Shape.reshapeEquiv_eq_of_rowMajor _ (by
      rw [Shape.rowMajor_val_one, Shape.rowMajor_val_two]
      show 0 * 128 + (x 0).val = (x 0).val
      omega)
  have ee : (offK M6 g).view.emb x = (rR g).emb y := congrArg (rR g).emb e
  rw [ee]
  have e0 : (((rR g).emb y) 0).val = g.val := by show g.val + 1 * 0 = g.val; omega
  have e1 : (((rR g).emb y) 1).val = (x 0).val := by show 0 + 1 * (x 0).val = (x 0).val; omega
  unfold rowsOf
  rw [e0, e1]

/-- The words gather `g` lands are those of its block. -/
theorem payload_eq (g : Fin 4) (fd : S512.Idx → F .f32)
    (hin : ∀ x, ((offK M6 g).view.read (Elt F) (rowsOf fm fq fp gm gq gp) x).toNat < S4194304.size gathers_S4194304_S128.axis)
    (i : S512.Idx) (hi : i ∈ (rV g).set) :
    (dstK M7 g).view.write (Elt F) fd
        (SparseCore.gatherPayload gathers_S4194304_S128 ((tabK MT0).view.read (Elt F) tab)
          (SparseCore.rows ((offK M6 g).view.read (Elt F) (rowsOf fm fq fp gm gq gp)) rfl hin)) Finset.univ i
      = wordsOf fm fq fp gm gq gp tab i := by
  have hi' : i ∈ (dstK M7 g).view.set := by rw [set_dst]; exact hi
  obtain ⟨x, -, rfl⟩ := Finset.mem_map.mp hi'
  refine (View.write_emb_of_mem _ _ (Finset.mem_univ x)).trans ((cast_eq _ _).trans ?_)
  have hx : (x 0).val < 128 := (x 0).isLt
  have ei : (dstK M7 g).view.emb x = at1 512 (by decide) (128 * g.val + (x 0).val) := by
    funext a
    match a with
    | 0 =>
      apply Fin.ext
      show 128 * g.val + 1 * (x 0).val = (128 * g.val + (x 0).val) % 512
      have := g.isLt
      omega
  rw [ei]
  unfold SparseCore.gatherPayload wordsOf wordOf
  refine (View.read_apply _ _).trans ((cast_eq _ _).trans (congrArg tab ?_))
  funext a
  match a with
  | 0 =>
    apply Fin.ext
    show 0 + 1 * (gathers_S4194304_S128.idx _ x gathers_S4194304_S128.axis).val = _ % 4194304
    rw [Shape.Gathers.idx_axis]
    show 0 + 1 * ((offK M6 g).view.read (Elt F) (rowsOf fm fq fp gm gq gp)
      (S128.rowMajor.symm _)).toNat = _
    have ex : S128.rowMajor.symm ((x 0).cast (rfl : S128.numel = 128).symm) = x := by
      rw [Equiv.symm_apply_eq]
      apply Fin.ext
      rw [Shape.rowMajor_val_one]; rfl
    have hr := read_off (F := F) fm fq fp gm gq gp g x
    have hl := rowOf_lt (F := F) gm gq gp (fm (at1 512 (by decide) (128 * g.val + (x 0).val))) (fq (at1 512 (by decide) (128 * g.val + (x 0).val)))
          (fp (at1 512 (by decide) (128 * g.val + (x 0).val)))
    rw [Nat.mod_eq_of_lt hl, ← hr, Nat.zero_add, Nat.one_mul]
    exact congrArg (fun y => ((offK M6 g).view.read (Elt F) (rowsOf fm fq fp gm gq gp) y).toNat) ex

set_option maxHeartbeats 800000 in
/-- One group: its rows written, its gather started. -/
theorem wp_group (g : Fin 4) (q : PosShare TreeShare) :
    iprop(held d L fm fq fp gm gq gp ∗ ((∃ f, idxPts d L (rR g).set f) ∗ (∃ f, valPts d L (rV g).set f) ∗ tabPts d L tab q ∗ semVal (tL d L, smK g) 0))
      ⊢ wpt Df d L (group L MT0 M0 M1 M2 M3 M4 M5 M6 M7 cc0_scratch8 g)
          fun _ => iprop(held d L fm fq fp gm gq gp ∗ flying d L fm fq fp gm gq gp tab q g) := by
  have ek : group (F := F) L MT0 M0 M1 M2 M3 M4 M5 M6 M7 cc0_scratch8 g
      = (inTurn 8 fun c => chunk L M0 M1 M2 M3 M4 M5 M6 g c) >>= fun _ =>
        SparseCore.enqueueIndirectGather rfl (tabK MT0) (dstK M7 g) gathers_S4194304_S128 (offK M6 g) rfl (semK cc0_scratch8 g).sem
          (View.wordExact_bits rfl) rfl (Or.inl rfl) >>= Prog.ret := by
    unfold group; exact congrArg _ (funext fun _ => (Prog.bind_pure _).symm)
  rw [ek]
  unfold wpt
  rw [wp_bind]
  iintro ⟨Hh, ⟨%f, Hi⟩, ⟨%f', Hv⟩, Ht, Hs⟩
  ihave Hi := (Entails.of_eq (idx_row d L g f)) $$ Hi
  iapply (wp_wand_r frame (wpE Df 𝒱₀ (tL d L) none) Set.univ
    (Q := fun _ => iprop(held d L fm fq fp gm gq gp ∗ bigSep Finset.univ fun c : Fin 8 => idxPts d L (rI g c).set (rowsOf fm fq fp gm gq gp))))
  isplitl [Hh Hi]
  · iapply (wp_inTurn Df d L 8 (fun c => chunk L M0 M1 M2 M3 M4 M5 M6 g c) (held d L fm fq fp gm gq gp)
      (fun c => idxPts d L (rI g c).set f) (fun c => idxPts d L (rI g c).set (rowsOf fm fq fp gm gq gp)) fun c => wp_chunk Df d L fm fq fp gm gq gp g c f)
    isplitl [Hh] <;> iassumption
  iintro %_ ⟨Hh, Hi⟩
  ihave Hi := (Entails.of_eq (idx_row d L g (rowsOf fm fq fp gm gq gp)).symm) $$ Hi
  have hin : ∀ x, ((offK M6 g).view.read (Elt F) (rowsOf fm fq fp gm gq gp) x).toNat
      < S4194304.size gathers_S4194304_S128.axis := fun x => by
    rw [read_off]; exact rowOf_lt _ _ _ _ _ _
  have hN : ∀ (g : Fin 4) (h : S4194304.Gathers 0 S128), ∑ j, ((dstK M7 g).slice (S128.rowRect h.axis' j) (S128.stride_rowRect h.axis' j)).view.dmaCredit
      = (dstK M7 g).view.dmaCredit := by
    intro g h
    have e : ∀ j, ((dstK M7 g).slice (S128.rowRect h.axis' j) (S128.stride_rowRect h.axis' j)).view.dmaCredit
        = sig.dmaCredit .scVector (.local .scVector .vmem) (7 : Fin 8) (S128.rowShape (0 : Fin 1)) .f32 := fun _ => rfl
    rw [Finset.sum_congr rfl fun j _ => e j, Finset.sum_const]
    show (Finset.univ : Finset (Fin 128)).card • sig.dmaCredit .scVector (.local .scVector .vmem) (7 : Fin 8) (S128.rowShape (0 : Fin 1)) .f32
      = sig.dmaCredit .scVector (.local .scVector .vmem) (7 : Fin 8) S128 .f32
    decide
  ihave Hd := (Entails.of_eq (show valPts d L (rV g).set f' = ((dstK M7 g).view.loc (tL d L) ↦[(dstK M7 g).view.set]{fullShare} f' : sProp 𝕄) by rw [set_dst])) $$ Hv
  ihave Ho := (Entails.of_eq (show idxPts d L (rR g).set (rowsOf fm fq fp gm gq gp)
    = ((offK M6 g).view.loc (tL d L) ↦[(offK M6 g).view.set]{fullShare} rowsOf fm fq fp gm gq gp : sProp 𝕄) by rw [set_off])) $$ Hi
  ihave Hsrc := (Entails.of_eq (show tabPts d L tab q = ((tabK MT0).view.loc (tL d L) ↦[(tabK MT0).view.set]{q} tab : sProp 𝕄) by rw [set_tab])) $$ Ht
  iapply (SparseCore.wp_indirectGatherLocal countersEmb 𝒱₀ (tL d L) none (hg := gathers_S4194304_S128) (default : HIx 1)
      (dstK M7 g).view.dmaCredit (hN g _) (by decide) hin) $$ [Hsrc Hd Ho Hs]
  · isplitl [Hsrc]; · iexact Hsrc
    isplitl [Hd]; · iexact Hd
    isplitl [Ho]; · iexact Ho
    iexact Hs
  iintro Hfl
  simp only [wp_ret]
  imodintro
  isplitl [Hh]; · iexact Hh
  have eb : back d L fm fq fp gm gq gp tab q g
      = iprop(((dstK M7 g).view.loc (tL d L) ↦[(dstK M7 g).view.set]{fullShare} ((dstK M7 g).view.write (Elt F) f'
        (SparseCore.gatherPayload gathers_S4194304_S128 ((tabK MT0).view.read (Elt F) tab)
          (SparseCore.rows ((offK M6 g).view.read (Elt F) (rowsOf fm fq fp gm gq gp)) rfl hin)) Finset.univ))
        ∗ ((tabK MT0).view.loc (tL d L) ↦[(tabK MT0).view.set]{q} tab)
        ∗ ((offK M6 g).view.loc (tL d L) ↦[(offK M6 g).view.set]{fullShare} rowsOf fm fq fp gm gq gp)) := by
    have ev := pointsTo_congr (Ix := HIx 1) (Name := ℕ) (U := UU) (Lvl := ℕ) (ℓ := (tL d L).loc cc0_scratch7) (q := fullShare) (I := (rV g).set)
      fun i hi => payload_eq fm fq fp gm gq gp tab g f' hin i hi
    rw [set_dst, set_off, set_tab]
    exact congrArg (fun X : sProp 𝕄 => iprop(X ∗ tabPts d L tab q ∗ idxPts d L (rR g).set (rowsOf fm fq fp gm gq gp))) ev.symm
  unfold flying
  rw [eb]
  iexact Hfl

set_option maxHeartbeats 800000 in
/-- One group's end: the words landed and divided, the shares and the semaphore back. -/
theorem wp_finish (g : Fin 4) (q : PosShare TreeShare) (O : CellTallies nD τ sig (HIx 1)) (W : Waits sig (HIx 1)) :
    iprop((Transfers.MayWaits (tL d L) (default : HIx 1) O ∗ ∃ W', ⌜∀ p ∈ W', p ∈ W ∨ p.2 = none⌝ ∗ owes (tL d L) O W')
        ∗ flying d L fm fq fp gm gq gp tab q g)
      ⊢ wpt Df d L (finish L MT0 M7 cc0_scratch8 g)
          fun _ => iprop((Transfers.MayWaits (tL d L) (default : HIx 1) O ∗ ∃ W', ⌜∀ p ∈ W', p ∈ W ∨ p.2 = none⌝ ∗ owes (tL d L) O W')
            ∗ (valPts d L (rV g).set (resultsOf fm fq fp gm gq gp tab) ∗ tabPts d L tab q ∗ (∃ f, idxPts d L (rR g).set f) ∗ semVal (tL d L, smK g) 0)) := by
  have ek : finish (F := F) L MT0 M7 cc0_scratch8 g
      = (Prog.op (.waitDma2 (semK cc0_scratch8 g).sem (tabK MT0) (dstK M7 g) (View.wordExact_bits rfl) (View.wordExact_bits rfl)) fun _ =>
        inTurn 8 fun c => scale L M7 g c : Pg (F := F) L PUnit) := rfl
  rw [ek]
  iintro ⟨⟨#Hmw, %W', %hW', HO⟩, Hfl⟩
  iapply (Transfers.wp_waitLocalO countersEmb 𝒱₀ (tL d L) none (default : HIx 1) (rfl : (dstK M7 g).view.dmaCredit = _)) $$ [Hfl HO]
  · isplitl [Hfl]; · iexact Hfl
    isplitl [HO]; · iexact HO
    iapply (Transfers.MayWaits.elim (smK g)) $$ Hmw
  iintro ⟨⟨Hv, Ht, Hi⟩, Hs, HO⟩
  ihave Hv := (Entails.of_eq (val_block d L g (wordsOf fm fq fp gm gq gp tab))) $$ Hv
  iapply (wp_wand_r frame (wpE Df 𝒱₀ (tL d L) none) Set.univ
    (Q := fun _ => iprop(emp ∗ bigSep Finset.univ fun c : Fin 8 => valPts d L (rQ g c).set (resultsOf fm fq fp gm gq gp tab))))
  isplitl [Hv]
  · iapply (wp_inTurn Df d L 8 (fun c => scale L M7 g c) iprop(emp)
      (fun c => valPts d L (rQ g c).set (wordsOf fm fq fp gm gq gp tab)) (fun c => valPts d L (rQ g c).set (resultsOf fm fq fp gm gq gp tab)) fun c => by
        iintro ⟨-, Hc⟩
        iapply (wp_wand_r frame (wpE Df 𝒱₀ (tL d L) none) Set.univ
          (Q := fun _ => valPts d L (rQ g c).set (resultsOf fm fq fp gm gq gp tab)))
        isplitl [Hc]
        · iapply (wp_scale Df d L g c (wordsOf fm fq fp gm gq gp tab)); iexact Hc
        · iintro %_ Hc; isplitr
          · iempintro
          · iexact Hc)
    isplitr
    · iempintro
    · iexact Hv
  iintro %_ ⟨-, Hv⟩
  ihave Hv := (Entails.of_eq (val_block d L g (resultsOf fm fq fp gm gq gp tab)).symm) $$ Hv
  isplitl [HO]
  · isplitr; · iexact Hmw
    iexists _; isplitr
    swap; · iexact HO
    ipureintro; intro p hp
    rcases Finset.mem_insert.mp hp with hp | hp
    · exact .inr (hp ▸ rfl)
    · exact hW' p hp
  isplitl [Hv]; · iexact Hv
  isplitl [Ht]; · iexact Ht
  isplitl [Hi]; · iexists _; iexact Hi
  iexact Hs

end

end Cert.KernelIdeal.Lookup

end
-- ==== Proof.TaskIdeal.lean ====
/-
  What one tile does from its arrays to its block of the result.
-/
module

public import proofs.«01_k».proof.Proof.GroupIdeal
public import Idealize.ShloMosaic.Lib.ShareLeaves

@[expose] public section

noncomputable section

namespace Cert.KernelIdeal.Lookup

open Cert.KernelIdeal Cert.KernelIdeal.Gen Cert.Lookup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section

variable (Df : Defs nD τ sig (Elt F) Λ₀) (d : Dev nD) (L : grid0.Coords)
variable (O : CellTallies nD τ sig (HIx 1)) (W : Waits sig (HIx 1))

/-- What the tile owes the launch, and the leave to wait for its own copies. -/
abbrev owed : sProp 𝕄 :=
  iprop(Transfers.MayWaits (tL d L) (default : HIx 1) O ∗ ∃ W', ⌜∀ p ∈ W', p ∈ W ∨ p.2 = none⌝ ∗ owes (tL d L) O W')

/-- A copy within the tile's reach, and the wait for it. -/
def copy {sp sp' : Space} {s : Shape} (src : Memref sig .scVector sp s .f32) (dst : Memref sig .scVector sp' s .f32) (sem : DmaSem sig)
    (hs : src.view.WordExact) (hd : dst.view.WordExact) (ht : DmaTarget.Typed (nD := nD) (τ := τ) (p := .scVector (cV L) (jV L)) sp (.dma sem) (.here dst)) :
    Pg (F := F) L PUnit := do
  Prog.lift (.enqueueDma src (.here dst) (.dma sem) hs hd ht)
  Prog.lift (.waitDma2 sem src dst hs hd)

set_option maxHeartbeats 800000 in
/-- A copy and its wait: the destination holds what the source reads. -/
theorem wp_copy {sp sp' : Space} {s : Shape} (src : Memref sig .scVector sp s .f32) (dst : Memref sig .scVector sp' s .f32) (sem : DmaSem sig)
    (hs : src.view.WordExact) (hd : dst.view.WordExact) (ht : DmaTarget.Typed (nD := nD) (τ := τ) (p := .scVector (cV L) (jV L)) sp (.dma sem) (.here dst))
    (q : PosShare TreeShare) (fs : Buf (Elt F) (src.view.loc (tL d L))) (fd : Buf (Elt F) (dst.view.loc (tL d L))) (hp : 0 < s.numel) :
    iprop(owed d L O W ∗ (src.view.loc (tL d L) ↦[src.view.set]{q} fs) ∗ (dst.view.loc (tL d L) ↦[dst.view.set]{fullShare} fd)
        ∗ semVal (tL d L, SemLoc.dma sem) 0)
      ⊢ wpt Df d L (copy L src dst sem hs hd ht)
          fun _ => iprop(owed d L O W ∗ (src.view.loc (tL d L) ↦[src.view.set]{q} fs)
            ∗ (dst.view.loc (tL d L) ↦[dst.view.set]{fullShare} dst.view.write (Elt F) fd (src.view.read (Elt F) fs) Finset.univ)
            ∗ semVal (tL d L, SemLoc.dma sem) 0) := by
  have ek : copy (F := F) L src dst sem hs hd ht
      = (Prog.op (.enqueueDma src (.here dst) (.dma sem) hs hd ht) fun _ =>
        Prog.op (.waitDma2 sem src dst hs hd) fun _ => Prog.ret ⟨⟩ : Pg (F := F) L PUnit) := rfl
  rw [ek]
  iintro ⟨⟨#Hmw, %W', %hW', HO⟩, Hs, Hd, Hv⟩
  iapply (Transfers.wp_dmaLocal countersEmb 𝒱₀ (tL d L) none (default : HIx 1) dst.view.dmaCredit rfl (dst.view.dmaCredit_pos hp) (Finset.Subset.refl _))
    $$ [Hs Hd Hv]
  · isplitl [Hs]; · iexact Hs
    isplitl [Hd]; · iexact Hd
    iexact Hv
  iintro Hfl
  iapply (Transfers.wp_waitLocalO countersEmb 𝒱₀ (tL d L) none (default : HIx 1) (rfl : dst.view.dmaCredit = _)) $$ [Hfl HO]
  · isplitl [Hfl]; · iexact Hfl
    isplitl [HO]; · iexact HO
    iapply (Transfers.MayWaits.elim (SemLoc.dma sem)) $$ Hmw
  iintro ⟨⟨Hd, Hs⟩, Hv, HO⟩
  simp only [wp_ret]
  imodintro
  isplitl [HO]
  · isplitr; · iexact Hmw
    iexists _; isplitr
    swap; · iexact HO
    ipureintro; intro p hp
    rcases Finset.mem_insert.mp hp with hp | hp
    · exact .inr (hp ▸ rfl)
    · exact hW' p hp
  isplitl [Hs]; · iexact Hs
  isplitl [Hd]; · iexact Hd
  iexact Hv

set_option maxHeartbeats 800000 in
/-- A fetch: a whole buffer of the tile filled from a share of an array. -/
theorem wp_fetch1 {sp sp' : Space} {s : Shape} (src : Memref sig .scVector sp s .f32) (dst : Memref sig .scVector sp' s .f32) (sem : DmaSem sig)
    (hs : src.view.WordExact) (hd : dst.view.WordExact) (ht : DmaTarget.Typed (nD := nD) (τ := τ) (p := .scVector (cV L) (jV L)) sp (.dma sem) (.here dst))
    (q : PosShare TreeShare) (fs : Buf (Elt F) (src.view.loc (tL d L))) (fn : Buf (Elt F) (dst.view.loc (tL d L))) (hp : 0 < s.numel)
    (hu : dst.view.set = Finset.univ) (hw : ∀ fd, dst.view.write (Elt F) fd (src.view.read (Elt F) fs) Finset.univ = fn) :
    iprop(owed d L O W ∗ (src.view.loc (tL d L) ↦{q} fs) ∗ (∃ fd, dst.view.loc (tL d L) ↦{fullShare} fd) ∗ semVal (tL d L, SemLoc.dma sem) 0)
      ⊢ wpt Df d L (copy L src dst sem hs hd ht)
          fun _ => iprop(owed d L O W ∗ (src.view.loc (tL d L) ↦{q} fs) ∗ (dst.view.loc (tL d L) ↦{fullShare} fn) ∗ semVal (tL d L, SemLoc.dma sem) 0) := by
  iintro ⟨HO, Hs, ⟨%fd, Hd⟩, Hv⟩
  have ed : ∀ f : Buf (Elt F) (dst.view.loc (tL d L)), (dst.view.loc (tL d L) ↦[dst.view.set]{fullShare} f : sProp 𝕄) = (dst.view.loc (tL d L) ↦{fullShare} f) := by
    intro f; rw [hu]
  ihave Hs := (pointsTo_split_subset (q := q) (f := fs) (S := Finset.univ) (Finset.subset_univ src.view.set)).1 $$ Hs
  icases Hs with ⟨Hs, Hr⟩
  ihave Hd := (Entails.of_eq (ed fd).symm) $$ Hd
  iapply (wp_wand_r frame (wpE Df 𝒱₀ (tL d L) none) Set.univ
    (Q := fun _ => iprop(owed d L O W ∗ (src.view.loc (tL d L) ↦[src.view.set]{q} fs)
            ∗ (dst.view.loc (tL d L) ↦[dst.view.set]{fullShare} dst.view.write (Elt F) fd (src.view.read (Elt F) fs) Finset.univ)
            ∗ semVal (tL d L, SemLoc.dma sem) 0)))
  isplitl [HO Hs Hd Hv]
  · iapply (wp_copy Df d L O W src dst sem hs hd ht q fs fd hp)
    isplitl [HO]; · iexact HO
    isplitl [Hs]; · iexact Hs
    isplitl [Hd]; · iexact Hd
    iexact Hv
  iintro %_ ⟨HO, Hs, Hd, Hv⟩
  rw [hw fd]
  isplitl [HO]; · iexact HO
  isplitl [Hs Hr]
  · iapply (pointsTo_split_subset (q := q) (f := fs) (S := Finset.univ) (Finset.subset_univ src.view.set)).2
    isplitl [Hs] <;> iassumption
  isplitl [Hd]; · iapply (Entails.of_eq (ed fn)); iexact Hd
  iexact Hv

/-! ## The arrays -/

/-- The tile's 512 places of a whole array, and of the result. -/
abbrev blkR : Rect S16384 := Rect.unit (s := S16384) (k0_off1 L) S512.size (k0_off1_inb L)
abbrev outR : Rect S16384 := Rect.unit (s := S16384) (k0_off2 L) S512.size (k0_off2_inb L)
/-- The tile's 512 words of a whole array. -/
def blk (f : S16384.Idx → F .f32) (x : S512.Idx) : F .f32 := f ((blkR L).emb x)

variable (mf qf pf : S16384.Idx → F .f32) (gm : S256.Idx → F .f32) (gq gp : S128.Idx → F .f32) (tab : S4194304.Idx → F .f32)

/-- All results. -/
def outOf (j : S16384.Idx) : F .f32 := resultOf tab gm gq gp (mf j) (qf j) (pf j)

/-- A share of the six arrays that are copied in. -/
abbrev given (q : PosShare TreeShare) : sProp 𝕄 :=
  iprop(((tL d L).loc main_arg0_scv ↦{q} (mf : Buf (Elt F) ((tL d L).loc main_arg0_scv)))
    ∗ ((tL d L).loc main_arg1_scv ↦{q} (qf : Buf (Elt F) ((tL d L).loc main_arg1_scv)))
    ∗ ((tL d L).loc main_arg2_scv ↦{q} (pf : Buf (Elt F) ((tL d L).loc main_arg2_scv)))
    ∗ ((tL d L).loc main_arg3_scv ↦{q} (gm : Buf (Elt F) ((tL d L).loc main_arg3_scv)))
    ∗ ((tL d L).loc main_arg4_scv ↦{q} (gq : Buf (Elt F) ((tL d L).loc main_arg4_scv)))
    ∗ ((tL d L).loc main_arg5_scv ↦{q} (gp : Buf (Elt F) ((tL d L).loc main_arg5_scv))))

/-- The tile's block of the result, held at some contents. -/
abbrev outPts (f : S16384.Idx → F .f32) : sProp 𝕄 :=
  (tL d L).loc main_v1_scv ↦[((outR L).set : Finset (Idx ((tL d L).loc main_v1_scv)))]{fullShare} (f : Buf (Elt F) ((tL d L).loc main_v1_scv))

/-- The six buffers to be filled. -/
abbrev blank : sProp 𝕄 :=
  iprop((∃ f, (tL d L).loc cc0_scratch0 ↦{fullShare} f) ∗ (∃ f, (tL d L).loc cc0_scratch1 ↦{fullShare} f) ∗ (∃ f, (tL d L).loc cc0_scratch2 ↦{fullShare} f)
    ∗ (∃ f, (tL d L).loc cc0_scratch3 ↦{fullShare} f) ∗ (∃ f, (tL d L).loc cc0_scratch4 ↦{fullShare} f) ∗ (∃ f, (tL d L).loc cc0_scratch5 ↦{fullShare} f))

/-- The six fetches' semaphores at rest. -/
abbrev sems6 : sProp 𝕄 :=
  iprop(semVal (tL d L, SemLoc.dma cc0_scoped0.sem) 0 ∗ semVal (tL d L, SemLoc.dma cc0_scoped1.sem) 0 ∗ semVal (tL d L, SemLoc.dma cc0_scoped2.sem) 0
    ∗ semVal (tL d L, SemLoc.dma cc0_scoped3.sem) 0 ∗ semVal (tL d L, SemLoc.dma cc0_scoped4.sem) 0 ∗ semVal (tL d L, SemLoc.dma cc0_scoped5.sem) 0)

abbrev A0 : Memref sig .scVector .hbm S16384 .f32 := Memref.whole main_arg0_scv
abbrev A1 : Memref sig .scVector .hbm S16384 .f32 := Memref.whole main_arg1_scv
abbrev A2 : Memref sig .scVector .hbm S16384 .f32 := Memref.whole main_arg2_scv
abbrev A3 : Memref sig .scVector .hbm S256 .f32 := Memref.whole main_arg3_scv
abbrev A4 : Memref sig .scVector .hbm S128 .f32 := Memref.whole main_arg4_scv
abbrev A5 : Memref sig .scVector .hbm S128 .f32 := Memref.whole main_arg5_scv
abbrev AO : Memref sig .scVector .hbm S16384 .f32 := Memref.whole main_v1_scv

set_option maxHeartbeats 1600000 in
/-- The six fetches. -/
theorem wp_fetch (q : PosShare TreeShare) :
    iprop(owed d L O W ∗ given d L mf qf pf gm gq gp q ∗ blank d L ∗ sems6 d L)
      ⊢ wpt Df d L (fetch L A0 A1 A2 A3 (Memref.isWhole_whole _) A4 A5 (Memref.isWhole_whole _) (Memref.isWhole_whole _)
          M0 M1 M2 (Memref.isWhole_whole _) (Memref.isWhole_whole _) (Memref.isWhole_whole _) M3 (Memref.isWhole_whole _)
          M4 M5 (Memref.isWhole_whole _) (Memref.isWhole_whole _) cc0_scoped0 cc0_scoped1 cc0_scoped2 cc0_scoped3 cc0_scoped4 cc0_scoped5)
          fun _ => iprop(owed d L O W ∗ given d L mf qf pf gm gq gp q ∗ held d L (blk L mf) (blk L qf) (blk L pf) gm gq gp ∗ sems6 d L) := by
  have ek : fetch (F := F) L A0 A1 A2 A3 (Memref.isWhole_whole _) A4 A5 (Memref.isWhole_whole _) (Memref.isWhole_whole _)
          M0 M1 M2 (Memref.isWhole_whole _) (Memref.isWhole_whole _) (Memref.isWhole_whole _) M3 (Memref.isWhole_whole _)
          M4 M5 (Memref.isWhole_whole _) (Memref.isWhole_whole _) cc0_scoped0 cc0_scoped1 cc0_scoped2 cc0_scoped3 cc0_scoped4 cc0_scoped5
      = (copy L (blkK L A0) M0 cc0_scoped0.sem (View.wordExact_bits rfl) (Memref.isWhole_whole _).wordExact ⟨Or.inl rfl, trivial⟩ >>= fun _ =>
        copy L (blkK L A1) M1 cc0_scoped1.sem (View.wordExact_bits rfl) (Memref.isWhole_whole _).wordExact ⟨Or.inl rfl, trivial⟩ >>= fun _ =>
        copy L (blkK L A2) M2 cc0_scoped2.sem (View.wordExact_bits rfl) (Memref.isWhole_whole _).wordExact ⟨Or.inl rfl, trivial⟩ >>= fun _ =>
        copy L A3 M3 cc0_scoped3.sem (Memref.isWhole_whole _).wordExact (Memref.isWhole_whole _).wordExact ⟨Or.inl rfl, trivial⟩ >>= fun _ =>
        copy L A4 M4 cc0_scoped4.sem (Memref.isWhole_whole _).wordExact (Memref.isWhole_whole _).wordExact ⟨Or.inl rfl, trivial⟩ >>= fun _ =>
        copy L A5 M5 cc0_scoped5.sem (Memref.isWhole_whole _).wordExact (Memref.isWhole_whole _).wordExact ⟨Or.inl rfl, trivial⟩) := rfl
  have hb : ∀ (b : Ref sig .scVector) (fd f : b.ty.Contents (Elt F)), (View.whole b).write (Elt F) fd f Finset.univ = f :=
    fun b fd f => View.write_whole_univ b fd f
  rw [ek]
  unfold wpt
  iintro ⟨HO, ⟨H0, H1, H2, H3, H4, H5⟩, ⟨B0, B1, B2, B3, B4, B5⟩, ⟨S0, S1, S2, S3, S4, S5⟩⟩
  rw [wp_bind]
  iapply (wp_wand_r frame (wpE Df 𝒱₀ (tL d L) none) Set.univ) $$ [HO H0 B0 S0 H1 H2 H3 H4 H5 B1 B2 B3 B4 B5 S1 S2 S3 S4 S5]
  isplitl [HO H0 B0 S0]
  · iapply (wp_fetch1 Df d L O W (blkK L A0) M0 cc0_scoped0.sem _ _ _ q mf (blk L mf) (by decide) (View.set_whole _) fun fd => hb cc0_scratch0 fd (blk L mf))
    isplitl [HO]; · iexact HO
    isplitl [H0]; · iexact H0
    isplitl [B0]; · iexact B0
    iexact S0
  iintro %_ ⟨HO, H0, B0, S0⟩
  rw [wp_bind]
  iapply (wp_wand_r frame (wpE Df 𝒱₀ (tL d L) none) Set.univ) $$ [HO H1 B1 S1 H0 H2 H3 H4 H5 B0 B2 B3 B4 B5 S0 S2 S3 S4 S5]
  isplitl [HO H1 B1 S1]
  · iapply (wp_fetch1 Df d L O W (blkK L A1) M1 cc0_scoped1.sem _ _ _ q qf (blk L qf) (by decide) (View.set_whole _) fun fd => hb cc0_scratch1 fd (blk L qf))
    isplitl [HO]; · iexact HO
    isplitl [H1]; · iexact H1
    isplitl [B1]; · iexact B1
    iexact S1
  iintro %_ ⟨HO, H1, B1, S1⟩
  rw [wp_bind]
  iapply (wp_wand_r frame (wpE Df 𝒱₀ (tL d L) none) Set.univ) $$ [HO H2 B2 S2 H0 H1 H3 H4 H5 B0 B1 B3 B4 B5 S0 S1 S3 S4 S5]
  isplitl [HO H2 B2 S2]
  · iapply (wp_fetch1 Df d L O W (blkK L A2) M2 cc0_scoped2.sem _ _ _ q pf (blk L pf) (by decide) (View.set_whole _) fun fd => hb cc0_scratch2 fd (blk L pf))
    isplitl [HO]; · iexact HO
    isplitl [H2]; · iexact H2
    isplitl [B2]; · iexact B2
    iexact S2
  iintro %_ ⟨HO, H2, B2, S2⟩
  rw [wp_bind]
  iapply (wp_wand_r frame (wpE Df 𝒱₀ (tL d L) none) Set.univ) $$ [HO H3 B3 S3 H0 H1 H2 H4 H5 B0 B1 B2 B4 B5 S0 S1 S2 S4 S5]
  isplitl [HO H3 B3 S3]
  · iapply (wp_fetch1 Df d L O W A3 M3 cc0_scoped3.sem _ _ _ q gm gm (by decide) (View.set_whole _) fun fd => hb cc0_scratch3 fd gm)
    isplitl [HO]; · iexact HO
    isplitl [H3]; · iexact H3
    isplitl [B3]; · iexact B3
    iexact S3
  iintro %_ ⟨HO, H3, B3, S3⟩
  rw [wp_bind]
  iapply (wp_wand_r frame (wpE Df 𝒱₀ (tL d L) none) Set.univ) $$ [HO H4 B4 S4 H0 H1 H2 H3 H5 B0 B1 B2 B3 B5 S0 S1 S2 S3 S5]
  isplitl [HO H4 B4 S4]
  · iapply (wp_fetch1 Df d L O W A4 M4 cc0_scoped4.sem _ _ _ q gq gq (by decide) (View.set_whole _) fun fd => hb cc0_scratch4 fd gq)
    isplitl [HO]; · iexact HO
    isplitl [H4]; · iexact H4
    isplitl [B4]; · iexact B4
    iexact S4
  iintro %_ ⟨HO, H4, B4, S4⟩
  iapply (wp_wand_r frame (wpE Df 𝒱₀ (tL d L) none) Set.univ) $$ [HO H5 B5 S5 H0 H1 H2 H3 H4 B0 B1 B2 B3 B4 S0 S1 S2 S3 S4]
  isplitl [HO H5 B5 S5]
  · iapply (wp_fetch1 Df d L O W A5 M5 cc0_scoped5.sem _ _ _ q gp gp (by decide) (View.set_whole _) fun fd => hb cc0_scratch5 fd gp)
    isplitl [HO]; · iexact HO
    isplitl [H5]; · iexact H5
    isplitl [B5]; · iexact B5
    iexact S5
  iintro %_ ⟨HO, H5, B5, S5⟩
  isplitl [HO]; · iexact HO
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [B0 B1 B2 B3 B4 B5]
  · isplitl [B0]; · iexact B0
    isplitl [B1]; · iexact B1
    isplitl [B2]; · iexact B2
    isplitl [B3]; · iexact B3
    isplitl [B4]; · iexact B4
    iexact B5
  isplitl [S0]; · iexact S0
  isplitl [S1]; · iexact S1
  isplitl [S2]; · iexact S2
  isplitl [S3]; · iexact S3
  isplitl [S4]; · iexact S4
  iexact S5

/-- The block a tile writes holds the results of its places. -/
theorem out_block (f0 : S16384.Idx → F .f32) (j : S16384.Idx) (hj : j ∈ (outR L).set) :
    (outK L AO).view.write (Elt F) f0 (M7.view.read (Elt F) (resultsOf (blk L mf) (blk L qf) (blk L pf) gm gq gp tab)) Finset.univ j
      = outOf mf qf pf gm gq gp tab j := by
  obtain ⟨x, -, rfl⟩ := Finset.mem_map.mp (show j ∈ (outK L AO).view.set by
    rw [show (outK L AO).view.set = (outR L).set from View.set_slice_whole main_v1_scv _]; exact hj)
  refine (View.write_emb_of_mem _ _ (Finset.mem_univ x)).trans ((cast_eq _ _).trans ?_)
  have e : (outR L).emb x = (blkR L).emb x := by
    funext a
    match a with
    | 0 =>
      apply Fin.ext
      show k0_off2 L 0 + 1 * (x 0).val = k0_off1 L 0 + 1 * (x 0).val
      rw [k0_off1_eq, k0_off2_eq]
  show resultOf tab gm gq gp (mf ((blkR L).emb x)) (qf ((blkR L).emb x)) (pf ((blkR L).emb x))
    = resultOf tab gm gq gp (mf ((outR L).emb x)) (qf ((outR L).emb x)) (pf ((outR L).emb x))
  rw [e]

set_option maxHeartbeats 800000 in
/-- The delivery. -/
theorem wp_deliver (f0 : S16384.Idx → F .f32) :
    iprop(owed d L O W ∗ valPts d L Finset.univ (resultsOf (blk L mf) (blk L qf) (blk L pf) gm gq gp tab) ∗ outPts d L f0 ∗ semVal (tL d L, SemLoc.dma cc0_scoped6.sem) 0)
      ⊢ wpt Df d L (deliver L AO M7 (Memref.isWhole_whole _) cc0_scoped6)
          fun _ => iprop(owed d L O W ∗ valPts d L Finset.univ (resultsOf (blk L mf) (blk L qf) (blk L pf) gm gq gp tab)
            ∗ outPts d L (outOf mf qf pf gm gq gp tab) ∗ semVal (tL d L, SemLoc.dma cc0_scoped6.sem) 0) := by
  have ek : deliver (F := F) L AO M7 (Memref.isWhole_whole _) cc0_scoped6
    = copy L M7 (outK L AO) cc0_scoped6.sem (Memref.isWhole_whole _).wordExact (View.wordExact_bits rfl) ⟨Or.inl rfl, trivial⟩ := rfl
  have es : (outK L AO).view.set = (outR L).set := View.set_slice_whole main_v1_scv _
  have em : M7.view.set = Finset.univ := View.set_whole _
  rw [ek]
  iintro ⟨HO, Hv, Ho, Hs⟩
  ihave Hv := (Entails.of_eq (show valPts d L Finset.univ (resultsOf (blk L mf) (blk L qf) (blk L pf) gm gq gp tab)
    = (M7.view.loc (tL d L) ↦[M7.view.set]{fullShare} resultsOf (blk L mf) (blk L qf) (blk L pf) gm gq gp tab : sProp 𝕄) by rw [em])) $$ Hv
  ihave Ho := (Entails.of_eq (show outPts d L f0 = ((outK L AO).view.loc (tL d L) ↦[(outK L AO).view.set]{fullShare} f0 : sProp 𝕄) by rw [es])) $$ Ho
  iapply (wp_wand_r frame (wpE Df 𝒱₀ (tL d L) none) Set.univ) $$ [HO Hv Ho Hs]
  isplitl [HO Hv Ho Hs]
  · iapply (wp_copy Df d L O W M7 (outK L AO) cc0_scoped6.sem _ _ _ fullShare (resultsOf (blk L mf) (blk L qf) (blk L pf) gm gq gp tab) f0 (by decide))
    isplitl [HO]; · iexact HO
    isplitl [Hv]; · iexact Hv
    isplitl [Ho]; · iexact Ho
    iexact Hs
  iintro %_ ⟨HO, Hv, Ho, Hs⟩
  isplitl [HO]; · iexact HO
  isplitl [Hv]
  · iapply (Entails.of_eq (show valPts d L Finset.univ (resultsOf (blk L mf) (blk L qf) (blk L pf) gm gq gp tab)
      = (M7.view.loc (tL d L) ↦[M7.view.set]{fullShare} resultsOf (blk L mf) (blk L qf) (blk L pf) gm gq gp tab : sProp 𝕄) by rw [em]).symm)
    iexact Hv
  isplitl [Ho]
  · have ev := pointsTo_congr (Ix := HIx 1) (Name := ℕ) (U := UU) (Lvl := ℕ) (ℓ := (tL d L).loc main_v1_scv) (q := fullShare) (I := (outR L).set)
      fun i hi => out_block L mf qf pf gm gq gp tab f0 i hi
    iapply (Entails.of_eq (show ((outK L AO).view.loc (tL d L) ↦[(outK L AO).view.set]{fullShare} (outK L AO).view.write (Elt F) f0
        (M7.view.read (Elt F) (resultsOf (blk L mf) (blk L qf) (blk L pf) gm gq gp tab)) Finset.univ : sProp 𝕄)
      = outPts d L (outOf mf qf pf gm gq gp tab) by rw [es]; exact ev))
    iexact Ho
  iexact Hs

/-! ## The whole task -/

/-- The four gathers' semaphores at rest. -/
abbrev sems4 : sProp 𝕄 := bigSep Finset.univ fun g : Fin 4 => semVal (tL d L, smK g) 0

/-- All that a tile holds of its own, at rest. -/
abbrev own0 : sProp 𝕄 :=
  iprop((blank d L ∗ (∃ f, idxPts d L Finset.univ f) ∗ (∃ f, valPts d L Finset.univ f))
    ∗ (sems6 d L ∗ semVal (tL d L, SemLoc.dma cc0_scoped6.sem) 0 ∗ sems4 d L))

/-- A part of the index rows at some contents, for every row, is the whole at some contents. -/
theorem idx_join : (bigSep Finset.univ fun g : Fin 4 => iprop(∃ f, idxPts (F := F) d L (rR g).set f)) ⊢ (iprop(∃ f, idxPts (F := F) d L Finset.univ f) : sProp 𝕄) := by
  refine (bigSep_exists_pi Finset.univ (fun g (f : S4x128.Idx → BitVec 32) => idxPts (F := F) d L (rR g).set f)).trans ?_
  iintro ⟨%fs, H⟩
  ihave H' := (pointsTo_biUnion_join (ℓ := (tL d L).loc cc0_scratch6) (q := fullShare) (Val := Elt F) Finset.univ (fun g : Fin 4 => (rR g).set) fs (fs 0) rR_disj) $$ H
  icases H' with ⟨%g, -, Hg⟩
  rw [← rR_cover]
  iexists g; iexact Hg

/-- Held buffers are buffers at some contents. -/
theorem held_blank (fm fq fp : S512.Idx → F .f32) : held d L fm fq fp gm gq gp ⊢ (blank (F := F) d L : sProp 𝕄) := by
  iintro ⟨B0, B1, B2, B3, B4, B5⟩
  isplitl [B0]; · iexists _; iexact B0
  isplitl [B1]; · iexists _; iexact B1
  isplitl [B2]; · iexists _; iexact B2
  isplitl [B3]; · iexists _; iexact B3
  isplitl [B4]; · iexists _; iexact B4
  iexists _; iexact B5

set_option maxHeartbeats 1600000 in
/-- One task: from shares of the arrays, its block of the result. -/
theorem wp_body (q : PosShare TreeShare) (f0 : S16384.Idx → F .f32) :
    iprop(owed d L O W ∗ (given d L mf qf pf gm gq gp q ∗ tabPts d L tab q) ∗ outPts d L f0 ∗ own0 d L)
      ⊢ wpt Df d L (body L A0 A1 A2 A3 (Memref.isWhole_whole _) A4 A5 (Memref.isWhole_whole _) (Memref.isWhole_whole _) MT0 AO
          M0 M1 M2 (Memref.isWhole_whole _) (Memref.isWhole_whole _) (Memref.isWhole_whole _) M3 (Memref.isWhole_whole _)
          M4 M5 (Memref.isWhole_whole _) (Memref.isWhole_whole _) M6 M7 (Memref.isWhole_whole _) cc0_scratch8
          cc0_scoped0 cc0_scoped1 cc0_scoped2 cc0_scoped3 cc0_scoped4 cc0_scoped5 cc0_scoped6)
          fun _ => iprop(owed d L O W ∗ (given d L mf qf pf gm gq gp q ∗ tabPts d L tab q) ∗ outPts d L (outOf mf qf pf gm gq gp tab) ∗ own0 d L) := by
  unfold body wpt
  rw [wp_bind]
  iintro ⟨HO, ⟨Hg, Ht⟩, Ho, ⟨⟨Hb, ⟨%fi, Hi⟩, ⟨%fv, Hv⟩⟩, ⟨H6, HD, H4⟩⟩⟩
  iapply (wp_wand_r frame (wpE Df 𝒱₀ (tL d L) none) Set.univ) $$ [HO Hg Hb H6 Ht Ho Hi Hv HD H4]
  isplitl [HO Hg Hb H6]
  · iapply (wp_fetch Df d L O W mf qf pf gm gq gp q)
    isplitl [HO]; · iexact HO
    isplitl [Hg]; · iexact Hg
    isplitl [Hb]; · iexact Hb
    iexact H6
  iintro %_ ⟨HO, Hg, Hh, H6⟩
  rw [wp_bind]
  have et : (tabPts d L tab q : sProp 𝕄) = bigSep Finset.univ fun g : Fin 4 => tabPts d L tab (ShareLeaves.leaf 2 q g) :=
    ShareLeaves.pointsTo_leaves Finset.univ _ 2 q
  have ein : ∀ g : Fin 4, iprop(idxPts d L (rR g).set fi ∗ valPts d L (rV g).set fv ∗ tabPts d L tab (ShareLeaves.leaf 2 q g) ∗ semVal (tL d L, smK g) 0)
      ⊢ (iprop((∃ f, idxPts d L (rR g).set f) ∗ (∃ f, valPts d L (rV g).set f) ∗ tabPts d L tab (ShareLeaves.leaf 2 q g) ∗ semVal (tL d L, smK g) 0) : sProp 𝕄) := by
    intro g
    iintro ⟨Hi, Hv, Ht, Hs⟩
    isplitl [Hi]; · iexists _; iexact Hi
    isplitl [Hv]; · iexists _; iexact Hv
    isplitl [Ht]; · iexact Ht
    iexact Hs
  have e1 : iprop(idxPts d L Finset.univ fi ∗ valPts d L Finset.univ fv ∗ tabPts d L tab q ∗ sems4 d L)
      ⊢ (bigSep Finset.univ fun g : Fin 4 => iprop((∃ f, idxPts d L (rR g).set f) ∗ (∃ f, valPts d L (rV g).set f)
          ∗ tabPts d L tab (ShareLeaves.leaf 2 q g) ∗ semVal (tL d L, smK g) 0) : sProp 𝕄) := by
    rw [idx_all, val_all, et]
    rw [← bigSep_sep', ← bigSep_sep', ← bigSep_sep']
    exact bigSep_mono fun g _ => ein g
  iapply (wp_wand_r frame (wpE Df 𝒱₀ (tL d L) none) Set.univ) $$ [HO Hg Hh H6 Ht Ho Hi Hv HD H4]
  isplitl [Hh Hi Hv Ht H4]
  · iapply (wp_inTurn Df d L 4 _ (held d L (blk L mf) (blk L qf) (blk L pf) gm gq gp) _ _
      fun g => wp_group Df d L (blk L mf) (blk L qf) (blk L pf) gm gq gp tab g (ShareLeaves.leaf 2 q g))
    isplitl [Hh]; · iexact Hh
    iapply e1
    isplitl [Hi]; · iexact Hi
    isplitl [Hv]; · iexact Hv
    isplitl [Ht]; · iexact Ht
    iexact H4
  iintro %_ ⟨Hh, Hf⟩
  rw [wp_bind]
  have e2 : (bigSep Finset.univ fun g : Fin 4 => iprop(valPts d L (rV g).set (resultsOf (blk L mf) (blk L qf) (blk L pf) gm gq gp tab)
          ∗ tabPts d L tab (ShareLeaves.leaf 2 q g) ∗ (∃ f, idxPts d L (rR g).set f) ∗ semVal (tL d L, smK g) 0) : sProp 𝕄)
      = iprop(valPts d L Finset.univ (resultsOf (blk L mf) (blk L qf) (blk L pf) gm gq gp tab) ∗ tabPts d L tab q
          ∗ (bigSep Finset.univ fun g : Fin 4 => iprop(∃ f, idxPts d L (rR g).set f)) ∗ sems4 d L) := by
    rw [bigSep_sep', bigSep_sep', bigSep_sep', val_all, et]
  iapply (wp_wand_r frame (wpE Df 𝒱₀ (tL d L) none) Set.univ) $$ [HO Hg Hh H6 Ho HD Hf]
  isplitl [HO Hf]
  · iapply (wp_inTurn Df d L 4 _ (owed d L O W) _ _
      fun g => wp_finish Df d L (blk L mf) (blk L qf) (blk L pf) gm gq gp tab g (ShareLeaves.leaf 2 q g) O W)
    isplitl [HO]; · iexact HO
    iexact Hf
  iintro %_ ⟨HO, Hf⟩
  ihave Hf := (Entails.of_eq e2) $$ Hf
  icases Hf with ⟨Hv, Ht, Hi, H4⟩
  iapply (wp_wand_r frame (wpE Df 𝒱₀ (tL d L) none) Set.univ) $$ [HO Hg Hh H6 Ho HD Hv Ht Hi H4]
  isplitl [HO Hv Ho HD]
  · iapply (wp_deliver Df d L O W mf qf pf gm gq gp tab f0)
    isplitl [HO]; · iexact HO
    isplitl [Hv]; · iexact Hv
    isplitl [Ho]; · iexact Ho
    iexact HD
  iintro %_ ⟨HO, Hv, Ho, HD⟩
  isplitl [HO]; · iexact HO
  isplitl [Hg Ht]
  · isplitl [Hg]; · iexact Hg
    iexact Ht
  isplitl [Ho]; · iexact Ho
  isplitl [Hh Hi Hv]
  · isplitl [Hh]; · iapply (held_blank d L gm gq gp (blk L mf) (blk L qf) (blk L pf)); iexact Hh
    isplitl [Hi]; · iapply (idx_join d L); iexact Hi
    iexists _; iexact Hv
  isplitl [H6]; · iexact H6
  isplitl [HD]; · iexact HD
  iexact H4

end

end Cert.KernelIdeal.Lookup

end
-- ==== Proof.LaunchIdeal.lean ====
/-
  The launch: the arrays dealt to the thirty-two tiles, every tile's task, the results collected, and the program's run.
-/
module

public import proofs.«01_k».proof.Proof.TaskIdeal

@[expose] public section

noncomputable section

namespace Cert.KernelIdeal.Lookup

open Cert.KernelIdeal Cert.KernelIdeal.Gen Cert.Lookup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

/-! ## The program as the launch sees it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none
abbrev EH : Emb UH (MT nD τ sig (HIx 1) (Elt F) ℕ UU ℕ) := embL

omit [FloatOps F] in
/-- The launch's side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## A tile's own semaphores and buffers -/

section Own

variable (d : Dev nD) (L : grid0.Coords)

/-- Some members of a family, named without repetition, stand apart from the rest. -/
theorem bigSep_named {I J : Type} [DecidableEq I] [Fintype J] (s : Finset I) (c : J ↪ I) (h : ∀ j, c j ∈ s) (Φ : I → sProp 𝕄) :
    bigSep s Φ = iprop((bigSep Finset.univ fun j => Φ (c j)) ∗ bigSep (s \ Finset.univ.map c) Φ) := by
  rw [← bigSep_map c]
  exact bigSep_sdiff_split (t := Finset.univ.map c) fun i hi => by
    obtain ⟨j, -, rfl⟩ := Finset.mem_map.mp hi
    exact h j

/-- The semaphores a tile uses: seven for its plain copies, four for its gathers. -/
def semFam : Fin 7 ⊕ Fin 4 → SemLoc sig :=
  Sum.elim ![.dma cc0_scoped0.sem, .dma cc0_scoped1.sem, .dma cc0_scoped2.sem, .dma cc0_scoped3.sem, .dma cc0_scoped4.sem, .dma cc0_scoped5.sem,
    .dma cc0_scoped6.sem] smK
/-- The buffers it uses. -/
def bufFam : Fin 8 → Ref sig .scVector :=
  ![cc0_scratch0, cc0_scratch1, cc0_scratch2, cc0_scratch3, cc0_scratch4, cc0_scratch5, cc0_scratch6, cc0_scratch7]

/-- The tile's named semaphores are different ones. -/
theorem semFam_inj : Function.Injective semFam := by
  unfold Function.Injective; decide
/-- The tile's named buffers are different ones. -/
theorem bufFam_inj : Function.Injective bufFam := by
  unfold Function.Injective; decide
/-- The tile's named semaphores are the kernel's own. -/
theorem semFam_scoped : ∀ j, (semFam j).isScoped .scVector = true := by decide

def semEmb : Fin 7 ⊕ Fin 4 ↪ GSem nD τ sig := ⟨fun j => (tL d L, semFam j), fun _ _ e => semFam_inj (Prod.mk.inj e).2⟩
def bufEmb : Fin 8 ↪ DevRef τ sig := ⟨fun j => (Proc.scVector (cV L) (jV L)).devRef (bufFam j), fun _ _ e => bufFam_inj (Proc.devRef_injective _ e)⟩

/-- The rest of the tile's semaphores and buffers. -/
abbrev restSems : sProp 𝕄 := bigSep (ownCells (tL d L) \ Finset.univ.map (semEmb d L)) fun g => semVal g 0
abbrev restBufs : sProp 𝕄 := bigSep (ownRefs (τ := τ) (.scVector (cV L) (jV L)) \ Finset.univ.map (bufEmb L)) fun b => iprop(∃ f, ((d, b) : Loc nD τ sig) ↦{fullShare} f)

/-- A tile's semaphores at zero: those of its input copies, of its output copy, the four of its gathers, and the rest. -/
theorem ownSems0_V : (ownSems0 (tL d L) : sProp 𝕄)
    = iprop((sems6 d L ∗ semVal (tL d L, SemLoc.dma cc0_scoped6.sem) 0 ∗ sems4 d L) ∗ restSems d L) := by
  unfold SparseCore.Cfg.ownSems0
  rw [bigSep_named _ (semEmb d L) (fun j => mem_ownCells.mpr ⟨rfl, semFam_scoped j⟩), bigSep_univ_sum]
  refine congrArg (fun X : sProp 𝕄 => iprop(X ∗ restSems d L)) ?_
  rw [bigSep_univ_succ, bigSep_univ_succ, bigSep_univ_succ, bigSep_univ_succ, bigSep_univ_succ, bigSep_univ_succ, bigSep_univ_of_subsingleton (0 : Fin 1)]
  have e : ∀ A0 A1 A2 A3 A4 A5 A6 B : sProp 𝕄, iprop((A0 ∗ A1 ∗ A2 ∗ A3 ∗ A4 ∗ A5 ∗ A6) ∗ B) = iprop((A0 ∗ A1 ∗ A2 ∗ A3 ∗ A4 ∗ A5) ∗ A6 ∗ B) := by
    intro A0 A1 A2 A3 A4 A5 A6 B
    refine BI.equiv_iff.mp ⟨?_, ?_⟩
    · show iprop((A0 ∗ A1 ∗ A2 ∗ A3 ∗ A4 ∗ A5 ∗ A6) ∗ B) ⊢ iprop((A0 ∗ A1 ∗ A2 ∗ A3 ∗ A4 ∗ A5) ∗ A6 ∗ B)
      iintro ⟨⟨H0, H1, H2, H3, H4, H5, H6⟩, HB⟩
      isplitl [H0 H1 H2 H3 H4 H5]
      · isplitl [H0]; · iexact H0
        isplitl [H1]; · iexact H1
        isplitl [H2]; · iexact H2
        isplitl [H3]; · iexact H3
        isplitl [H4]; · iexact H4
        iexact H5
      isplitl [H6]; · iexact H6
      iexact HB
    · show iprop((A0 ∗ A1 ∗ A2 ∗ A3 ∗ A4 ∗ A5) ∗ A6 ∗ B) ⊢ iprop((A0 ∗ A1 ∗ A2 ∗ A3 ∗ A4 ∗ A5 ∗ A6) ∗ B)
      iintro ⟨⟨H0, H1, H2, H3, H4, H5⟩, H6, HB⟩
      isplitr [HB]
      · isplitl [H0]; · iexact H0
        isplitl [H1]; · iexact H1
        isplitl [H2]; · iexact H2
        isplitl [H3]; · iexact H3
        isplitl [H4]; · iexact H4
        isplitl [H5]; · iexact H5
        iexact H6
      iexact HB
  exact e _ _ _ _ _ _ _ _

/-- A tile's own buffers: its six inputs' and its index and value buffers, of any contents, and the rest. -/
theorem ownBufs_V : (ownBufs (tL d L) : sProp 𝕄)
    = iprop((blank d L ∗ (∃ f, idxPts (F := F) d L Finset.univ f) ∗ (∃ f, valPts (F := F) d L Finset.univ f)) ∗ restBufs d L) := by
  unfold SparseCore.Cfg.ownBufs
  refine (bigSep_named _ (bufEmb L) (fun j => SparseCore.Cfg.mem_ownRefs_of_owner (p := Proc.scVector (cV L) (jV L)) (b := bufEmb L j) (by
    revert j; show ∀ j, ((Proc.scVector (cV L) (jV L)).devRef (bufFam j)).owner = _; intro j; fin_cases j <;> rfl)) _).trans ?_
  refine congrArg (fun X : sProp 𝕄 => iprop(X ∗ restBufs d L)) ?_
  rw [bigSep_univ_succ, bigSep_univ_succ, bigSep_univ_succ, bigSep_univ_succ, bigSep_univ_succ, bigSep_univ_succ, bigSep_univ_succ, bigSep_univ_of_subsingleton (0 : Fin 1)]
  have e : ∀ A0 A1 A2 A3 A4 A5 A6 B : sProp 𝕄, iprop(A0 ∗ A1 ∗ A2 ∗ A3 ∗ A4 ∗ A5 ∗ A6 ∗ B) = iprop((A0 ∗ A1 ∗ A2 ∗ A3 ∗ A4 ∗ A5) ∗ A6 ∗ B) := by
    intro A0 A1 A2 A3 A4 A5 A6 B
    refine BI.equiv_iff.mp ⟨?_, ?_⟩
    · show iprop(A0 ∗ A1 ∗ A2 ∗ A3 ∗ A4 ∗ A5 ∗ A6 ∗ B) ⊢ iprop((A0 ∗ A1 ∗ A2 ∗ A3 ∗ A4 ∗ A5) ∗ A6 ∗ B)
      iintro ⟨H0, H1, H2, H3, H4, H5, H6, HB⟩
      isplitl [H0 H1 H2 H3 H4 H5]
      · isplitl [H0]; · iexact H0
        isplitl [H1]; · iexact H1
        isplitl [H2]; · iexact H2
        isplitl [H3]; · iexact H3
        isplitl [H4]; · iexact H4
        iexact H5
      isplitl [H6]; · iexact H6
      iexact HB
    · show iprop((A0 ∗ A1 ∗ A2 ∗ A3 ∗ A4 ∗ A5) ∗ A6 ∗ B) ⊢ iprop(A0 ∗ A1 ∗ A2 ∗ A3 ∗ A4 ∗ A5 ∗ A6 ∗ B)
      iintro ⟨⟨H0, H1, H2, H3, H4, H5⟩, H6, HB⟩
      isplitl [H0]; · iexact H0
      isplitl [H1]; · iexact H1
      isplitl [H2]; · iexact H2
      isplitl [H3]; · iexact H3
      isplitl [H4]; · iexact H4
      isplitl [H5]; · iexact H5
      isplitl [H6]; · iexact H6
      iexact HB
  exact e _ _ _ _ _ _ _ _

end Own

/-! ## What the launch deals out -/

variable (m : (ℓ : Loc nD τ sig) → Buf (Elt F) ℓ) (ρ : Dev nD → PrngReg)

abbrev aLoc (d : Dev nD) (b : Ref sig .tc) : Loc nD τ sig := (SparseCore.T d).loc b

/-- The table in one row, as the program makes it. -/
def flatTab (d : Dev nD) : S4194304.Idx → F .f32 :=
  shapeCast S4194304 (m (aLoc d main_arg6) : S256x128x128.Idx → F .f32) shapeCasts_S256x128x128_S4194304

/-- The results the program must leave. -/
def outAll (d : Dev nD) : S16384.Idx → F .f32 :=
  outOf (m (aLoc d main_arg0)) (m (aLoc d main_arg1)) (m (aLoc d main_arg2)) (m (aLoc d main_arg3)) (m (aLoc d main_arg4)) (m (aLoc d main_arg5)) (flatTab m d)

/-- A share of all that the tiles read. -/
abbrev reads (d : Dev nD) (q : PosShare TreeShare) : sProp 𝕄 :=
  iprop((aLoc d main_arg0 ↦{q} m (aLoc d main_arg0)) ∗ (aLoc d main_arg1 ↦{q} m (aLoc d main_arg1)) ∗ (aLoc d main_arg2 ↦{q} m (aLoc d main_arg2))
    ∗ (aLoc d main_arg3 ↦{q} m (aLoc d main_arg3)) ∗ (aLoc d main_arg4 ↦{q} m (aLoc d main_arg4)) ∗ (aLoc d main_arg5 ↦{q} m (aLoc d main_arg5))
    ∗ (aLoc d main_v0 ↦{q} (flatTab m d : Buf (Elt F) (aLoc d main_v0))))

/-- A share of the arrays that are read is the sum of its `2 ^ n` parts. -/
theorem reads_leaves (d : Dev nD) (n : ℕ) (q : PosShare TreeShare) :
    (reads m d q : sProp 𝕄) = bigSep Finset.univ fun i : Fin (2 ^ n) => reads m d (ShareLeaves.leaf n q i) := by
  rw [bigSep_sep', bigSep_sep', bigSep_sep', bigSep_sep', bigSep_sep', bigSep_sep']
  unfold reads
  rw [← ShareLeaves.pointsTo_leaves, ← ShareLeaves.pointsTo_leaves, ← ShareLeaves.pointsTo_leaves, ← ShareLeaves.pointsTo_leaves,
    ← ShareLeaves.pointsTo_leaves, ← ShareLeaves.pointsTo_leaves, ← ShareLeaves.pointsTo_leaves]

/-- The output divides into 32 equal blocks. -/
theorem odiv : 32 ∣ S16384.size 0 := ⟨512, rfl⟩
/-- Block `k` of the result's thirty-two. -/
abbrev oPart (k : Fin 32) : Rect S16384 := Rect.part (s := S16384) (a₀ := 0) odiv k
/-- The block of tile `i` of SparseCore `c`. -/
def oNo (c : Fin 2) (i : Fin 16) : Fin 32 := ⟨2 * i.val + c.val, by omega⟩
abbrev oBlk (d : Dev nD) (c : Fin 2) (i : Fin 16) (f : S16384.Idx → F .f32) : sProp 𝕄 :=
  aLoc d main_v1 ↦[((oPart (oNo c i)).set : Finset (Idx (aLoc d main_v1)))]{fullShare} (f : Buf (Elt F) (aLoc d main_v1))

/-- The pairs of a SparseCore and a tile number the blocks. -/
def oEquiv : Fin 2 × Fin 16 ≃ Fin 32 where
  toFun p := oNo p.1 p.2
  invFun k := (⟨k.val % 2, by omega⟩, ⟨k.val / 2, by omega⟩)
  left_inv p := by
    obtain ⟨c, i⟩ := p
    simp only [oNo, Prod.mk.injEq]
    constructor <;> apply Fin.ext <;> simp only <;> omega
  right_inv k := by apply Fin.ext; simp only [oNo]; omega

/-- The output is its tiles' blocks, core by core. -/
theorem out_blocks (d : Dev nD) (f : S16384.Idx → F .f32) :
    (aLoc d main_v1 ↦{fullShare} (f : Buf (Elt F) (aLoc d main_v1)) : sProp 𝕄)
      = bigSep Finset.univ fun c : Fin 2 => bigSep Finset.univ fun i : Fin 16 => oBlk d c i f := by
  refine Eq.trans ?_ ((bigSep_univ_equiv oEquiv fun k : Fin 32 =>
    (aLoc d main_v1 ↦[((oPart k).set : Finset (Idx (aLoc d main_v1)))]{fullShare} (f : Buf (Elt F) (aLoc d main_v1)) : sProp 𝕄)).trans (bigSep_univ_prod _))
  refine Eq.trans ?_ (pointsTo_biUnion Finset.univ (ℓ := aLoc d main_v1) (fun k => (oPart k).set) (fun i _ j _ h => Rect.part_disjoint odiv h))
  rw [show (Finset.univ : Finset (Fin 32)).biUnion (fun k => (oPart k).set) = Finset.univ from Rect.biUnion_part odiv]

/-- The share of a SparseCore, and of one of its tiles. -/
abbrev shC (c : Fin 2) : PosShare TreeShare := ShareLeaves.leaf 1 fullShare c
abbrev shT (c : Fin 2) (i : Fin 16) : PosShare TreeShare := ShareLeaves.leaf 4 (shC c) i

omit [FloatOps F] in
/-- The call runs on two cores. -/
theorem nCore_zero : (K (F := F)).nCore 0 = 2 := rfl
omit [FloatOps F] in
/-- The call runs on sixteen tiles of each core. -/
theorem nSub_zero : (K (F := F)).nSub 0 = 16 := rfl

/-- What goes to a SparseCore, what comes back; what goes to a tile, what comes back. -/
abbrev toCore (d : Dev nD) (c : Fin 2) (f : S16384.Idx → F .f32) : sProp 𝕄 :=
  iprop(reads m d (shC c) ∗ bigSep Finset.univ fun i : Fin 16 => oBlk d c i f)
abbrev toTile (d : Dev nD) (c : Fin 2) (i : Fin 16) (f : S16384.Idx → F .f32) : sProp 𝕄 :=
  iprop(reads m d (shT c i) ∗ oBlk d c i f)

def P : (K (F := F)).Pay (nD := nD) (Val := Elt F) (Name := ℕ) (U := UU) where
  st := fun q d c => match q with | 0 => toCore m d (Fin.cast nCore_zero c) (m (aLoc d main_v1))
  dn := fun q d c => match q with | 0 => toCore m d (Fin.cast nCore_zero c) (outAll m d)
  go := fun q d c i => match q with | 0 => toTile m d (Fin.cast nCore_zero c) (Fin.cast nSub_zero i) (m (aLoc d main_v1))
  td := fun q d c i => match q with | 0 => toTile m d (Fin.cast nCore_zero c) (Fin.cast nSub_zero i) (outAll m d)
  x := fun _ _ => iprop(emp)

instance P_storable : (P (F := F) m).IsStorable where
  st q d c := match q with
    | 0 => (inferInstance : BI.Storable (upEmb : UEmb _ 𝕄) (toCore m d (Fin.cast nCore_zero c) (m (aLoc d main_v1))))
  dn q d c := match q with
    | 0 => (inferInstance : BI.Storable (upEmb : UEmb _ 𝕄) (toCore m d (Fin.cast nCore_zero c) (outAll m d)))
  go q d c i := match q with
    | 0 => (inferInstance : BI.Storable (upEmb : UEmb _ 𝕄) (toTile m d (Fin.cast nCore_zero c) (Fin.cast nSub_zero i) (m (aLoc d main_v1))))
  td q d c i := match q with
    | 0 => (inferInstance : BI.Storable (upEmb : UEmb _ 𝕄) (toTile m d (Fin.cast nCore_zero c) (Fin.cast nSub_zero i) (outAll m d)))

/-! ## The task -/

section Tile

variable (d : Dev nD) (L : grid0.Coords)

/-- The grid's first extent is two. -/
theorem bound_zero : grid0.bound 0 = 2 := rfl
/-- The grid's second extent is sixteen. -/
theorem bound_one : grid0.bound 1 = 16 := rfl
abbrev cL : Fin 2 := Fin.cast bound_zero (L 0)
abbrev iL : Fin 16 := Fin.cast bound_one (L 1)

/-- A tile's block of the result is its numbered one. -/
theorem outR_set : (outR L).set = (oPart (oNo (cL L) (iL L))).set := by
  have e : outR L = oPart (oNo (cL L) (iL L)) := by
    unfold outR oPart Rect.part Rect.block
    congr 1 <;> funext a
    · rw [k0_off2_eq]
      match a with
      | 0 => simp [Shape.partIx, Shape.partSize, oNo]; omega
    · match a with
      | 0 => simp [Shape.partSize]
  rw [e]

set_option maxHeartbeats 1600000 in
/-- The task of the tile at `L`. -/
theorem tile_body (hF : (K (F := F)).Facts) (O : CellTallies nD τ sig (HIx 1)) (W : Waits sig (HIx 1)) (hO : ∀ g, O g none = 0) :
    iprop(levAts (K (F := F)).L (K (F := F)).lev ∗ emp ∗ toTile m d (cL L) (iL L) (m (aLoc d main_v1))
        ∗ scopedBufs (tL d L) ∗ scopedSems0 (tL d L) ∗ owes (tL d L) O W)
      ⊢ wp frame (wpE (defs₀ (F := F)) 𝒱₀ (tL d L) none) Set.univ
          (cc0__lut_sc L A0 (Memref.isWhole_whole _) A1 (Memref.isWhole_whole _) A2 (Memref.isWhole_whole _) A3 (Memref.isWhole_whole _)
            A4 (Memref.isWhole_whole _) A5 (Memref.isWhole_whole _) MT0 (Memref.isWhole_whole _) AO (Memref.isWhole_whole _)
            M0 (Memref.isWhole_whole _) M1 (Memref.isWhole_whole _) M2 (Memref.isWhole_whole _) M3 (Memref.isWhole_whole _)
            M4 (Memref.isWhole_whole _) M5 (Memref.isWhole_whole _) M6 (Memref.isWhole_whole _) M7 (Memref.isWhole_whole _) cc0_scratch8
            cc0_scoped0 cc0_scoped1 cc0_scoped2 cc0_scoped3 cc0_scoped4 cc0_scoped5 cc0_scoped6)
          fun _ => iprop(toTile m d (cL L) (iL L) (outAll m d) ∗ scopedBufs (tL d L) ∗ scopedSems0 (tL d L)
            ∗ ∃ W', ⌜∀ p ∈ W', p ∈ W ∨ p.2 = none⌝ ∗ owes (tL d L) O W') := by
  rw [printed_eq_body, (K (F := F)).scopedBufs_V hF d (cV L) (jV L), SparseCore.Cfg.scopedSems0_V (Val := Elt F) d (cV L) (jV L), ownSems0_V, ownBufs_V]
  have eo : ∀ f : S16384.Idx → F .f32, (oBlk d (cL L) (iL L) f : sProp 𝕄) = outPts d L f := by
    intro f; unfold oBlk outPts; rw [outR_set]
  iintro ⟨#Hlv, -, ⟨⟨H0, H1, H2, H3, H4, H5, Ht⟩, Ho⟩, ⟨Hb, Hbr⟩, ⟨Hs, Hsr⟩, HO⟩
  ihave Ho := (Entails.of_eq (eo _)) $$ Ho
  ihave Hmw := (show levAts (K (F := F)).L (K (F := F)).lev ⊢ Transfers.MayWaits (tL d L) (default : HIx 1) O from
    (K (F := F)).mayWaits_none (thr := tL d L) hO) $$ Hlv
  iapply (wp_wand_r frame (wpE (defs₀ (F := F)) 𝒱₀ (tL d L) none) Set.univ) $$ [Hmw H0 H1 H2 H3 H4 H5 Ht Ho Hb Hs HO Hbr Hsr]
  isplitl [Hmw H0 H1 H2 H3 H4 H5 Ht Ho Hb Hs HO]
  · iapply (wp_body defs₀ d L O W (m (aLoc d main_arg0)) (m (aLoc d main_arg1)) (m (aLoc d main_arg2)) (m (aLoc d main_arg3)) (m (aLoc d main_arg4))
      (m (aLoc d main_arg5)) (flatTab m d) (shT (cL L) (iL L)) (m (aLoc d main_v1)))
    isplitl [Hmw HO]
    · isplitl [Hmw]; · iexact Hmw
      iexists W; isplitr
      · ipureintro; exact fun p hp => .inl hp
      · iexact HO
    isplitl [H0 H1 H2 H3 H4 H5 Ht]
    · isplitr [Ht]
      · isplitl [H0]; · iexact H0
        isplitl [H1]; · iexact H1
        isplitl [H2]; · iexact H2
        isplitl [H3]; · iexact H3
        isplitl [H4]; · iexact H4
        iexact H5
      · iexact Ht
    isplitl [Ho]; · iexact Ho
    isplitl [Hb]; · iexact Hb
    iexact Hs
  iintro %_ ⟨⟨-, HO⟩, ⟨⟨H0, H1, H2, H3, H4, H5⟩, Ht⟩, Ho, ⟨Hb, Hs⟩⟩
  isplitl [H0 H1 H2 H3 H4 H5 Ht Ho]
  · isplitr [Ho]
    · isplitl [H0]; · iexact H0
      isplitl [H1]; · iexact H1
      isplitl [H2]; · iexact H2
      isplitl [H3]; · iexact H3
      isplitl [H4]; · iexact H4
      isplitl [H5]; · iexact H5
      iexact Ht
    · iapply (Entails.of_eq (eo _).symm); iexact Ho
  isplitl [Hb Hbr]
  · isplitl [Hb]; · iexact Hb
    iexact Hbr
  isplitl [Hs Hsr]
  · isplitl [Hs]; · iexact Hs
    iexact Hsr
  iexact HO

/-! ## The obligation of the launch -/

/-- The place of a tile. -/
def coordsV (c : Fin (grid0.bound 0)) (s : Fin (grid0.bound 1)) : grid0.Coords :=
  fun | 0 => c | 1 => s | ⟨_ + 2, h⟩ => absurd h (Nat.not_lt.2 (Nat.le_add_left _ _))

/-- A tile's task is the kernel's body at the tile's core and number. -/
theorem defs₀_vector (c : Fin τ.nSC) (s : Fin τ.nSub) :
    defs₀ (F := F) (.scVector c s) 0 ()
      = SparseCore.onTile hcore0 hsub0 (fun c s => cc0__lut_sc (coordsV c s) A0 (Memref.isWhole_whole _) A1 (Memref.isWhole_whole _) A2 (Memref.isWhole_whole _)
            A3 (Memref.isWhole_whole _) A4 (Memref.isWhole_whole _) A5 (Memref.isWhole_whole _) MT0 (Memref.isWhole_whole _) AO (Memref.isWhole_whole _)
            M0 (Memref.isWhole_whole _) M1 (Memref.isWhole_whole _) M2 (Memref.isWhole_whole _) M3 (Memref.isWhole_whole _)
            M4 (Memref.isWhole_whole _) M5 (Memref.isWhole_whole _) M6 (Memref.isWhole_whole _) M7 (Memref.isWhole_whole _) cc0_scratch8
            cc0_scoped0 cc0_scoped1 cc0_scoped2 cc0_scoped3 cc0_scoped4 cc0_scoped5 cc0_scoped6) ⟨⟩ c s := rfl

/-- What a task has waited for may be stated more weakly, with the waits of the call itself allowed. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Any program: what it may have waited for is only said less of. -/
theorem wp_weaken (thr : Thread nD τ) (X : Prog (TpuEff nD τ sig (Elt F) Λ₀ thr.2) PUnit) {A B C : sProp 𝕄} {O : CellTallies nD τ sig (HIx 1)} {W : Waits sig (HIx 1)} {q : Fin 1} :
    wp frame (wpE (defs₀ (F := F)) 𝒱₀ thr none) Set.univ X (fun _ => iprop(A ∗ B ∗ C ∗ ∃ W', ⌜∀ p ∈ W', p ∈ W ∨ p.2 = none⌝ ∗ owes thr O W'))
      ⊢ wp frame (wpE (defs₀ (F := F)) 𝒱₀ thr none) Set.univ X
          fun _ => iprop(A ∗ B ∗ C ∗ ∃ W', ⌜∀ p ∈ W', p ∈ W ∨ p.2 = none ∨ p.2 = some q⌝ ∗ owes thr O W') :=
  wp_mono frame _ _ fun _ => obl_post

set_option maxRecDepth 16384 in
/-- Every tile's task takes what the call hands it to what the call expects back, the tile's block holding its results. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  refine BI.Entails.trans (tile_body m d (coordsV ⟨_, hci.1⟩ ⟨_, hci.2⟩) hF O W hO) ?_
  generalize cc0__lut_sc (F := F) (coordsV ⟨((K (F := F)).core 0 c).val, hci.1⟩ ⟨((K (F := F)).sub 0 i).val, hci.2⟩) A0 (Memref.isWhole_whole _) A1 (Memref.isWhole_whole _) A2 (Memref.isWhole_whole _)
    A3 (Memref.isWhole_whole _) A4 (Memref.isWhole_whole _) A5 (Memref.isWhole_whole _) MT0 (Memref.isWhole_whole _) AO (Memref.isWhole_whole _)
    M0 (Memref.isWhole_whole _) M1 (Memref.isWhole_whole _) M2 (Memref.isWhole_whole _) M3 (Memref.isWhole_whole _)
    M4 (Memref.isWhole_whole _) M5 (Memref.isWhole_whole _) M6 (Memref.isWhole_whole _) M7 (Memref.isWhole_whole _) cc0_scratch8
    cc0_scoped0 cc0_scoped1 cc0_scoped2 cc0_scoped3 cc0_scoped4 cc0_scoped5 cc0_scoped6 = X
  exact wp_weaken (tL d (coordsV ⟨_, hci.1⟩ ⟨_, hci.2⟩)) X

end Tile

/-- The call's tiles of one core are the sixteen. -/
theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
/-- The call's cores are the two. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What a SparseCore gets is what its tiles get. -/
theorem toCore_eq (d : Dev nD) (c : Fin 2) (f : S16384.Idx → F .f32) :
    (toCore m d c f : sProp 𝕄) = bigSep Finset.univ fun i : Fin 16 => toTile m d c i f := by
  rw [bigSep_sep']
  exact congrArg (fun X : sProp 𝕄 => iprop(X ∗ bigSep Finset.univ fun i : Fin 16 => oBlk d c i f)) (reads_leaves m d 4 (shC c))

/-- What a core is handed is its tiles' shares, and what they hand back is what the core hands back. -/
theorem vecSplit : (K (F := F)).VecSplit' (P m) 0 := by
  intro d c
  show toCore m d (Fin.cast nCore_zero c) (m (aLoc d main_v1)) ⊢ |={Set.univ}=> iprop(
      (bigSep Finset.univ fun i : Fin ((K (F := F)).nSub 0) => toTile m d (Fin.cast nCore_zero c) (Fin.cast nSub_zero i) (m (aLoc d main_v1)))
      ∗ ((bigSep Finset.univ fun i : Fin ((K (F := F)).nSub 0) => toTile m d (Fin.cast nCore_zero c) (Fin.cast nSub_zero i) (outAll m d))
          -∗ toCore m d (Fin.cast nCore_zero c) (outAll m d)))
  rw [bigSep_tiles (F := F) (fun i => toTile m d (Fin.cast nCore_zero c) i (m (aLoc d main_v1))),
    bigSep_tiles (F := F) (fun i => toTile m d (Fin.cast nCore_zero c) i (outAll m d)), ← toCore_eq, ← toCore_eq]
  iintro H; imodintro
  isplitl [H]; · iexact H
  iintro H; iexact H

/-! ## The start -/

/-- Any number of nothings is nothing. -/
theorem bigSep_nothing {I : Type} (s : Finset I) : (bigSep s fun _ => iprop(emp)) = (iprop(emp) : sProp 𝕄) := bigSep_emp_const s

def u₀ : UU := (initOf (K (F := F)).hsCells (K (F := F)).hsToks, 1)

/-- The launch's ghost state, split among its threads. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## The main program -/

abbrev dT : DevRef τ sig := Proc.devRef .tc (main_arg6 : Ref sig .tc)
abbrev dF : DevRef τ sig := Proc.devRef .tc (main_v0 : Ref sig .tc)
abbrev opFlat : HloOp τ sig (Elt F) := StableHlo.reshape main_arg6 main_v0 (rfl : (.f32 : EltTy) = .f32) shapeCasts_S256x128x128_S4194304
/-- The table and its flat form. -/
abbrev S2 : Finset (DevRef τ sig) := {dT, dF}

/-- The two buffers of the flattening, held: the table's and the flat table's. -/
theorem held_S2 (d : Dev nD) (W : Valuation τ sig (Elt F)) :
    (StableHlo.held (SparseCore.T d) S2 W : sProp 𝕄) = iprop((aLoc d main_arg6 ↦{fullShare} W dT) ∗ aLoc d main_v0 ↦{fullShare} W dF) := by
  unfold StableHlo.held S2
  rw [SparseCore.bigSep_insert' (by decide), bigSep_singleton]

/-- The launch contents, by reference. -/
def V0 (d : Dev nD) : Valuation τ sig (Elt F) := fun b => m (d, b)

/-- The flattening leaves the table as it was. -/
theorem after_T (d : Dev nD) : (opFlat (F := F)).result (V0 m d) dT = m (aLoc d main_arg6) :=
  StableHlo.reshape_result_ne (x := main_arg6) (y := main_v0) _ _ _ _ (V0 m d) (r := main_arg6) (by decide)
/-- The flattening leaves the flat table in its buffer. -/
theorem after_F (d : Dev nD) : (opFlat (F := F)).result (V0 m d) dF = (flatTab m d : Buf (Elt F) (aLoc d main_v0)) :=
  StableHlo.reshape_result _ _ _ _ _ _ _

/-- The flattening touches the table and the flat table alone. -/
theorem hFlat : (opFlat (F := F)).bufs ⊆ S2 := show ({dT, dF} : Finset (DevRef τ sig)) ⊆ S2 from Finset.Subset.refl _

/-- The main program's arrays, one by one. -/
theorem unscopedBufs_eq (d : Dev nD) (W : (b : Ref sig .tc) → Buf (Elt F) ((d.tc : Thread nD τ).loc b)) :
    (unscopedBufs d W : sProp 𝕄) = iprop((aLoc d main_arg0 ↦{fullShare} W main_arg0) ∗ (aLoc d main_arg1 ↦{fullShare} W main_arg1)
      ∗ (aLoc d main_arg2 ↦{fullShare} W main_arg2) ∗ (aLoc d main_arg3 ↦{fullShare} W main_arg3) ∗ (aLoc d main_arg4 ↦{fullShare} W main_arg4)
      ∗ (aLoc d main_arg5 ↦{fullShare} W main_arg5) ∗ (aLoc d main_arg6 ↦{fullShare} W main_arg6) ∗ (aLoc d main_v0 ↦{fullShare} W main_v0)
      ∗ aLoc d main_v1 ↦{fullShare} W main_v1) := by
  unfold unscopedBufs
  rw [show (Finset.univ.filter fun b : Ref sig .tc => ¬ b.isScoped)
      = {main_arg0, main_arg1, main_arg2, main_arg3, main_arg4, main_arg5, main_arg6, main_v0, main_v1} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

/-- All that the tiles read, and the result, whole: what the two SparseCores get together. -/
theorem cores_eq (d : Dev nD) (f : S16384.Idx → F .f32) :
    (bigSep Finset.univ fun c : Fin 2 => toCore m d c f : sProp 𝕄)
      = iprop(reads m d fullShare ∗ aLoc d main_v1 ↦{fullShare} (f : Buf (Elt F) (aLoc d main_v1))) := by
  rw [bigSep_sep', ← out_blocks]
  exact congrArg (fun X : sProp 𝕄 => iprop(X ∗ aLoc d main_v1 ↦{fullShare} (f : Buf (Elt F) (aLoc d main_v1)))) (reads_leaves m d 1 fullShare).symm

/-- What the call hands to the cores: the arrays read, in shares, and the output in blocks. -/
theorem st0_eq (d : Dev nD) : (bigSep Finset.univ fun c : Fin ((K (F := F)).nCore 0) => (P m).st 0 d c)
    = iprop(reads m d fullShare ∗ aLoc d main_v1 ↦{fullShare} m (aLoc d main_v1)) :=
  (bigSep_cores (F := F) fun c => toCore m d c (m (aLoc d main_v1))).trans (cores_eq m d _)
/-- What the cores hand back: the shares, and the output in blocks that hold the results. -/
theorem dn0_eq (d : Dev nD) : (bigSep Finset.univ fun c : Fin ((K (F := F)).nCore 0) => (P m).dn 0 d c)
    = iprop(reads m d fullShare ∗ aLoc d main_v1 ↦{fullShare} (outAll m d : Buf (Elt F) (aLoc d main_v1))) :=
  (bigSep_cores (F := F) fun c => toCore m d c (outAll m d)).trans (cores_eq m d _)

/-- What the main program ends with: its arguments as they were, and the results. -/
abbrev FIN (d : Dev nD) : sProp 𝕄 :=
  iprop(reads m d fullShare ∗ (aLoc d main_arg6 ↦{fullShare} m (aLoc d main_arg6)) ∗ aLoc d main_v1 ↦{fullShare} (outAll m d : Buf (Elt F) (aLoc d main_v1)))

set_option maxHeartbeats 800000 in
/-- The main program: the flattening, then the call; it ends with the arguments as they were and the results in the output. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨H0, H1, H2, H3, H4, H5, H6, Hf, Ho⟩, Hts, -⟩, -⟩
  iapply (wp_hlo_within 𝒱 (SparseCore.T d) none Set.univ (op := opFlat) (S := S2) hFlat (V := V0 m d)) $$ [Hb H6 Hf]
  · isplitl [Hb]; · iexact Hb
    rw [held_S2]
    isplitl [H6]; · iexact H6
    iexact Hf
  iintro ⟨Hb, Hh⟩
  ihave Hh := (Entails.of_eq (held_S2 (F := F) d _)) $$ Hh
  rw [after_T, after_F]
  icases Hh with ⟨H6, Hf⟩
  rw [wp_ret]; imodintro
  iapply ((K (F := F)).wp_run (D (F := F)) 𝒱 (EH := EH) (P := P m) κ d 0) $$ [Hst H0 H1 H2 H3 H4 H5 H6 Hf Ho Hb Hts]
  isplitr; · iexact Hctx
  isplitl [Hst]; · iexact Hst
  isplitl [H0 H1 H2 H3 H4 H5 Hf Ho]
  · rw [st0_eq]
    isplitr [Ho]
    · isplitl [H0]; · iexact H0
      isplitl [H1]; · iexact H1
      isplitl [H2]; · iexact H2
      isplitl [H3]; · iexact H3
      isplitl [H4]; · iexact H4
      isplitl [H5]; · iexact H5
      iexact Hf
    · iexact Ho
  iintro ⟨Hst, Hdn⟩
  ihave Hdn := (Entails.of_eq (dn0_eq m d)) $$ Hdn
  icases Hdn with ⟨Hr, Ho⟩
  imodintro
  isplitl [Hst]; · iexact Hst
  isplitr [Hb Hts]
  · isplitl [Hr]; · iexact Hr
    isplitl [H6]; · iexact H6
    iexact Ho
  isplitl [Hb] <;> iassumption

/-- What the final memory holds. -/
def fq (d : Dev nD) (s' : Phys nD τ sig (Elt F)) : Prop :=
  (s'.mem.mem (aLoc d main_arg0) = m (aLoc d main_arg0) ∧ s'.mem.mem (aLoc d main_arg1) = m (aLoc d main_arg1)
    ∧ s'.mem.mem (aLoc d main_arg2) = m (aLoc d main_arg2) ∧ s'.mem.mem (aLoc d main_arg3) = m (aLoc d main_arg3)
    ∧ s'.mem.mem (aLoc d main_arg4) = m (aLoc d main_arg4) ∧ s'.mem.mem (aLoc d main_arg5) = m (aLoc d main_arg5)
    ∧ s'.mem.mem (aLoc d main_arg6) = m (aLoc d main_arg6))
  ∧ s'.mem.mem (aLoc d main_v1) = (outAll m d : Buf (Elt F) (aLoc d main_v1))

/-- A buffer held whole is what the memory has. -/
theorem agree (ℓ : Loc nD τ sig) (f : Buf (Elt F) ℓ) (s' : Phys nD τ sig (Elt F)) :
    iprop(SI s' ∗ (ℓ ↦{fullShare} f)) ⊢ (iprop(⌜s'.mem.mem ℓ = f⌝ ∗ SI s') : sProp 𝕄) := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h1, HSI, -⟩
  isplitr
  · ipureintro; exact funext fun i => h1 i (Finset.mem_univ i)
  · iexact HSI

set_option maxRecDepth 16384 in
/-- What the main program ends with says so of the memory. -/
theorem hfin (d : Dev nD) (s' : Phys nD τ sig (Elt F)) : iprop(FIN m d ∗ SI s') ⊢ (⌜fq m d s'⌝ : sProp 𝕄) := by
  iintro ⟨⟨⟨H0, H1, H2, H3, H4, H5, -⟩, H6, Ho⟩, HSI⟩
  ihave H := (agree (aLoc d main_arg0) (m (aLoc d main_arg0)) s') $$ [HSI H0]
  · isplitl [HSI] <;> iassumption
  icases H with ⟨%h0, HSI⟩
  ihave H := (agree (aLoc d main_arg1) (m (aLoc d main_arg1)) s') $$ [HSI H1]
  · isplitl [HSI] <;> iassumption
  icases H with ⟨%h1, HSI⟩
  ihave H := (agree (aLoc d main_arg2) (m (aLoc d main_arg2)) s') $$ [HSI H2]
  · isplitl [HSI] <;> iassumption
  icases H with ⟨%h2, HSI⟩
  ihave H := (agree (aLoc d main_arg3) (m (aLoc d main_arg3)) s') $$ [HSI H3]
  · isplitl [HSI] <;> iassumption
  icases H with ⟨%h3, HSI⟩
  ihave H := (agree (aLoc d main_arg4) (m (aLoc d main_arg4)) s') $$ [HSI H4]
  · isplitl [HSI] <;> iassumption
  icases H with ⟨%h4, HSI⟩
  ihave H := (agree (aLoc d main_arg5) (m (aLoc d main_arg5)) s') $$ [HSI H5]
  · isplitl [HSI] <;> iassumption
  icases H with ⟨%h5, HSI⟩
  ihave H := (agree (aLoc d main_arg6) (m (aLoc d main_arg6)) s') $$ [HSI H6]
  · isplitl [HSI] <;> iassumption
  icases H with ⟨%h6, HSI⟩
  ihave H := (agree (aLoc d main_v1) (outAll m d : Buf (Elt F) (aLoc d main_v1)) s') $$ [HSI Ho]
  · isplitl [HSI] <;> iassumption
  icases H with ⟨%h7, -⟩
  ipureintro; exact ⟨⟨h0, h1, h2, h3, h4, h5, h6⟩, h7⟩

/-- What the run ends with, on every device: arguments as they were, the results, every counter at zero. -/
def QC : PUnit × MemSt nD τ sig (Elt F) → Prop := fun r => (∀ c : Dev nD,
    (r.2.mem (aLoc c main_arg0) = m (aLoc c main_arg0) ∧ r.2.mem (aLoc c main_arg1) = m (aLoc c main_arg1)
      ∧ r.2.mem (aLoc c main_arg2) = m (aLoc c main_arg2) ∧ r.2.mem (aLoc c main_arg3) = m (aLoc c main_arg3)
      ∧ r.2.mem (aLoc c main_arg4) = m (aLoc c main_arg4) ∧ r.2.mem (aLoc c main_arg5) = m (aLoc c main_arg5)
      ∧ r.2.mem (aLoc c main_arg6) = m (aLoc c main_arg6))
    ∧ r.2.mem (aLoc c main_v1) = (outAll m c : Buf (Elt F) (aLoc c main_v1))) ∧ r.2.sem = fun _ => 0

/-- The program's run, from any memory. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Lookup

end
-- ==== Proof.Near.lean ====
/-
  The search over the extended reals: near the even grid, the place the kernel finds from its guess is the nearer of the
  two grid points around the query, the one the reference finds by counting the points below the query.
-/
module

public import proofs.«01_k».proof.Proof.Values
public import Idealize.ShloMosaic.PureOps.Ideal

@[expose] public section

noncomputable section

namespace Cert.Lookup

open Idealize.ShloMosaic

/-! ## In the reals, at unit steps -/

/-- Points each within half a step of their number: what the kernel picks from a guess whose place is right to half a step is
    what the two points around `T` give. `c` is the number of points below `T`. -/
theorem pick_eq {n j c : ℕ} (hn : 2 ≤ n) (s : ℕ → ℝ) (T : ℝ) (hs : ∀ k < n, (k : ℝ) - 1 / 2 < s k ∧ s k < (k : ℝ) + 1 / 2)
    (hcn : c ≤ n) (hc : ∀ k < n, s k < T ↔ k < c) (hj : j < n) (hlo : j = 0 ∨ (j : ℝ) - 1 / 2 ≤ T) (hhi : j = n - 1 ∨ T < (j : ℝ) + 1 / 2) :
    (if |T - s (min (j + 1) (n - 1))| < (if |T - s j| < |T - s (j - 1)| then |T - s j| else |T - s (j - 1)|) then min (j + 1) (n - 1)
      else if |T - s j| < |T - s (j - 1)| then j else j - 1)
    = if |T - s (min c (n - 1))| < |T - s (min (c - 1) (n - 1))| then min c (n - 1) else min (c - 1) (n - 1) := by
  have hjc : j ≤ c := by
    rcases hlo with h | h
    · omega
    · by_contra hlt
      have h1 : j - 1 < n := by omega
      have hp : 1 ≤ j := by omega
      have h2 := (hs (j - 1) h1).2
      have h3 : ((j - 1 : ℕ) : ℝ) = (j : ℝ) - 1 := by rw [Nat.cast_sub hp]; simp
      have h4 : s (j - 1) < T := by rw [h3] at h2; linarith
      have := (hc (j - 1) h1).1 h4
      omega
  have hcj : c ≤ j + 1 := by
    rcases hhi with h | h
    · omega
    · by_contra hlt
      have h1 : j + 1 < n := by omega
      have h2 := (hs (j + 1) h1).1
      have h4 := (hc (j + 1) h1).2 (by omega)
      push_cast at h2
      linarith
  rcases Nat.lt_or_ge j c with h | h
  · -- the point guessed is below
    obtain rfl : c = j + 1 := by omega
    have hb : s j < T := (hc j hj).2 h
    have e1 : min (j + 1 - 1) (n - 1) = j := by omega
    rw [e1]
    rcases Nat.eq_zero_or_pos j with rfl | hp
    · simp
    · have h1 : j - 1 < n := by omega
      have h2 := (hs (j - 1) h1).2
      have h3 : ((j - 1 : ℕ) : ℝ) = (j : ℝ) - 1 := by rw [Nat.cast_sub hp]; simp
      have h4 := (hs j hj).1
      have h5 : |T - s j| < |T - s (j - 1)| := by
        rw [abs_of_pos (by linarith), abs_of_pos (by rw [h3] at h2; linarith)]; rw [h3] at h2; linarith
      rw [if_pos h5, if_pos h5]
  · -- the point guessed is not below
    obtain rfl : c = j := by omega
    have hb : T ≤ s c := not_lt.1 fun h' => absurd ((hc c hj).1 h') (lt_irrefl _)
    have e1 : min c (n - 1) = c := by omega
    have e2 : min (c - 1) (n - 1) = c - 1 := by omega
    rw [e1, e2]
    have hge : |T - s c| ≤ |T - s (min (c + 1) (n - 1))| := by
      rcases Nat.lt_or_ge (c + 1) n with h1 | h1
      · have e : min (c + 1) (n - 1) = c + 1 := by omega
        rw [e]
        have h2 := (hs (c + 1) h1).1
        have h3 := (hs c hj).2
        push_cast at h2
        rw [abs_of_nonpos (by linarith), abs_of_nonpos (by linarith)]; linarith
      · have e : min (c + 1) (n - 1) = c := by omega
        rw [e]
    rw [if_neg]
    split_ifs with h1
    · exact not_lt.2 hge
    · exact not_lt.2 ((not_lt.1 h1).trans hge)

/-- The numbers below `n` at which an increasing test holds are those below their count. -/
theorem count_iff {n : ℕ} (p : ℕ → Prop) [DecidablePred p] (hd : ∀ a b, a ≤ b → b < n → p b → p a) (k : ℕ) (hk : k < n) :
    p k ↔ k < ((Finset.range n).filter p).card := by
  constructor
  · intro h
    have hsub : Finset.range (k + 1) ⊆ (Finset.range n).filter p := fun a ha => by
      have := Finset.mem_range.1 ha
      exact Finset.mem_filter.2 ⟨Finset.mem_range.2 (by omega), hd a k (by omega) hk h⟩
    have := Finset.card_le_card hsub
    rw [Finset.card_range] at this; omega
  · intro h
    by_contra hp
    have hsub : (Finset.range n).filter p ⊆ Finset.range k := fun a ha => by
      obtain ⟨h1, h2⟩ := Finset.mem_filter.1 ha
      refine Finset.mem_range.2 (Nat.lt_of_not_le fun hle => hp (hd k a hle (Finset.mem_range.1 h1) h2))
    have := Finset.card_le_card hsub
    rw [Finset.card_range] at this; omega

/-- How many of the first `n` values of `g` are below `x`. -/
def below (n : ℕ) (g : ℕ → ℝ) (x : ℝ) : ℕ := ((Finset.range n).filter fun k => g k < x).card

/-- The count of the points below is at most the number of points. -/
theorem below_le (n : ℕ) (g : ℕ → ℝ) (x : ℝ) : below n g x ≤ n :=
  (Finset.card_filter_le _ _).trans (Finset.card_range n).le

/-- The nearer of the two grid points around `x`, the lower of equals. -/
def nearer (n : ℕ) (g : ℕ → ℝ) (x : ℝ) : ℕ :=
  if |x - g (min (below n g x) (n - 1))| < |x - g (min (below n g x - 1) (n - 1))| then min (below n g x) (n - 1) else min (below n g x - 1) (n - 1)

/-- The kernel's choice among the three places about `j`. -/
def ofThree (n : ℕ) (g : ℕ → ℝ) (x : ℝ) (j : ℕ) : ℕ :=
  if |x - g (min (j + 1) (n - 1))| < (if |x - g j| < |x - g (j - 1)| then |x - g j| else |x - g (j - 1)|) then min (j + 1) (n - 1)
  else if |x - g j| < |x - g (j - 1)| then j else j - 1

/-- The grid `g` is within half a step of the even grid. -/
def NearEven (n : ℕ) (g : ℕ → ℝ) (g0 inv : ℝ) : Prop := ∀ k < n, |(g k - g0) * inv - k| < 1 / 2

/-- Near an even grid, from a guess within half a step of the query's place or at the end of the grid beyond which the query lies, the
    strict-first nearest of the guess and its two neighbours is the nearer of the two points around the query. -/
theorem ofThree_eq {n j : ℕ} (hn : 2 ≤ n) {g : ℕ → ℝ} {g0 inv : ℝ} (hi : 0 < inv) (hg : NearEven n g g0 inv) (x : ℝ) (hj : j < n)
    (hlo : j = 0 ∨ (j : ℝ) - 1 / 2 ≤ (x - g0) * inv) (hhi : j = n - 1 ∨ (x - g0) * inv < (j : ℝ) + 1 / 2) :
    ofThree n g x j = nearer n g x := by
  have hs : ∀ k < n, (k : ℝ) - 1 / 2 < (g k - g0) * inv ∧ (g k - g0) * inv < (k : ℝ) + 1 / 2 := fun k hk => by
    have := abs_lt.1 (hg k hk); constructor <;> linarith [this.1, this.2]
  have hlt : ∀ k, g k < x ↔ (g k - g0) * inv < (x - g0) * inv := fun k => by
    rw [mul_lt_mul_iff_left₀ hi]; constructor <;> intro h <;> linarith
  have hab : ∀ a b, |x - g a| < |x - g b| ↔ |(x - g0) * inv - (g a - g0) * inv| < |(x - g0) * inv - (g b - g0) * inv| := fun a b => by
    have e : ∀ k, |(x - g0) * inv - (g k - g0) * inv| = |x - g k| * inv := fun k => by
      rw [← sub_mul, abs_mul, abs_of_pos hi]; congr 2; ring
    rw [e, e, mul_lt_mul_iff_left₀ hi]
  have hc : ∀ k < n, (g k - g0) * inv < (x - g0) * inv ↔ k < below n g x := fun k hk => by
    rw [← hlt]
    refine count_iff (fun k => g k < x) (fun a b hle hb h => ?_) k hk
    rcases Nat.eq_or_lt_of_le hle with rfl | hlt'
    · exact h
    · have h1 := (hs a (by omega)).2
      have h2 := (hs b hb).1
      have h3 : (a : ℝ) + 1 ≤ b := by exact_mod_cast hlt'
      rw [hlt] at h ⊢; linarith
  have hP := pick_eq hn (fun k => (g k - g0) * inv) ((x - g0) * inv) hs (below_le n g x) hc hj hlo hhi
  unfold ofThree nearer
  simp only [hab]
  rw [← hP]
  by_cases h1 : |(x - g0) * inv - (g j - g0) * inv| < |(x - g0) * inv - (g (j - 1) - g0) * inv|
  · simp only [if_pos h1, hab]
  · simp only [if_neg h1, hab]

/-! ## In the extended reals -/

/-- A distance of reals. -/
theorem dist1_coe (x y : ℝ) : dist1 (F := Ideal) ((x : ℝ) : EReal) ((y : ℝ) : EReal) = ((|x - y| : ℝ) : EReal) := by
  show max ((x : EReal) - (y : EReal)) (-((x : EReal) - (y : EReal))) = _
  rw [← EReal.coe_sub, ← EReal.coe_neg, ← EReal.coe_strictMono.monotone.map_max]; rfl

/-- A test of reals. -/
theorem less_coe (x y : ℝ) : FloatOps.cmpf (F := Ideal) (φ := .f32) .olt ((x : ℝ) : EReal) ((y : ℝ) : EReal) = BitVec.ofBool (decide (x < y)) := by
  show BitVec.ofBool (decide ((x : EReal) < (y : EReal))) = _
  simp only [EReal.coe_lt_coe_iff]

/-- A choice by a test. -/
theorem select_ofBool {α : Type} (p : Prop) [Decidable p] (a b : α) : Scalar.select (BitVec.ofBool (decide p)) a b = if p then a else b := by
  unfold Scalar.select
  by_cases h : p <;> simp [h]

/-- The word a real is rounded to is its integer part, held in the range of a signed word. -/
theorem toWord_toInt (t : ℝ) : (FloatOps.fptosi (F := Ideal) (φ := .f32) 32 ((t : ℝ) : EReal) : BitVec 32).toInt
    = max (-2147483648) (min 2147483647 (if 0 ≤ t then ⌊t⌋ else ⌈t⌉)) := by
  show (BitVec.ofInt 32 (Ideal.toIntClamped (-(2 ^ (32 - 1) : ℕ)) ((2 ^ (32 - 1) : ℕ) - 1) ((t : ℝ) : EReal))).toInt = _
  rw [Ideal.toIntClamped_coe, BitVec.toInt_ofInt]
  norm_num
  rw [Int.bmod_eq_of_le] <;> omega

/-- The pattern of one half is the real one half. -/
theorem ofBits_half : Scalar.ofBits (F := Ideal) .f32 0x3F000000#32 = (((1 : ℝ) / 2 : ℝ) : EReal) := by
  show Ideal.ofBits .f32 0x3F000000#32 = _
  simp [Ideal.ofBits, Ideal.ieee, -EReal.coe_mul]; norm_num

/-- The guess is a place of the grid, and the query's place in the even grid rounds to it or lies beyond the end it is at. -/
theorem guess1_near {n : ℕ} (hn : 2 ≤ n) (hn' : n ≤ 1000) {hi : BitVec 32} (hhi : hi.toInt = n - 1) (g0 inv x : ℝ) :
    ∃ j : ℕ, (guess1 (F := Ideal) hi ((g0 : ℝ) : EReal) ((inv : ℝ) : EReal) ((x : ℝ) : EReal)).toInt = j ∧ j < n
      ∧ (j = 0 ∨ (j : ℝ) - 1 / 2 ≤ (x - g0) * inv) ∧ (j = n - 1 ∨ (x - g0) * inv < (j : ℝ) + 1 / 2) := by
  have e := guess1_toInt (F := Ideal) hi ((g0 : ℝ) : EReal) ((inv : ℝ) : EReal) ((x : ℝ) : EReal)
  have e2 : FloatOps.addf (F := Ideal) (φ := .f32) (FloatOps.mulf (FloatOps.subf ((x : ℝ) : EReal) ((g0 : ℝ) : EReal)) ((inv : ℝ) : EReal)) (Scalar.ofBits .f32 0x3F000000#32)
      = ((((x - g0) * inv + 1 / 2 : ℝ)) : EReal) := by
    rw [ofBits_half]
    show ((x : EReal) - (g0 : EReal)) * (inv : EReal) + (((1 : ℝ) / 2 : ℝ) : EReal) = _
    rw [← EReal.coe_sub, ← EReal.coe_mul, ← EReal.coe_add]
  rw [e2, toWord_toInt, hhi] at e
  generalize (x - g0) * inv = T at e ⊢
  generalize (guess1 (F := Ideal) hi ((g0 : ℝ) : EReal) ((inv : ℝ) : EReal) ((x : ℝ) : EReal)).toInt = J at e ⊢
  generalize ht : (if 0 ≤ T + 1 / 2 then ⌊T + 1 / 2⌋ else ⌈T + 1 / 2⌉) = t at e
  refine ⟨J.toNat, by omega, by omega, ?_, ?_⟩
  · by_cases h0 : J.toNat = 0
    · exact Or.inl h0
    · right
      have hle : (J.toNat : ℤ) ≤ t := by omega
      have ht0 : 0 < t := by omega
      by_cases hs : 0 ≤ T + 1 / 2
      · rw [if_pos hs] at ht
        have h1 : ((J.toNat : ℤ) : ℝ) ≤ T + 1 / 2 := Int.le_floor.1 (ht ▸ hle)
        push_cast at h1; linarith
      · rw [if_neg hs] at ht
        have : t ≤ 0 := ht ▸ Int.ceil_le.2 (by push_cast; linarith)
        omega
  · by_cases h0 : J.toNat = n - 1
    · exact Or.inl h0
    · right
      have hle : t ≤ (J.toNat : ℤ) := by omega
      by_cases hs : 0 ≤ T + 1 / 2
      · rw [if_pos hs] at ht
        have h1 : T + 1 / 2 < (((J.toNat : ℤ) + 1 : ℤ) : ℝ) := Int.floor_lt.1 (by rw [ht]; omega)
        push_cast at h1; linarith
      · have : (0 : ℝ) ≤ (J.toNat : ℝ) := Nat.cast_nonneg _
        linarith

/-- The signed value of a word that is a natural number below a small bound is its value. -/
theorem toNat_of_toInt_eq {x : BitVec 32} {k : ℕ} (h : x.toInt = k) : x.toNat = k := by
  have := toNat_of_toInt (x := x) (n := k + 1) (by omega) (by omega)
  omega

/-- Near the even grid the place a search finds is the nearer of the two points around the query. -/
theorem near1_toNat {n : ℕ} (h2 : 2 ≤ n) (hn' : n ≤ 1000) (hn : 0 < n) {hi : BitVec 32} (hhi : hi.toInt = n - 1) {g0 inv : ℝ} (hinv : 0 < inv)
    {g : ℕ → ℝ} (hg : NearEven n g g0 inv) (f : (⟨1, ![n]⟩ : Shape).Idx → Ideal .f32) (hf : ∀ k, k < n → f (at1 n hn k) = ((g k : ℝ) : EReal)) (x : ℝ) :
    (near1 (F := Ideal) n hn hi ((g0 : ℝ) : EReal) ((inv : ℝ) : EReal) f ((x : ℝ) : EReal)).toNat = nearer n g x := by
  obtain ⟨j, hj, hjn, hlo, hup⟩ := guess1_near h2 hn' hhi g0 inv x
  rw [← ofThree_eq h2 hinv hg x hjn hlo hup]
  unfold near1
  generalize guess1 (F := Ideal) hi ((g0 : ℝ) : EReal) ((inv : ℝ) : EReal) ((x : ℝ) : EReal) = J at hj
  have e0 : J.toNat = j := toNat_of_toInt_eq hj
  have eb : (below1 J).toNat = j - 1 := toNat_of_toInt_eq (by rw [below1_toInt (by omega) (by omega)]; omega)
  have ea : (above1 hi J).toNat = min (j + 1) (n - 1) := toNat_of_toInt_eq (by rw [above1_toInt (by omega) (by omega)]; omega)
  rw [e0, eb, ea, hf _ (by omega), hf _ hjn, hf _ (by omega)]
  unfold choose1 ofThree
  simp only [dist1_coe, less_coe, select_ofBool]
  rw [← ea, ← eb, ← e0]
  by_cases h1 : |x - g J.toNat| < |x - g (below1 J).toNat|
  · simp only [if_pos h1, less_coe, select_ofBool]; split_ifs <;> rfl
  · simp only [if_neg h1, less_coe, select_ofBool]; split_ifs <;> rfl

/-- The upper of the two places around a query with `c` points below it. -/
def upper1 (hi c : BitVec 32) : BitVec 32 := IntOp.minsi hi (IntOp.maxsi 0#32 c)

/-- The lower of the two places. -/
def lower1 (hi c : BitVec 32) : BitVec 32 := IntOp.minsi hi (IntOp.maxsi 0#32 (IntOp.subi c 1#32))

/-- The nearer of the two places, the lower of equals. -/
def closer1 (n : ℕ) (hn : 0 < n) (hi c : BitVec 32) (f : (⟨1, ![n]⟩ : Shape).Idx → Ideal .f32) (v : Ideal .f32) : BitVec 32 :=
  Scalar.select (FloatOps.cmpf .olt (dist1 v (f (at1 n hn (upper1 hi c).toNat))) (dist1 v (f (at1 n hn (lower1 hi c).toNat)))) (upper1 hi c) (lower1 hi c)

/-- The upper of the two points around a count of `k`: point `k`, or the last. -/
theorem upper1_toNat {n : ℕ} (h2 : 2 ≤ n) (hn' : n ≤ 1000) {hi c : BitVec 32} (hhi : hi.toInt = n - 1) {k : ℕ} (hk : k ≤ n) (hc : c.toNat = k) :
    (upper1 hi c).toNat = min k (n - 1) := by
  apply toNat_of_toInt_eq
  unfold upper1
  have e : c.toInt = k := by rw [BitVec.toInt_eq_toNat_of_lt (by omega)]; omega
  rw [min_toInt, max_toInt, e, hhi, show (0#32 : BitVec 32).toInt = 0 from rfl]; omega

/-- The lower of the two points around a count of `k`: point `k - 1`, or the first. -/
theorem lower1_toNat {n : ℕ} (h2 : 2 ≤ n) (hn' : n ≤ 1000) {hi c : BitVec 32} (hhi : hi.toInt = n - 1) {k : ℕ} (hk : k ≤ n) (hc : c.toNat = k) :
    (lower1 hi c).toNat = min (k - 1) (n - 1) := by
  apply toNat_of_toInt_eq
  unfold lower1
  have e : c.toInt = k := by rw [BitVec.toInt_eq_toNat_of_lt (by omega)]; omega
  have e1 : (IntOp.subi c 1#32).toInt = (k : ℤ) - 1 := by
    show (c - 1#32).toInt = _
    rw [BitVec.toInt_sub, e, Int.bmod_eq_of_le] <;> simp <;> omega
  rw [min_toInt, max_toInt, e1, hhi, show (0#32 : BitVec 32).toInt = 0 from rfl]; omega

/-- The reference's place by counting is the nearer of the two points around the query. -/
theorem closer1_toNat {n : ℕ} (h2 : 2 ≤ n) (hn' : n ≤ 1000) (hn : 0 < n) {hi c : BitVec 32} (hhi : hi.toInt = n - 1)
    {g : ℕ → ℝ} (f : (⟨1, ![n]⟩ : Shape).Idx → Ideal .f32) (hf : ∀ k, k < n → f (at1 n hn k) = ((g k : ℝ) : EReal)) (x : ℝ)
    (hc : c.toNat = below n g x) : (closer1 n hn hi c f ((x : ℝ) : EReal)).toNat = nearer n g x := by
  have eu := upper1_toNat h2 hn' hhi (below_le n g x) hc
  have el := lower1_toNat h2 hn' hhi (below_le n g x) hc
  unfold closer1 nearer
  rw [hf _ (by omega), hf _ (by omega), dist1_coe, dist1_coe, less_coe, select_ofBool, ← eu, ← el]
  split_ifs <;> rfl

/-- Near the even grid the kernel's search and the reference's agree. -/
theorem near1_eq_closer1 {n : ℕ} (h2 : 2 ≤ n) (hn' : n ≤ 1000) (hn : 0 < n) {hi c : BitVec 32} (hhi : hi.toInt = n - 1) {g0 inv : ℝ} (hinv : 0 < inv)
    {g : ℕ → ℝ} (hg : NearEven n g g0 inv) (f : (⟨1, ![n]⟩ : Shape).Idx → Ideal .f32) (hf : ∀ k, k < n → f (at1 n hn k) = ((g k : ℝ) : EReal)) (x : ℝ)
    (hc : c.toNat = below n g x) :
    near1 (F := Ideal) n hn hi ((g0 : ℝ) : EReal) ((inv : ℝ) : EReal) f ((x : ℝ) : EReal) = closer1 n hn hi c f ((x : ℝ) : EReal) :=
  BitVec.eq_of_toNat_eq ((near1_toNat h2 hn' hn hhi hinv hg f hf x).trans (closer1_toNat h2 hn' hn hhi f hf x hc).symm)

end Cert.Lookup

end
-- ==== Proof.HostAt.lean ====
/-
  The reference's host operations read at one query: a count along a row, a gather from a vector and from a table of three
  axes, and three columns put side by side.
-/
module

public import proofs.«01_k».proof.Proof.Near
public import Idealize.ShloMosaic.Lib.Pipeline.Value
public import Idealize.ShloMosaic.Lib.Pipeline.ValueKit.Tiles
public import Idealize.ShloMosaic.Lib.IdealHost
public import Idealize.ShloMosaic.Lib.ValueIdxCore
public import Idealize.ShloMosaic.PureOps.Reduce

@[expose] public section

noncomputable section

namespace Cert.Lookup

open Idealize.ShloMosaic Idealize.ShloMosaic.ValueIdx

/-! ## Counting -/

/-- Word addition over a set of bits, widened, is the number of them that are one. -/
theorem fold_bits {ι : Type} (S : Finset ι) (p : ι → Prop) [DecidablePred p] (hS : S.card < 4294967296) :
    (S.fold IntOp.addi 0#32 fun i => (BitVec.ofBool (decide (p i))).setWidth 32).toNat = (S.filter p).card := by
  induction S using Finset.cons_induction with
  | empty => simp
  | cons a S ha ih =>
    rw [Finset.card_cons] at hS
    have h := ih (by omega)
    have hle := Finset.card_filter_le S p
    rw [Finset.fold_cons, Finset.filter_cons]
    show ((BitVec.ofBool (decide (p a))).setWidth 32 + _).toNat = _
    rw [BitVec.toNat_add, h]
    by_cases hp : p a
    · rw [if_pos hp, Finset.card_cons, decide_eq_true hp]
      show (1 + _) % 4294967296 = _
      omega
    · rw [if_neg hp, decide_eq_false hp]
      show (0 + _) % 4294967296 = _
      omega

/-- The index a row and a column put back together name. -/
theorem lift_row {B n : ℕ} (h : (⟨2, ![B, n]⟩ : Shape).Reduces [1] ⟨1, ![B]⟩) (j : Fin B) (k : Fin ((⟨2, ![B, n]⟩ : Shape).size 1)) :
    h.lift (ix1 j) k = ix2 (n1 := n) j k := by
  funext c
  refine Fin.ext ?_
  rw [h.lift_val]
  match c with
  | ⟨0, _⟩ => rfl
  | ⟨1, _⟩ => rfl

/-- A vector laid along each row. -/
theorem rows_apply {α : Type} {B n : ℕ} (hn : n ≠ 1) (h1 : (⟨1, ![n]⟩ : Shape).BroadcastsInDim ⟨2, ![1, n]⟩ ![1])
    (h2 : (⟨2, ![1, n]⟩ : Shape).BroadcastsInDim ⟨2, ![B, n]⟩ ![0, 1]) (g : (⟨1, ![n]⟩ : Shape).Idx → α) (j : Fin B) (k : Fin n) :
    broadcastInDim ⟨2, ![B, n]⟩ ![0, 1] h2 (broadcastInDim ⟨2, ![1, n]⟩ ![1] h1 g) (ix2 j k) = g (ix1 k) := by
  rw [broadcastInDim_apply ![0, 1] h2 _ (ix2 j k) (ix2 0 k) (fun a => by
    match a with
    | ⟨0, _⟩ => rfl
    | ⟨1, _⟩ => exact (if_neg hn).symm)]
  exact broadcastInDim_apply ![1] h1 g (ix2 0 k) (ix1 k) fun a => by
    match a with
    | ⟨0, _⟩ => exact (if_neg hn).symm

/-- A vector as one column. -/
theorem column_apply {α : Type} {B : ℕ} (hB : B ≠ 1) (h : (⟨1, ![B]⟩ : Shape).BroadcastsInDim ⟨2, ![B, 1]⟩ ![0])
    (v : (⟨1, ![B]⟩ : Shape).Idx → α) (j : Fin B) (k : Fin 1) : broadcastInDim ⟨2, ![B, 1]⟩ ![0] h v (ix2 j k) = v (ix1 j) :=
  broadcastInDim_apply ![0] h v (ix2 j k) (ix1 j) fun a => by
    match a with
    | ⟨0, _⟩ => exact (if_neg hB).symm

/-- A vector laid along each column. -/
theorem columns_apply {α : Type} {B n : ℕ} (hB : B ≠ 1) (h1 : (⟨1, ![B]⟩ : Shape).BroadcastsInDim ⟨2, ![B, 1]⟩ ![0])
    (h2 : (⟨2, ![B, 1]⟩ : Shape).BroadcastsInDim ⟨2, ![B, n]⟩ ![0, 1]) (v : (⟨1, ![B]⟩ : Shape).Idx → α) (j : Fin B) (k : Fin n) :
    broadcastInDim ⟨2, ![B, n]⟩ ![0, 1] h2 (broadcastInDim ⟨2, ![B, 1]⟩ ![0] h1 v) (ix2 j k) = v (ix1 j) := by
  rw [broadcastInDim_apply ![0, 1] h2 _ (ix2 j k) (ix2 j 0) (fun a => by
    match a with
    | ⟨0, _⟩ => exact (if_neg hB).symm
    | ⟨1, _⟩ => rfl)]
  exact column_apply hB h1 v j 0

/-- The place `k` of a vector. -/
theorem at1_eq {n : ℕ} (hn : 0 < n) (k : Fin n) : at1 n hn k.val = ix1 k := by
  funext d
  match d with
  | ⟨0, _⟩ => exact Fin.ext (Nat.mod_eq_of_lt k.isLt)

/-- The reference's count at a query: how many grid points are below it. -/
theorem count_toNat {B n : ℕ} (hB : B ≠ 1) (hn1 : n ≠ 1) (hn : 0 < n) (hn' : n ≤ 1000)
    (h1 : (⟨1, ![n]⟩ : Shape).BroadcastsInDim ⟨2, ![1, n]⟩ ![1]) (h2 : (⟨2, ![1, n]⟩ : Shape).BroadcastsInDim ⟨2, ![B, n]⟩ ![0, 1])
    (h3 : (⟨1, ![B]⟩ : Shape).BroadcastsInDim ⟨2, ![B, 1]⟩ ![0]) (h4 : (⟨2, ![B, 1]⟩ : Shape).BroadcastsInDim ⟨2, ![B, n]⟩ ![0, 1])
    (hlt : 1 < 32) (hr' : (⟨2, ![B, n]⟩ : Shape).ReducesTo [1] ⟨1, ![B]⟩) (hr : (⟨2, ![B, n]⟩ : Shape).Reduces [1] ⟨1, ![B]⟩) (hu : 0 < (⟨0, ![]⟩ : Shape).numel)
    (f : (⟨1, ![n]⟩ : Shape).Idx → Ideal .f32) {g : ℕ → ℝ} (hf : ∀ k, k < n → f (at1 n hn k) = ((g k : ℝ) : EReal))
    (v : (⟨1, ![B]⟩ : Shape).Idx → Ideal .f32) (j : Fin B) (x : ℝ) (hv : v (ix1 j) = ((x : ℝ) : EReal)) :
    (Host.reduce IntOp.addi (extui 32 (cmpf (F := Ideal) (φ := .f32) .olt (broadcastInDim ⟨2, ![B, n]⟩ ![0, 1] h2 (broadcastInDim ⟨2, ![1, n]⟩ ![1] h1 f))
      (broadcastInDim ⟨2, ![B, n]⟩ ![0, 1] h4 (broadcastInDim ⟨2, ![B, 1]⟩ ![0] h3 v))) hlt) (constantI ⟨0, ![]⟩ 32 0#32) hr' hu (ix1 j)).toNat
    = below n g x := by
  rw [Host.reduce_eq_fold_single _ _ _ hr' hr hu (ix1 j)]
  have e : (extui 32 (cmpf (F := Ideal) (φ := .f32) .olt (broadcastInDim ⟨2, ![B, n]⟩ ![0, 1] h2 (broadcastInDim ⟨2, ![1, n]⟩ ![1] h1 f))
      (broadcastInDim ⟨2, ![B, n]⟩ ![0, 1] h4 (broadcastInDim ⟨2, ![B, 1]⟩ ![0] h3 v))) hlt ∘ hr.lift (ix1 j))
      = fun k : Fin n => (BitVec.ofBool (decide (g k < x))).setWidth 32 := by
    funext k
    have ea : broadcastInDim ⟨2, ![B, n]⟩ ![0, 1] h2 (broadcastInDim ⟨2, ![1, n]⟩ ![1] h1 f) (hr.lift (ix1 j) k) = ((g k.val : ℝ) : EReal) := by
      refine (congrArg _ (lift_row hr j k)).trans ((rows_apply hn1 h1 h2 f j k).trans ?_)
      rw [← at1_eq hn k]; exact hf _ k.isLt
    have eb : broadcastInDim ⟨2, ![B, n]⟩ ![0, 1] h4 (broadcastInDim ⟨2, ![B, 1]⟩ ![0] h3 v) (hr.lift (ix1 j) k) = ((x : ℝ) : EReal) :=
      (congrArg _ (lift_row hr j k)).trans ((columns_apply hB h3 h4 v j k).trans hv)
    refine (congrArg (fun b : BitVec 1 => b.setWidth 32) ((congrArg₂ (FloatOps.cmpf (F := Ideal) (φ := .f32) .olt) ea eb).trans (less_coe _ _)))
  rw [e]
  refine (fold_bits (Finset.univ : Finset (Fin n)) (fun k => g k < x) (by rw [Finset.card_univ, Fintype.card_fin]; omega)).trans ?_
  unfold below
  rw [← Nat.Iio_eq_range, ← Fin.map_valEmbedding_univ, Finset.filter_map, Finset.card_map]
  rfl

/-! ## Places read back -/

/-- A place counted from the end when negative, of a word that is not negative, is the word. -/
theorem wrap_eq (x n : BitVec 32) (h : 0 ≤ x.toInt) : Scalar.select (IntOp.cmpi .slt x 0#32) (IntOp.addi x n) x = x := by
  have e : IntOp.cmpi .slt x 0#32 = 0#1 := by
    show BitVec.ofBool (x.slt 0#32) = _
    rw [BitVec.slt_eq_decide, decide_eq_false (by simpa using h)]; rfl
  rw [e]; rfl

/-- One gather axis, named by the start indices and of extent one in the slice. -/
theorem gather_coord {s si r : Shape} {w : ℕ} (d : GatherDims s si r) (idx : IVec si w) (y : r.Idx) (a : Fin s.rank)
    (hc : a ∈ d.collapsedSliceDims) (hb : a ∉ d.operandBatchingDims) :
    d.start y idx a + d.batchCoord y a + d.offCoord y a = d.start y idx a := by
  rw [d.batchCoord_eq_zero _ _ hb, d.offCoord_eq_zero _ _ fun h => ((d.mem_sKept _).1 h).1 hc]
  rfl

/-- A gather of one word of a vector for each of `B` places. -/
abbrev vecDims (N B : ℕ) (wf : GatherDims.WF ⟨1, ![N]⟩ ⟨2, ![B, 1]⟩ ⟨1, ![B]⟩ [] [0] [] [0] [] 1 ![1]) :
    GatherDims ⟨1, ![N]⟩ ⟨2, ![B, 1]⟩ ⟨1, ![B]⟩ where
  offsetDims := []
  collapsedSliceDims := [0]
  operandBatchingDims := []
  startIndicesBatchingDims := []
  startIndexMap := [0]
  indexVectorDim := 1
  sliceSizes := ![1]
  wf := wf

/-- A gather of one word of a table of three axes for each of `B` triples of places. -/
abbrev tabDims (M P Q B : ℕ) (wf : GatherDims.WF ⟨3, ![M, P, Q]⟩ ⟨2, ![B, 3]⟩ ⟨1, ![B]⟩ [] [0, 1, 2] [] [0, 1, 2] [] 1 ![1, 1, 1]) :
    GatherDims ⟨3, ![M, P, Q]⟩ ⟨2, ![B, 3]⟩ ⟨1, ![B]⟩ where
  offsetDims := []
  collapsedSliceDims := [0, 1, 2]
  operandBatchingDims := []
  startIndicesBatchingDims := []
  startIndexMap := [0, 1, 2]
  indexVectorDim := 1
  sliceSizes := ![1, 1, 1]
  wf := wf

/-- A gather from a vector reads it at the place named, held within it. -/
theorem gather1_apply {α : Type} {N B : ℕ} (hN : 0 < N) (wf : GatherDims.WF ⟨1, ![N]⟩ ⟨2, ![B, 1]⟩ ⟨1, ![B]⟩ [] [0] [] [0] [] 1 ![1])
    (x : (⟨1, ![N]⟩ : Shape).Idx → α) (idx : IVec ⟨2, ![B, 1]⟩ 32) (j : Fin B) :
    Host.gather (vecDims N B wf) x idx (ix1 j) = x (ix1 ⟨min (idx (ix2 j 0)).toInt.toNat (N - 1), by omega⟩) := by
  refine congrArg x (funext fun a => Fin.ext ?_)
  obtain rfl : a = 0 := Subsingleton.elim _ _
  refine (gather_coord (vecDims N B wf) idx (ix1 j) 0 (List.mem_singleton.2 rfl) List.not_mem_nil).trans ?_
  unfold GatherDims.start
  rw [dif_pos (show (0 : Fin 1) ∈ [(0 : Fin 1)] from List.mem_singleton.2 rfl)]
  refine congrArg (fun i => min (idx i).toInt.toNat (N - 1)) (funext fun b => Fin.ext ?_)
  match b with
  | ⟨0, _⟩ => rfl
  | ⟨1, _⟩ => rfl

/-- A gather from a table of three axes reads it at the three places named, each held within its axis. -/
theorem gather3_apply {α : Type} {M P Q B : ℕ} (hM : 0 < M) (hP : 0 < P) (hQ : 0 < Q)
    (wf : GatherDims.WF ⟨3, ![M, P, Q]⟩ ⟨2, ![B, 3]⟩ ⟨1, ![B]⟩ [] [0, 1, 2] [] [0, 1, 2] [] 1 ![1, 1, 1])
    (x : (⟨3, ![M, P, Q]⟩ : Shape).Idx → α) (idx : IVec ⟨2, ![B, 3]⟩ 32) (j : Fin B) :
    Host.gather (tabDims M P Q B wf) x idx (ix1 j)
      = x (ix3 ⟨min (idx (ix2 j 0)).toInt.toNat (M - 1), by omega⟩ ⟨min (idx (ix2 j 1)).toInt.toNat (P - 1), by omega⟩
          ⟨min (idx (ix2 j 2)).toInt.toNat (Q - 1), by omega⟩) := by
  refine congrArg x (funext fun a => Fin.ext ?_)
  have hm : a ∈ [(0 : Fin 3), 1, 2] := (by decide : ∀ a : Fin 3, a ∈ [(0 : Fin 3), 1, 2]) a
  refine (gather_coord (tabDims M P Q B wf) idx (ix1 j) a hm List.not_mem_nil).trans ?_
  unfold GatherDims.start
  rw [dif_pos hm]
  match a with
  | ⟨0, _⟩ =>
    refine congrArg (fun i => min (idx i).toInt.toNat (M - 1)) (funext fun b => Fin.ext ?_)
    match b with
    | ⟨0, _⟩ => rfl
    | ⟨1, _⟩ => rfl
  | ⟨1, _⟩ =>
    refine congrArg (fun i => min (idx i).toInt.toNat (P - 1)) (funext fun b => Fin.ext ?_)
    match b with
    | ⟨0, _⟩ => rfl
    | ⟨1, _⟩ => rfl
  | ⟨2, _⟩ =>
    refine congrArg (fun i => min (idx i).toInt.toNat (Q - 1)) (funext fun b => Fin.ext ?_)
    match b with
    | ⟨0, _⟩ => rfl
    | ⟨1, _⟩ => rfl

/-- Three columns side by side, read at a row. -/
theorem three_apply {α : Type} {B : ℕ} (u0 u1 u2 : (⟨2, ![B, 1]⟩ : Shape).Idx → α)
    (h : Shape.Concatenates ([(⟨⟨2, ![B, 1]⟩, u0⟩ : (s : Shape) × (s.Idx → α)), ⟨⟨2, ![B, 1]⟩, u1⟩, ⟨⟨2, ![B, 1]⟩, u2⟩].map (·.1)) ⟨2, ![B, 3]⟩ 1) (j : Fin B) (k : Fin 3) :
    concatenate ⟨2, ![B, 3]⟩ 1 [⟨⟨2, ![B, 1]⟩, u0⟩, ⟨⟨2, ![B, 1]⟩, u1⟩, ⟨⟨2, ![B, 1]⟩, u2⟩] h (ix2 j k) = (![u0, u1, u2] k) (ix2 j 0) := by
  have hi : ∀ (i : (⟨2, ![B, 1]⟩ : Shape).Idx), (∀ b : Fin 2, b ≠ 1 → (i b : ℕ) = (ix2 j k : (⟨2, ![B, 3]⟩ : Shape).Idx) b) → i = ix2 j 0 := fun i hb => by
    funext b
    match b with
    | ⟨0, _⟩ => exact Fin.ext (hb 0 (by decide))
    | ⟨1, _⟩ => exact Fin.ext (Nat.lt_one_iff.1 (i 1).isLt)
  refine concatenate_unit_eq 1 _ h (ix2 j k) _ rfl ⟨fun hk hr i h0 hb => ?_, fun hk hr i h0 hb => ?_, fun hk hr i h0 hb => ?_, trivial⟩
  · rw [hi i hb]; obtain rfl : k = 0 := Fin.ext hk; rfl
  · rw [hi i hb]; obtain rfl : k = 1 := Fin.ext hk; rfl
  · rw [hi i hb]; obtain rfl : k = 2 := Fin.ext hk; rfl

end Cert.Lookup

end
-- ==== Proof.PreAt.lean ====
/-
  What the precondition says of the arguments: every query is a real number, and each grid is within half a step of the
  even grid of its origin and step.
-/
module

public import proofs.«01_k».proof.Pre_finite_near_even_grids
public import proofs.«01_k».proof.Proof.HostAt
public import Idealize.ShloMosaic.Lib.ReduceAll

@[expose] public section

noncomputable section

namespace Cert.Lookup

open Idealize.ShloMosaic Idealize.ShloMosaic.ValueIdx

/-! ## Constants -/

/-- A pattern of exponent neither zero nor all ones, of clear sign, is a positive real. -/
theorem ofBits_pos (b : BitVec 32) (hs : (b.extractLsb' 31 1 == 1#1) = false) (h0 : (b.extractLsb' 23 8).toNat ≠ 0) (h1 : (b.extractLsb' 23 8).toNat ≠ 255) :
    ∃ r : ℝ, 0 < r ∧ Scalar.ofBits (F := Ideal) .f32 b = ((r : ℝ) : EReal) := by
  refine ⟨1 * ((2 ^ 23 + (b.extractLsb' 0 23).toNat : ℕ) : ℝ) * (2 : ℝ) ^ ((((b.extractLsb' 23 8).toNat : ℕ) : ℤ) - (2 ^ (8 - 1) - 1) - (23 : ℕ)), by positivity, ?_⟩
  show Ideal.ieee 8 23 b = _
  unfold Ideal.ieee
  have e1 : ¬ (b.extractLsb' 23 8).toNat = 2 ^ 8 - 1 := h1
  simp only [if_neg e1, if_neg h0, hs, Bool.false_eq_true, if_false]

/-- The scale's pattern is a positive real. -/
theorem scale_pos : ∃ r : ℝ, 0 < r ∧ Scalar.ofBits (F := Ideal) .f32 0x49742400#32 = ((r : ℝ) : EReal) := ofBits_pos _ (by decide) (by decide) (by decide)

/-- The inverse step of the mass flux's grid is a positive real. -/
theorem invM_pos : ∃ r : ℝ, 0 < r ∧ Scalar.ofBits (F := Ideal) .f32 0x3D028F5C#32 = ((r : ℝ) : EReal) := ofBits_pos _ (by decide) (by decide) (by decide)

/-- The inverse step of the quality's grid is a positive real. -/
theorem invQ_pos : ∃ r : ℝ, 0 < r ∧ Scalar.ofBits (F := Ideal) .f32 0x42A95555#32 = ((r : ℝ) : EReal) := ofBits_pos _ (by decide) (by decide) (by decide)

/-- The inverse step of the pressure's grid is a positive real. -/
theorem invP_pos : ∃ r : ℝ, 0 < r ∧ Scalar.ofBits (F := Ideal) .f32 0x36CBE536#32 = ((r : ℝ) : EReal) := ofBits_pos _ (by decide) (by decide) (by decide)

/-- The origin of the mass flux's grid is a real. -/
theorem orgM_real : ∃ r : ℝ, Scalar.ofBits (F := Ideal) .f32 0x00000000#32 = ((r : ℝ) : EReal) :=
  ⟨0, by show Ideal.ofBits .f32 0x00000000#32 = _; simp [Ideal.ofBits, Ideal.ieee]⟩

/-- The origin of the quality's grid is a real. -/
theorem orgQ_real : ∃ r : ℝ, Scalar.ofBits (F := Ideal) .f32 0xBF000000#32 = ((r : ℝ) : EReal) :=
  ⟨-(1 / 2), by show Ideal.ofBits .f32 0xBF000000#32 = _; simp [Ideal.ofBits, Ideal.ieee, -EReal.coe_mul, -EReal.coe_neg]; norm_num⟩

/-- The origin of the pressure's grid is a real. -/
theorem orgP_real : ∃ r : ℝ, Scalar.ofBits (F := Ideal) .f32 0x47C35000#32 = ((r : ℝ) : EReal) :=
  (ofBits_pos _ (by decide) (by decide) (by decide)).imp fun _ h => h.2

/-- The pattern of infinity is the greatest extended real. -/
theorem top_bits : Scalar.ofBits (F := Ideal) .f32 0x7F800000#32 = (⊤ : EReal) := by
  show Ideal.ofBits .f32 0x7F800000#32 = _; simp [Ideal.ofBits, Ideal.ieee]

/-! ## One word -/

/-- A word whose size is below infinity is a real. -/
theorem real_of_below {x : EReal} (h : BitVec.ofBool (decide (max x (-x) < (⊤ : EReal))) = 1#1) : ∃ r : ℝ, x = ((r : ℝ) : EReal) := by
  have h' : max x (-x) < ⊤ := by
    by_contra hn
    rw [decide_eq_false hn] at h; exact absurd h (by decide)
  induction x using EReal.rec with
  | bot => simp at h'
  | coe r => exact ⟨r, rfl⟩
  | top => simp at h'

/-- A grid word within half a step of its place in the even grid is a real, so near. -/
theorem near_of_below {y : EReal} {g0 inv : ℝ} (hi : 0 < inv) (k : ℝ)
    (h : BitVec.ofBool (decide (max ((y - (g0 : EReal)) * (inv : EReal) - (k : EReal)) (-((y - (g0 : EReal)) * (inv : EReal) - (k : EReal)))
      < (((1 : ℝ) / 2 : ℝ) : EReal))) = 1#1) : ∃ r : ℝ, y = ((r : ℝ) : EReal) ∧ |(r - g0) * inv - k| < 1 / 2 := by
  have h' : max ((y - (g0 : EReal)) * (inv : EReal) - (k : EReal)) (-((y - (g0 : EReal)) * (inv : EReal) - (k : EReal))) < (((1 : ℝ) / 2 : ℝ) : EReal) := by
    by_contra hn
    rw [decide_eq_false hn] at h; exact absurd h (by decide)
  induction y using EReal.rec with
  | bot =>
    rw [EReal.bot_sub, EReal.bot_mul_coe_of_pos hi, EReal.bot_sub, EReal.neg_bot, max_eq_right bot_le] at h'
    exact absurd h' not_top_lt
  | coe r =>
    refine ⟨r, rfl, ?_⟩
    rw [← EReal.coe_sub, ← EReal.coe_mul, ← EReal.coe_sub, ← EReal.coe_neg, ← EReal.coe_strictMono.monotone.map_max, EReal.coe_lt_coe_iff] at h'
    exact h'
  | top =>
    rw [EReal.top_sub_coe, EReal.top_mul_coe_of_pos hi, EReal.top_sub_coe, max_eq_left le_top] at h'
    exact absurd h' not_top_lt

/-! ## The three kinds of test -/

instance : Subsingleton (⟨0, ![]⟩ : Shape).Idx := ⟨fun _ _ => funext fun d => d.elim0⟩

/-- All queries below infinity in size: each is a real. -/
theorem queries_real {B : ℕ} (hb : (⟨0, ![]⟩ : Shape).BroadcastsInDim ⟨1, ![B]⟩ ![]) (hr : (⟨1, ![B]⟩ : Shape).ReducesTo [0] ⟨0, ![]⟩) (hu : 0 < (⟨0, ![]⟩ : Shape).numel)
    (a : (⟨1, ![B]⟩ : Shape).Idx → Ideal .f32)
    (h : Host.reduce IntOp.andi (cmpf (F := Ideal) (φ := .f32) .olt (Host.absf a) (broadcastInDim ⟨1, ![B]⟩ ![] hb (constant ⟨0, ![]⟩ .f32 0x7F800000#32)))
      (constantI ⟨0, ![]⟩ 1 1#1) hr hu ix0 = 1#1) (i : (⟨1, ![B]⟩ : Shape).Idx) : ∃ r : ℝ, a i = ((r : ℝ) : EReal) := by
  refine real_of_below (x := a i) ?_
  rw [← Host.reduce_andi_all _ _ hr hu ix0 h i]
  show _ = FloatOps.cmpf (F := Ideal) (φ := .f32) .olt (max (a i) (-(a i))) (broadcastInDim ⟨1, ![B]⟩ ![] hb (constant ⟨0, ![]⟩ .f32 0x7F800000#32) i)
  rw [broadcastInDim_scalar_apply, ← top_bits]
  rfl

/-- Every grid word within half a step of its place: the grid is near the even one. -/
theorem grid_near {n : ℕ} (hn : 0 < n) (hn' : n ≤ 1000) (hb : (⟨0, ![]⟩ : Shape).BroadcastsInDim ⟨1, ![n]⟩ ![]) (hr : (⟨1, ![n]⟩ : Shape).ReducesTo [0] ⟨0, ![]⟩)
    (hu : 0 < (⟨0, ![]⟩ : Shape).numel) (a : (⟨1, ![n]⟩ : Shape).Idx → Ideal .f32) {b0 b1 : BitVec 32} {g0 inv : ℝ} (hi : 0 < inv)
    (h0 : Scalar.ofBits (F := Ideal) .f32 b0 = ((g0 : ℝ) : EReal)) (h1 : Scalar.ofBits (F := Ideal) .f32 b1 = ((inv : ℝ) : EReal))
    (h : Host.reduce IntOp.andi (cmpf (F := Ideal) (φ := .f32) .olt (Host.absf (subf (mulf (subf a (broadcastInDim ⟨1, ![n]⟩ ![] hb (constant ⟨0, ![]⟩ .f32 b0)))
        (broadcastInDim ⟨1, ![n]⟩ ![] hb (constant ⟨0, ![]⟩ .f32 b1))) (sitofp .f32 (iotaInDim ⟨1, ![n]⟩ 32 0))))
        (broadcastInDim ⟨1, ![n]⟩ ![] hb (constant ⟨0, ![]⟩ .f32 0x3F000000#32)))
      (constantI ⟨0, ![]⟩ 1 1#1) hr hu ix0 = 1#1) :
    ∃ g : ℕ → ℝ, (∀ k, k < n → a (at1 n hn k) = ((g k : ℝ) : EReal)) ∧ NearEven n g g0 inv := by
  have key : ∀ k : Fin n, ∃ r : ℝ, a (ix1 k) = ((r : ℝ) : EReal) ∧ |(r - g0) * inv - (k.val : ℝ)| < 1 / 2 := fun k => by
    refine near_of_below hi (k.val : ℝ) ?_
    rw [← Host.reduce_andi_all _ _ hr hu ix0 h (ix1 k)]
    have ek : ((BitVec.ofNat 32 k.val).toInt : ℝ) = (k.val : ℝ) := by
      have hk := k.isLt
      rw [BitVec.toInt_eq_toNat_of_lt (by rw [BitVec.toNat_ofNat]; omega), BitVec.toNat_ofNat, Nat.mod_eq_of_lt (by omega)]; simp
    rw [← ek, ← ofBits_half, ← h0, ← h1]
    show _ = FloatOps.cmpf (F := Ideal) (φ := .f32) .olt (FloatOps.hostAbsf (FloatOps.subf (FloatOps.mulf (FloatOps.subf (a (ix1 k))
        (broadcastInDim ⟨1, ![n]⟩ ![] hb (constant (F := Ideal) ⟨0, ![]⟩ .f32 b0) (ix1 k))) (broadcastInDim ⟨1, ![n]⟩ ![] hb (constant (F := Ideal) ⟨0, ![]⟩ .f32 b1) (ix1 k)))
        (FloatOps.sitofp (F := Ideal) .f32 (BitVec.ofNat 32 k.val)))) (broadcastInDim ⟨1, ![n]⟩ ![] hb (constant (F := Ideal) ⟨0, ![]⟩ .f32 0x3F000000#32) (ix1 k))
    rw [broadcastInDim_scalar_apply, broadcastInDim_scalar_apply, broadcastInDim_scalar_apply]
    rfl
  refine ⟨fun k => if hk : k < n then (key ⟨k, hk⟩).choose else 0, fun k hk => ?_, fun k hk => ?_⟩
  · simp only [dif_pos hk]
    have e : at1 n hn k = ix1 ⟨k, hk⟩ := at1_eq hn ⟨k, hk⟩
    rw [e]; exact (key ⟨k, hk⟩).choose_spec.1
  · simp only [dif_pos hk]; exact (key ⟨k, hk⟩).choose_spec.2

/-! ## The precondition -/

/-- The shape facts the precondition takes. -/
theorem preFacts : Cert.Pre_finite_near_even_grids.Facts :=
  ⟨by decide, by decide, by decide, by decide, by decide, by decide, by decide⟩

open Cert.Pre_finite_near_even_grids in
/-- The precondition read back: real queries and grids near the even ones. -/
theorem pre_read [Facts] (a0 a1 a2 : FVec Ideal S16384 .f32) (a3 : FVec Ideal S256 .f32) (a4 a5 : FVec Ideal S128 .f32) (a6 : FVec Ideal S256x128x128 .f32)
    {mo qo po mi qi pi : ℝ} (hmi : 0 < mi) (hqi : 0 < qi) (hpi : 0 < pi)
    (em : Scalar.ofBits (F := Ideal) .f32 0x00000000#32 = ((mo : ℝ) : EReal)) (eq : Scalar.ofBits (F := Ideal) .f32 0xBF000000#32 = ((qo : ℝ) : EReal))
    (ep : Scalar.ofBits (F := Ideal) .f32 0x47C35000#32 = ((po : ℝ) : EReal)) (em' : Scalar.ofBits (F := Ideal) .f32 0x3D028F5C#32 = ((mi : ℝ) : EReal))
    (eq' : Scalar.ofBits (F := Ideal) .f32 0x42A95555#32 = ((qi : ℝ) : EReal)) (ep' : Scalar.ofBits (F := Ideal) .f32 0x36CBE536#32 = ((pi : ℝ) : EReal))
    (h : fn (F := Ideal) a0 a1 a2 a3 a4 a5 a6 = fun _ => 1#1) :
    (∀ i, ∃ r : ℝ, a0 i = ((r : ℝ) : EReal)) ∧ (∀ i, ∃ r : ℝ, a1 i = ((r : ℝ) : EReal)) ∧ (∀ i, ∃ r : ℝ, a2 i = ((r : ℝ) : EReal))
    ∧ (∃ g : ℕ → ℝ, (∀ k, k < 256 → a3 (at1 256 (by decide) k) = ((g k : ℝ) : EReal)) ∧ NearEven 256 g mo mi)
    ∧ (∃ g : ℕ → ℝ, (∀ k, k < 128 → a4 (at1 128 (by decide) k) = ((g k : ℝ) : EReal)) ∧ NearEven 128 g qo qi)
    ∧ (∃ g : ℕ → ℝ, (∀ k, k < 128 → a5 (at1 128 (by decide) k) = ((g k : ℝ) : EReal)) ∧ NearEven 128 g po pi) := by
  have h0 := congrFun h ix0
  dsimp only [fn, fn_part1, fn_part2] at h0
  obtain ⟨hA, hB⟩ := IntOp.andi_eq_one.1 h0
  obtain ⟨hA1, hA2⟩ := IntOp.andi_eq_one.1 hA
  obtain ⟨hA3, hA4⟩ := IntOp.andi_eq_one.1 hA1
  obtain ⟨hB1, hB2⟩ := IntOp.andi_eq_one.1 hB
  obtain ⟨hB3, hB4⟩ := IntOp.andi_eq_one.1 hB1
  exact ⟨queries_real _ _ _ a0 hA3, queries_real _ _ _ a1 hA4, queries_real _ _ _ a2 hA2,
    grid_near _ (by decide) _ _ _ a3 hmi em em' hB3, grid_near _ (by decide) _ _ _ a4 hqi eq eq' hB4, grid_near _ (by decide) _ _ _ a5 hpi ep ep' hB2⟩

end Cert.Lookup

end
-- ==== Proof.RefAt.lean ====
/-
  The reference at one query: the three searches, the table's word, the result; and that under the precondition they are the
  kernel's.
-/
module

public import proofs.«01_k».proof.Proof.PreAt
public import proofs.«01_k».proof.Proof.Gen.ReferenceIdeal.Run

@[expose] public section

noncomputable section

namespace Cert.Lookup

open Idealize.ShloMosaic Idealize.ShloMosaic.ValueIdx

/-! ## A search's host operations at a query -/

/-- A small word reads the same with a sign as without. -/
theorem toInt_of_small {x : BitVec 32} {n : ℕ} (hn' : n ≤ 4194304) (h : x.toNat < n) : x.toInt = x.toNat :=
  BitVec.toInt_eq_toNat_of_lt (by omega)

/-- A word of a vector gathered at a place in range, the place counted from the end when negative. -/
theorem gather_wrapped {α : Type} {n B : ℕ} (hB : B ≠ 1) (hn : 0 < n) (hn' : n ≤ 1000)
    (wf : GatherDims.WF ⟨1, ![n]⟩ ⟨2, ![B, 1]⟩ ⟨1, ![B]⟩ [] [0] [] [0] [] 1 ![1]) (hc : (⟨1, ![B]⟩ : Shape).BroadcastsInDim ⟨2, ![B, 1]⟩ ![0])
    (f : (⟨1, ![n]⟩ : Shape).Idx → α) (U Z N : IVec ⟨1, ![B]⟩ 32) (j : Fin B) (hz : Z (ix1 j) = 0#32) (hU : (U (ix1 j)).toNat < n) :
    Host.gather (vecDims n B wf) f (broadcastInDim ⟨2, ![B, 1]⟩ ![0] hc (select (cmpi .slt U Z) (addi U N) U)) (ix1 j) = f (at1 n hn (U (ix1 j)).toNat) := by
  have hi : (U (ix1 j)).toInt = (U (ix1 j)).toNat := toInt_of_small (n := n) (by omega) hU
  have e : broadcastInDim ⟨2, ![B, 1]⟩ ![0] hc (select (cmpi .slt U Z) (addi U N) U) (ix2 j 0) = U (ix1 j) := by
    rw [column_apply hB]
    show Scalar.select (IntOp.cmpi .slt (U (ix1 j)) (Z (ix1 j))) (IntOp.addi (U (ix1 j)) (N (ix1 j))) (U (ix1 j)) = _
    rw [hz]; exact wrap_eq _ _ (by omega)
  rw [gather1_apply hn wf]
  have e1 : at1 n hn (U (ix1 j)).toNat = ix1 ⟨(U (ix1 j)).toNat, hU⟩ := at1_eq hn ⟨_, hU⟩
  rw [e1]
  congr 2
  refine Fin.ext ?_
  show min (broadcastInDim ⟨2, ![B, 1]⟩ ![0] hc (select (cmpi .slt U Z) (addi U N) U) (ix2 j 0)).toInt.toNat (n - 1) = _
  rw [e, hi]
  show min ((U (ix1 j)).toNat : ℤ).toNat (n - 1) = (U (ix1 j)).toNat
  omega

/-- A word held between zero and `n - 1` is less than `n`. -/
theorem held_lt {n : ℕ} (hn : 0 < n) {hi : BitVec 32} (hhi : hi.toInt = n - 1) (c : BitVec 32) : (IntOp.minsi hi (IntOp.maxsi 0#32 c)).toNat < n := by
  refine (toNat_of_toInt ?_ ?_).1 <;> rw [min_toInt, max_toInt, hhi, show (0#32 : BitVec 32).toInt = 0 from rfl] <;> omega

/-- The reference's search at a query is the nearer of the two places around it. -/
theorem search_apply {n B : ℕ} (hB : B ≠ 1) (hn : 0 < n) (hn' : n ≤ 1000)
    (wf : GatherDims.WF ⟨1, ![n]⟩ ⟨2, ![B, 1]⟩ ⟨1, ![B]⟩ [] [0] [] [0] [] 1 ![1]) (hc : (⟨1, ![B]⟩ : Shape).BroadcastsInDim ⟨2, ![B, 1]⟩ ![0])
    (f : (⟨1, ![n]⟩ : Shape).Idx → Ideal .f32) (v : (⟨1, ![B]⟩ : Shape).Idx → Ideal .f32) (U L Z N : IVec ⟨1, ![B]⟩ 32) {hi c : BitVec 32} (hhi : hi.toInt = n - 1) (j : Fin B)
    (hz : Z (ix1 j) = 0#32) (hU : U (ix1 j) = upper1 hi c) (hL : L (ix1 j) = lower1 hi c) :
    select (cmpf (F := Ideal) (φ := .f32) .olt
        (Host.absf (subf v (Host.gather (vecDims n B wf) f (broadcastInDim ⟨2, ![B, 1]⟩ ![0] hc (select (cmpi .slt U Z) (addi U N) U)))))
        (Host.absf (subf v (Host.gather (vecDims n B wf) f (broadcastInDim ⟨2, ![B, 1]⟩ ![0] hc (select (cmpi .slt L Z) (addi L N) L)))))) U L (ix1 j)
      = closer1 n hn hi c f (v (ix1 j)) := by
  have hUl : (U (ix1 j)).toNat < n := hU ▸ held_lt hn hhi _
  have hLl : (L (ix1 j)).toNat < n := hL ▸ held_lt hn hhi _
  have gU := gather_wrapped hB hn hn' wf hc f U Z N j hz hUl
  have gL := gather_wrapped hB hn hn' wf hc f L Z N j hz hLl
  show Scalar.select (FloatOps.cmpf (F := Ideal) (φ := .f32) .olt
    (dist1 (v (ix1 j)) (Host.gather (vecDims n B wf) f (broadcastInDim ⟨2, ![B, 1]⟩ ![0] hc (select (cmpi .slt U Z) (addi U N) U)) (ix1 j)))
    (dist1 (v (ix1 j)) (Host.gather (vecDims n B wf) f (broadcastInDim ⟨2, ![B, 1]⟩ ![0] hc (select (cmpi .slt L Z) (addi L N) L)) (ix1 j)))) (U (ix1 j)) (L (ix1 j)) = _
  rw [gU, gL, hU, hL]
  rfl

/-! ## The table -/

/-- The flat table at a row is the table at the row's three places. -/
theorem flat_apply {α : Type} (h : (⟨3, ![256, 128, 128]⟩ : Shape).ShapeCasts ⟨1, ![4194304]⟩) (x : (⟨3, ![256, 128, 128]⟩ : Shape).Idx → α)
    {im iq ip : BitVec 32} (hm : im.toNat < 256) (hq : iq.toNat < 128) (hp : ip.toNat < 128) :
    shapeCast ⟨1, ![4194304]⟩ x h (at1 4194304 (by decide) (flat1 im iq ip).toNat) = x (ix3 ⟨im.toNat, hm⟩ ⟨iq.toNat, hq⟩ ⟨ip.toNat, hp⟩) := by
  refine shapeCast_apply x h _ _ ?_
  rw [Shape.rowMajor_val_three, Shape.rowMajor_val_one, flat1_toNat hm hq hp]
  show (im.toNat * 128 + iq.toNat) * 128 + ip.toNat = (im.toNat * 16384 + iq.toNat * 128 + ip.toNat) % 4194304
  omega

/-- The table's word gathered at three places in range. -/
theorem table_apply {α : Type} {B : ℕ} (hB : B ≠ 1)
    (wf : GatherDims.WF ⟨3, ![256, 128, 128]⟩ ⟨2, ![B, 3]⟩ ⟨1, ![B]⟩ [] [0, 1, 2] [] [0, 1, 2] [] 1 ![1, 1, 1]) (hc : (⟨1, ![B]⟩ : Shape).BroadcastsInDim ⟨2, ![B, 1]⟩ ![0])
    (x : (⟨3, ![256, 128, 128]⟩ : Shape).Idx → α) (Im Iq Ip Z N1 N2 N3 : IVec ⟨1, ![B]⟩ 32)
    (h : Shape.Concatenates ([(⟨⟨2, ![B, 1]⟩, broadcastInDim ⟨2, ![B, 1]⟩ ![0] hc (select (cmpi .slt Im Z) (addi Im N1) Im)⟩ : (s : Shape) × (s.Idx → BitVec 32)),
      ⟨⟨2, ![B, 1]⟩, broadcastInDim ⟨2, ![B, 1]⟩ ![0] hc (select (cmpi .slt Iq Z) (addi Iq N2) Iq)⟩,
      ⟨⟨2, ![B, 1]⟩, broadcastInDim ⟨2, ![B, 1]⟩ ![0] hc (select (cmpi .slt Ip Z) (addi Ip N3) Ip)⟩].map (·.1)) ⟨2, ![B, 3]⟩ 1)
    (j : Fin B) (hz : Z (ix1 j) = 0#32) (hm : (Im (ix1 j)).toNat < 256) (hq : (Iq (ix1 j)).toNat < 128) (hp : (Ip (ix1 j)).toNat < 128) :
    Host.gather (tabDims 256 128 128 B wf) x (concatenate ⟨2, ![B, 3]⟩ 1 [⟨⟨2, ![B, 1]⟩, broadcastInDim ⟨2, ![B, 1]⟩ ![0] hc (select (cmpi .slt Im Z) (addi Im N1) Im)⟩,
      ⟨⟨2, ![B, 1]⟩, broadcastInDim ⟨2, ![B, 1]⟩ ![0] hc (select (cmpi .slt Iq Z) (addi Iq N2) Iq)⟩,
      ⟨⟨2, ![B, 1]⟩, broadcastInDim ⟨2, ![B, 1]⟩ ![0] hc (select (cmpi .slt Ip Z) (addi Ip N3) Ip)⟩] h) (ix1 j)
      = x (ix3 ⟨(Im (ix1 j)).toNat, hm⟩ ⟨(Iq (ix1 j)).toNat, hq⟩ ⟨(Ip (ix1 j)).toNat, hp⟩) := by
  have place : ∀ (I N : IVec ⟨1, ![B]⟩ 32), (I (ix1 j)).toNat < 256 →
      broadcastInDim ⟨2, ![B, 1]⟩ ![0] hc (select (cmpi .slt I Z) (addi I N) I) (ix2 j 0) = I (ix1 j) := fun I N hI => by
    rw [column_apply hB]
    show Scalar.select (IntOp.cmpi .slt (I (ix1 j)) (Z (ix1 j))) (IntOp.addi (I (ix1 j)) (N (ix1 j))) (I (ix1 j)) = _
    rw [hz]; exact wrap_eq _ _ (by rw [toInt_of_small (by decide) hI]; omega)
  rw [gather3_apply (by decide) (by decide) (by decide) wf]
  refine congrArg x (funext fun a => Fin.ext ?_)
  match a with
  | ⟨0, _⟩ =>
    show min (concatenate ⟨2, ![B, 3]⟩ 1 _ h (ix2 j 0)).toInt.toNat 255 = (Im (ix1 j)).toNat
    rw [three_apply _ _ _ h j 0]
    show min (broadcastInDim ⟨2, ![B, 1]⟩ ![0] hc (select (cmpi .slt Im Z) (addi Im N1) Im) (ix2 j 0)).toInt.toNat 255 = _
    rw [place Im N1 hm, toInt_of_small (by decide) hm]; omega
  | ⟨1, _⟩ =>
    show min (concatenate ⟨2, ![B, 3]⟩ 1 _ h (ix2 j 1)).toInt.toNat 127 = (Iq (ix1 j)).toNat
    rw [three_apply _ _ _ h j 1]
    show min (broadcastInDim ⟨2, ![B, 1]⟩ ![0] hc (select (cmpi .slt Iq Z) (addi Iq N2) Iq) (ix2 j 0)).toInt.toNat 127 = _
    rw [place Iq N2 (by omega), toInt_of_small (by decide) hq]; omega
  | ⟨2, _⟩ =>
    show min (concatenate ⟨2, ![B, 3]⟩ 1 _ h (ix2 j 2)).toInt.toNat 127 = (Ip (ix1 j)).toNat
    rw [three_apply _ _ _ h j 2]
    show min (broadcastInDim ⟨2, ![B, 1]⟩ ![0] hc (select (cmpi .slt Ip Z) (addi Ip N3) Ip) (ix2 j 0)).toInt.toNat 127 = _
    rw [place Ip N3 (by omega), toInt_of_small (by decide) hp]; omega

/-- The nearer place is one of the grid's. -/
theorem closer1_lt {n : ℕ} (hn : 0 < n) {hi : BitVec 32} (hhi : hi.toInt = n - 1) (c : BitVec 32) (f : (⟨1, ![n]⟩ : Shape).Idx → Ideal .f32) (v : Ideal .f32) :
    (closer1 n hn hi c f v).toNat < n := by
  unfold closer1 Scalar.select
  split
  · exact held_lt hn hhi _
  · exact held_lt hn hhi _

/-! ## The reference's searches -/

section Ref

open Cert.ReferenceIdeal Cert.ReferenceIdeal.Gen Cert.ReferenceIdeal.Value

variable (V : Valuation τ sig (Elt Ideal))

/-- The reference's argument arrays. -/
abbrev rq0 : S16384.Idx → Ideal .f32 := V (Proc.devRef .tc main_arg0)
abbrev rq1 : S16384.Idx → Ideal .f32 := V (Proc.devRef .tc main_arg1)
abbrev rq2 : S16384.Idx → Ideal .f32 := V (Proc.devRef .tc main_arg2)
abbrev rg3 : S256.Idx → Ideal .f32 := V (Proc.devRef .tc main_arg3)
abbrev rg4 : S128.Idx → Ideal .f32 := V (Proc.devRef .tc main_arg4)
abbrev rg5 : S128.Idx → Ideal .f32 := V (Proc.devRef .tc main_arg5)
abbrev rtab : S256x128x128.Idx → Ideal .f32 := V (Proc.devRef .tc main_arg6)

/-- A constant laid over the queries. -/
theorem zeros_apply (b : BitVec 32) (j : Fin 16384) : broadcastInDim S16384 ![] bcast_S_S16384 (constantI S_ 32 b) (ix1 j) = b := by
  rw [broadcastInDim_scalar_apply]; rfl

/-- A count held within the grid, at a query. -/
theorem upper_at (b : BitVec 32) (c : IVec S16384 32) (j : Fin 16384) :
    minsi (broadcastInDim S16384 ![] bcast_S_S16384 (id (constantI S_ 32 b))) (maxsi (broadcastInDim S16384 ![] bcast_S_S16384 (id (constantI S_ 32 0#32))) c) (ix1 j)
      = upper1 b (c (ix1 j)) := by
  show IntOp.minsi (broadcastInDim S16384 ![] bcast_S_S16384 (constantI S_ 32 b) (ix1 j)) (IntOp.maxsi (broadcastInDim S16384 ![] bcast_S_S16384 (constantI S_ 32 0#32) (ix1 j)) (c (ix1 j))) = _
  rw [zeros_apply, zeros_apply]; rfl

/-- A count less one held within the grid, at a query. -/
theorem lower_at (b : BitVec 32) (c : IVec S16384 32) (j : Fin 16384) :
    minsi (broadcastInDim S16384 ![] bcast_S_S16384 (id (constantI S_ 32 b))) (maxsi (broadcastInDim S16384 ![] bcast_S_S16384 (id (constantI S_ 32 0#32)))
      (subi c (broadcastInDim S16384 ![] bcast_S_S16384 (constantI S_ 32 1#32)))) (ix1 j) = lower1 b (c (ix1 j)) := by
  show IntOp.minsi (broadcastInDim S16384 ![] bcast_S_S16384 (constantI S_ 32 b) (ix1 j)) (IntOp.maxsi (broadcastInDim S16384 ![] bcast_S_S16384 (constantI S_ 32 0#32) (ix1 j))
    (IntOp.subi (c (ix1 j)) (broadcastInDim S16384 ![] bcast_S_S16384 (constantI S_ 32 1#32) (ix1 j)))) = _
  rw [zeros_apply, zeros_apply, zeros_apply]; rfl

/-- The mass flux's place at a query. -/
theorem mass_at (j : Fin 16384) : (res_main_v32 V : S16384.Idx → BitVec 32) (ix1 j)
    = closer1 256 (by decide) 255#32 ((res_main_v8 V : S16384.Idx → BitVec 32) (ix1 j)) (rg3 V) (rq0 V (ix1 j)) := by
  refine search_apply (n := 256) (B := 16384) (by decide) (by decide) (by decide) _ _ (rg3 V) (rq0 V) (res_main_v9 V) (res_main_v12 V) _ _ (by decide) j (zeros_apply 0#32 j) ?_ ?_
  · exact upper_at 255#32 (res_main_v8 V) j
  · exact lower_at 255#32 (res_main_v8 V) j

/-- The quality's place at a query. -/
theorem quality_at (j : Fin 16384) : (res_main_v63 V : S16384.Idx → BitVec 32) (ix1 j)
    = closer1 128 (by decide) 127#32 ((res_main_v39 V : S16384.Idx → BitVec 32) (ix1 j)) (rg4 V) (rq1 V (ix1 j)) := by
  refine search_apply (n := 128) (B := 16384) (by decide) (by decide) (by decide) _ _ (rg4 V) (rq1 V) (res_main_v40 V) (res_main_v43 V) _ _ (by decide) j (zeros_apply 0#32 j) ?_ ?_
  · exact upper_at 127#32 (res_main_v39 V) j
  · exact lower_at 127#32 (res_main_v39 V) j

/-- The scaled pressure's place at a query. -/
theorem pressure_at (j : Fin 16384) : (res_main_v94 V : S16384.Idx → BitVec 32) (ix1 j)
    = closer1 128 (by decide) 127#32 ((res_main_v70 V : S16384.Idx → BitVec 32) (ix1 j)) (rg5 V) ((res_main_v1 V : S16384.Idx → Ideal .f32) (ix1 j)) := by
  refine search_apply (n := 128) (B := 16384) (by decide) (by decide) (by decide) _ _ (rg5 V) (res_main_v1 V) (res_main_v71 V) (res_main_v74 V) _ _ (by decide) j (zeros_apply 0#32 j) ?_ ?_
  · exact upper_at 127#32 (res_main_v70 V) j
  · exact lower_at 127#32 (res_main_v70 V) j

/-- The scaled pressure at a query. -/
theorem scaled_at (j : Fin 16384) : (res_main_v1 V : S16384.Idx → Ideal .f32) (ix1 j) = FloatOps.mulf (rq2 V (ix1 j)) (Scalar.ofBits .f32 0x49742400#32) := by
  show FloatOps.mulf (rq2 V (ix1 j)) (broadcastInDim S16384 ![] bcast_S_S16384 (constant (F := Ideal) S_ .f32 0x49742400#32) (ix1 j)) = _
  rw [broadcastInDim_scalar_apply]; rfl

/-- What the reference returns. -/
def refOut : S16384.Idx → Ideal .f32 :=
  Host.divf (Host.gather gather_S256x128x128_S16384x3_S16384_n_012_n_n_012_1_111 (V (Proc.devRef .tc main_arg6)) ((concatenate S16384x3 1 [⟨S16384x1, ((broadcastInDim S16384x1 ![0] bcast_S16384_S16384x1_0 (select (cmpi .slt (res_main_v32 V) (broadcastInDim S16384 ![] bcast_S_S16384 (constantI S_ 32 0#32))) (addi (res_main_v32 V) (broadcastInDim S16384 ![] bcast_S_S16384 (constantI S_ 32 256#32))) (res_main_v32 V))) : (⟨S16384x1, .i32⟩ : BufTy).Contents (Elt Ideal))⟩, ⟨S16384x1, ((broadcastInDim S16384x1 ![0] bcast_S16384_S16384x1_0 (select (cmpi .slt (res_main_v63 V) (broadcastInDim S16384 ![] bcast_S_S16384 (constantI S_ 32 0#32))) (addi (res_main_v63 V) (broadcastInDim S16384 ![] bcast_S_S16384 (constantI S_ 32 128#32))) (res_main_v63 V))) : (⟨S16384x1, .i32⟩ : BufTy).Contents (Elt Ideal))⟩, ⟨S16384x1, ((broadcastInDim S16384x1 ![0] bcast_S16384_S16384x1_0 (select (cmpi .slt (res_main_v94 V) (broadcastInDim S16384 ![] bcast_S_S16384 (constantI S_ 32 0#32))) (addi (res_main_v94 V) (broadcastInDim S16384 ![] bcast_S_S16384 (constantI S_ 32 128#32))) (res_main_v94 V))) : (⟨S16384x1, .i32⟩ : BufTy).Contents (Elt Ideal))⟩] concatenates_S16384x1_S16384x1_S16384x1_S16384x3_d1 : (⟨S16384x3, .i32⟩ : BufTy).Contents (Elt Ideal)))) (broadcastInDim S16384 ![] bcast_S_S16384 (constant S_ .f32 0x49742400#32))

/-- Under the precondition the reference's result at each query is the kernel's. -/
theorem refOut_apply [Cert.Pre_finite_near_even_grids.Facts] (h : (⟨3, ![256, 128, 128]⟩ : Shape).ShapeCasts ⟨1, ![4194304]⟩)
    (hpre : Cert.Pre_finite_near_even_grids.fn (F := Ideal) (rq0 V) (rq1 V) (rq2 V) (rg3 V) (rg4 V) (rg5 V) (rtab V) = fun _ => 1#1) (j : Fin 16384) :
    refOut V (ix1 j) = resultOf (F := Ideal) (shapeCast ⟨1, ![4194304]⟩ (rtab V) h) (rg3 V) (rg4 V) (rg5 V) (rq0 V (ix1 j)) (rq1 V (ix1 j)) (rq2 V (ix1 j)) := by
  obtain ⟨mi, hmi, emi⟩ := invM_pos
  obtain ⟨qi, hqi, eqi⟩ := invQ_pos
  obtain ⟨pi, hpi, epi⟩ := invP_pos
  obtain ⟨mo, emo⟩ := orgM_real
  obtain ⟨qo, eqo⟩ := orgQ_real
  obtain ⟨po, epo⟩ := orgP_real
  obtain ⟨sc, -, esc⟩ := scale_pos
  obtain ⟨r0, r1, r2, ⟨gm, hgm, ngm⟩, ⟨gq, hgq, ngq⟩, ⟨gp, hgp, ngp⟩⟩ := pre_read _ _ _ _ _ _ _ hmi hqi hpi emo eqo epo emi eqi epi hpre
  obtain ⟨x0, e0⟩ := r0 (ix1 j)
  obtain ⟨x1, e1⟩ := r1 (ix1 j)
  obtain ⟨x2, e2⟩ := r2 (ix1 j)
  have e2' : FloatOps.mulf (rq2 V (ix1 j)) (Scalar.ofBits .f32 0x49742400#32) = ((x2 * sc : ℝ) : EReal) := by
    rw [e2, esc]; exact (EReal.coe_mul _ _).symm
  -- the three counts
  have c0 : ((res_main_v8 V : S16384.Idx → BitVec 32) (ix1 j)).toNat = below 256 gm x0 :=
    count_toNat (B := 16384) (n := 256) (by decide) (by decide) (by decide) (by decide) _ _ _ _ _ _ (by decide) _ (rg3 V) hgm (rq0 V) j x0 e0
  have c1 : ((res_main_v39 V : S16384.Idx → BitVec 32) (ix1 j)).toNat = below 128 gq x1 :=
    count_toNat (B := 16384) (n := 128) (by decide) (by decide) (by decide) (by decide) _ _ _ _ _ _ (by decide) _ (rg4 V) hgq (rq1 V) j x1 e1
  have c2 : ((res_main_v70 V : S16384.Idx → BitVec 32) (ix1 j)).toNat = below 128 gp (x2 * sc) :=
    count_toNat (B := 16384) (n := 128) (by decide) (by decide) (by decide) (by decide) _ _ _ _ _ _ (by decide) _ (rg5 V) hgp (res_main_v1 V) j (x2 * sc) ((scaled_at V j).trans e2')
  -- the three places
  have k0 := near1_eq_closer1 (n := 256) (hi := 255#32) (by decide) (by decide) (by decide) (by decide) hmi ngm (rg3 V) hgm x0 c0
  have k1 := near1_eq_closer1 (n := 128) (hi := 127#32) (by decide) (by decide) (by decide) (by decide) hqi ngq (rg4 V) hgq x1 c1
  have k2 := near1_eq_closer1 (n := 128) (hi := 127#32) (by decide) (by decide) (by decide) (by decide) hpi ngp (rg5 V) hgp (x2 * sc) c2
  rw [← emo, ← emi, ← e0, ← mass_at] at k0
  rw [← eqo, ← eqi, ← e1, ← quality_at] at k1
  rw [← epo, ← epi, ← e2', ← scaled_at, ← pressure_at, scaled_at] at k2
  have l0 : ((res_main_v32 V : S16384.Idx → BitVec 32) (ix1 j)).toNat < 256 := by rw [mass_at]; exact closer1_lt _ (by decide) _ _ _
  have l1 : ((res_main_v63 V : S16384.Idx → BitVec 32) (ix1 j)).toNat < 128 := by rw [quality_at]; exact closer1_lt _ (by decide) _ _ _
  have l2 : ((res_main_v94 V : S16384.Idx → BitVec 32) (ix1 j)).toNat < 128 := by rw [pressure_at]; exact closer1_lt _ (by decide) _ _ _
  have ht := table_apply (B := 16384) (by decide) gather_S256x128x128_S16384x3_S16384_n_012_n_n_012_1_111.wf bcast_S16384_S16384x1_0 (rtab V) (res_main_v32 V) (res_main_v63 V) (res_main_v94 V)
    (broadcastInDim S16384 ![] bcast_S_S16384 (constantI S_ 32 0#32)) (broadcastInDim S16384 ![] bcast_S_S16384 (constantI S_ 32 256#32))
    (broadcastInDim S16384 ![] bcast_S_S16384 (constantI S_ 32 128#32)) (broadcastInDim S16384 ![] bcast_S_S16384 (constantI S_ 32 128#32))
    concatenates_S16384x1_S16384x1_S16384x1_S16384x3_d1 j (zeros_apply 0#32 j) l0 l1 l2
  unfold resultOf wordOf rowOf
  rw [k0, k1, k2, flat_apply h (rtab V) l0 l1 l2, ← ht]
  show Ideal.div _ (broadcastInDim S16384 ![] bcast_S_S16384 (constant (F := Ideal) S_ .f32 0x49742400#32) (ix1 j)) = Ideal.div _ _
  rw [broadcastInDim_scalar_apply]
  rfl

end Ref

end Cert.Lookup

end
-- ==== Proof.lean ====
/-
  The proof of the claims: the kernel runs on any arguments, at the machine's words and over the extended reals, leaving its
  arguments and its counters as they were; so does the reference; and where the queries are finite and each grid is within
  half a step of its even grid the two leave the same results over the extended reals.
-/
module

public import proofs.«01_k».proof.Defs
public import proofs.«01_k».proof.Proof.LaunchKernel
public import proofs.«01_k».proof.Proof.LaunchIdeal
public import proofs.«01_k».proof.Proof.RefAt
public import Idealize.ShloMosaic.Adequacy
public import Idealize.ShloMosaic.Init

@[expose] public section

noncomputable section

namespace Cert.Proof

open Idealize.ShloMosaic Idealize.ShloMosaic.ValueIdx Idealize.ShloMosaic.TcCoe Idealize.ShloMosaic.StableHlo Idealize.SL.Sem

/-- The kernel at the machine's words runs, its arguments and counters ending as they began. -/
theorem kernel_frame (m : (ℓ : Loc Cert.Kernel.nD Cert.Kernel.τ Cert.Kernel.sig) → Buf (Elt Bits) ℓ) (ρ : Dev Cert.Kernel.nD → PrngReg) :
    θ_run (Cert.Kernel.defs (F := Bits)) (Cert.Kernel.threads (F := Bits)) ⟨m, fun _ => 0, ρ⟩ (Cert.Kernel.Lookup.QC m) :=
  Cert.Kernel.Lookup.run_main (F := Bits) m ρ

/-- The kernel over the extended reals runs, its arguments and counters ending as they began, its results the ones named. -/
theorem ideal_frame (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (Cert.KernelIdeal.threads (F := Ideal)) ⟨m, fun _ => 0, ρ⟩ (Cert.KernelIdeal.Lookup.QC m) :=
  Cert.KernelIdeal.Lookup.run_main (F := Ideal) m ρ

open Cert.KernelIdeal in
/-- On arguments that the precondition holds of, the reference's results are the kernel's. -/
theorem results_eq [Cert.Pre_finite_near_even_grids.Facts] (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (hpre : Cert.Pre_finite_near_even_grids.fn (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) = fun _ => 1#1)
    (h0 : Cert.Lookup.rq0 (launchContents m' c) = m ((c.tc : Thread nD τ).loc main_arg0)) (h1 : Cert.Lookup.rq1 (launchContents m' c) = m ((c.tc : Thread nD τ).loc main_arg1))
    (h2 : Cert.Lookup.rq2 (launchContents m' c) = m ((c.tc : Thread nD τ).loc main_arg2)) (h3 : Cert.Lookup.rg3 (launchContents m' c) = m ((c.tc : Thread nD τ).loc main_arg3))
    (h4 : Cert.Lookup.rg4 (launchContents m' c) = m ((c.tc : Thread nD τ).loc main_arg4)) (h5 : Cert.Lookup.rg5 (launchContents m' c) = m ((c.tc : Thread nD τ).loc main_arg5))
    (h6 : Cert.Lookup.rtab (launchContents m' c) = m ((c.tc : Thread nD τ).loc main_arg6)) :
    Cert.Lookup.refOut (launchContents m' c) = Cert.KernelIdeal.Lookup.outAll m c := by
  funext i
  rw [eq_ix1 i]
  have hp : Cert.Pre_finite_near_even_grids.fn (F := Ideal) (Cert.Lookup.rq0 (launchContents m' c)) (Cert.Lookup.rq1 (launchContents m' c)) (Cert.Lookup.rq2 (launchContents m' c))
      (Cert.Lookup.rg3 (launchContents m' c)) (Cert.Lookup.rg4 (launchContents m' c)) (Cert.Lookup.rg5 (launchContents m' c)) (Cert.Lookup.rtab (launchContents m' c)) = fun _ => 1#1 := by
    rw [h0, h1, h2, h3, h4, h5, h6]; exact hpre
  refine (Cert.Lookup.refOut_apply (launchContents m' c) Cert.KernelIdeal.Gen.shapeCasts_S256x128x128_S4194304 hp (i 0)).trans ?_
  rw [h0, h1, h2, h3, h4, h5, h6]
  rfl

/-- The claims of `Defs.lean`, all of them: the frames of the kernel at the words and over the extended reals and of the
    reference, that the ideal program is the kernel's own, and that the kernel's results are the reference's. -/
theorem claim : Cert.Claim := ⟨Cert.Kernel.Gen.facts, Cert.KernelIdeal.Gen.facts, Cert.ReferenceIdeal.Gen.facts, Cert.Lookup.preFacts, by
  refine ⟨?_, ?_, ?_, ?_, ?_, trivial, ?_⟩
  · intro m ρ _
    exact (θ_run _ _ _).mono (fun r h => ⟨fun c => (h.1 c).1, h.2⟩) (kernel_frame m ρ)
  · intro m ρ _
    exact (θ_run _ _ _).mono (fun r h => ⟨fun c => (h.1 c).1, h.2⟩) (ideal_frame m ρ)
  · intro m ρ _
    exact (θ_run _ _ _).mono (fun r h => ⟨fun c => (h.1 c).1, h.2⟩) (ideal_frame m ρ)
  · intro m ρ _
    exact (θ_run _ _ _).mono (fun r h => ⟨fun c => (h c).2, Idealize.ShloMosaic.sem_eq_zero_of_no_sems (by decide) r.2⟩) (Cert.ReferenceIdeal.Value.run (F := Ideal) m ρ)
  · intro m ρ _
    exact (θ_run _ _ _).mono (fun r h => ⟨fun c => (h c).2, Idealize.ShloMosaic.sem_eq_zero_of_no_sems (by decide) r.2⟩) (Cert.ReferenceIdeal.Value.run (F := Ideal) m ρ)
  · intro m ρ m' ρ' hpre hargs
    refine ⟨fun c => Cert.KernelIdeal.Lookup.outAll m c, ?_, ?_⟩
    · exact (θ_run _ _ _).mono (fun r h c => ⟨(h.1 c).2, (h.1 c).1⟩) (ideal_frame m ρ)
    · refine (θ_run _ _ _).mono (fun r h c => ⟨(h c).1.trans ?_, (h c).2⟩) (Cert.ReferenceIdeal.Value.run (F := Ideal) m' ρ')
      obtain ⟨h0, h1, h2, h3, h4, h5, h6⟩ := hargs c
      exact @results_eq Cert.Lookup.preFacts m m' c (hpre c) h0 h1 h2 h3 h4 h5 h6⟩

end Cert.Proof

end
